-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256x300 : Shape := ⟨3, ![512, 256, 300]⟩
abbrev S48x300 : Shape := ⟨2, ![48, 300]⟩
abbrev S48x16 : Shape := ⟨2, ![48, 16]⟩
abbrev S48 : Shape := ⟨1, ![48]⟩
abbrev S192x16 : Shape := ⟨2, ![192, 16]⟩
abbrev S192x64 : Shape := ⟨2, ![192, 64]⟩
abbrev S192 : Shape := ⟨1, ![192]⟩
abbrev S32 : Shape := ⟨1, ![32]⟩
abbrev S16 : Shape := ⟨1, ![16]⟩
abbrev S64 : Shape := ⟨1, ![64]⟩
abbrev S64x1 : Shape := ⟨2, ![64, 1]⟩
abbrev S64x256 : Shape := ⟨2, ![64, 256]⟩
abbrev S544x16x256 : Shape := ⟨3, ![544, 16, 256]⟩
abbrev S16x256 : Shape := ⟨2, ![16, 256]⟩
abbrev S32x256x300 : Shape := ⟨3, ![32, 256, 300]⟩
abbrev S32x16x256 : Shape := ⟨3, ![32, 16, 256]⟩
abbrev S1x256x300 : Shape := ⟨3, ![1, 256, 300]⟩
abbrev S256x300 : Shape := ⟨2, ![256, 300]⟩
abbrev S48x256 : Shape := ⟨2, ![48, 256]⟩
abbrev S1x16x256 : Shape := ⟨3, ![1, 16, 256]⟩
abbrev S128 : Shape := ⟨1, ![128]⟩
abbrev S256 : Shape := ⟨1, ![256]⟩
abbrev S256x1 : Shape := ⟨2, ![256, 1]⟩
abbrev S256x256 : Shape := ⟨2, ![256, 256]⟩
abbrev S128x256 : Shape := ⟨2, ![128, 256]⟩
abbrev S16x16x256 : Shape := ⟨3, ![16, 16, 256]⟩
abbrev S192x256 : Shape := ⟨2, ![192, 256]⟩
abbrev S256x128 : Shape := ⟨2, ![256, 128]⟩

abbrev nBuf : Space → Nat
  | .hbm => 104
  | .vmem => 37
  | .smem => 0
  | _ => 0

abbrev bufTy : (tb : Table) → Fin (tcTables nBuf tb) → BufTy
  | .hbm, ⟨0, _⟩ => ⟨S512x256x300, .f32⟩
  | .hbm, ⟨1, _⟩ => ⟨S48x300, .f32⟩
  | .hbm, ⟨2, _⟩ => ⟨S48x16, .f32⟩
  | .hbm, ⟨3, _⟩ => ⟨S48, .f32⟩
  | .hbm, ⟨4, _⟩ => ⟨S48, .f32⟩
  | .hbm, ⟨5, _⟩ => ⟨S48x16, .f32⟩
  | .hbm, ⟨6, _⟩ => ⟨S48x16, .f32⟩
  | .hbm, ⟨7, _⟩ => ⟨S48, .f32⟩
  | .hbm, ⟨8, _⟩ => ⟨S48, .f32⟩
  | .hbm, ⟨9, _⟩ => ⟨S48x16, .f32⟩
  | .hbm, ⟨10, _⟩ => ⟨S48x16, .f32⟩
  | .hbm, ⟨11, _⟩ => ⟨S48, .f32⟩
  | .hbm, ⟨12, _⟩ => ⟨S48, .f32⟩
  | .hbm, ⟨13, _⟩ => ⟨S48x16, .f32⟩
  | .hbm, ⟨14, _⟩ => ⟨S48x16, .f32⟩
  | .hbm, ⟨15, _⟩ => ⟨S48, .f32⟩
  | .hbm, ⟨16, _⟩ => ⟨S48, .f32⟩
  | .hbm, ⟨17, _⟩ => ⟨S192x16, .f32⟩
  | .hbm, ⟨18, _⟩ => ⟨S192x64, .f32⟩
  | .hbm, ⟨19, _⟩ => ⟨S192, .f32⟩
  | .hbm, ⟨20, _⟩ => ⟨S192, .f32⟩
  | .hbm, ⟨21, _⟩ => ⟨S192x64, .f32⟩
  | .hbm, ⟨22, _⟩ => ⟨S192x64, .f32⟩
  | .hbm, ⟨23, _⟩ => ⟨S192, .f32⟩
  | .hbm, ⟨24, _⟩ => ⟨S192, .f32⟩
  | .hbm, ⟨25, _⟩ => ⟨S192x64, .f32⟩
  | .hbm, ⟨26, _⟩ => ⟨S192x64, .f32⟩
  | .hbm, ⟨27, _⟩ => ⟨S192, .f32⟩
  | .hbm, ⟨28, _⟩ => ⟨S192, .f32⟩
  | .hbm, ⟨29, _⟩ => ⟨S48x300, .bf16⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S16, .f32⟩
  | .hbm, ⟨34, _⟩ => ⟨S16, .f32⟩
  | .hbm, ⟨35, _⟩ => ⟨S64, .f32⟩
  | .hbm, ⟨36, _⟩ => ⟨S64x1, .f32⟩
  | .hbm, ⟨37, _⟩ => ⟨S64x256, .f32⟩
  | .hbm, ⟨38, _⟩ => ⟨S48x16, .bf16⟩
  | .hbm, ⟨39, _⟩ => ⟨S48x16, .bf16⟩
  | .hbm, ⟨40, _⟩ => ⟨S32, .f32⟩
  | .hbm, ⟨41, _⟩ => ⟨S32, .f32⟩
  | .hbm, ⟨42, _⟩ => ⟨S32, .f32⟩
  | .hbm, ⟨43, _⟩ => ⟨S16, .f32⟩
  | .hbm, ⟨44, _⟩ => ⟨S16, .f32⟩
  | .hbm, ⟨45, _⟩ => ⟨S64, .f32⟩
  | .hbm, ⟨46, _⟩ => ⟨S64x1, .f32⟩
  | .hbm, ⟨47, _⟩ => ⟨S64x256, .f32⟩
  | .hbm, ⟨48, _⟩ => ⟨S48x16, .bf16⟩
  | .hbm, ⟨49, _⟩ => ⟨S544x16x256, .bf16⟩
  | .hbm, ⟨50, _⟩ => ⟨S16x256, .f32⟩
  | .hbm, ⟨51, _⟩ => ⟨S16x256, .f32⟩
  | .hbm, ⟨52, _⟩ => ⟨S48x16, .bf16⟩
  | .hbm, ⟨53, _⟩ => ⟨S32, .f32⟩
  | .hbm, ⟨54, _⟩ => ⟨S32, .f32⟩
  | .hbm, ⟨55, _⟩ => ⟨S32, .f32⟩
  | .hbm, ⟨56, _⟩ => ⟨S16, .f32⟩
  | .hbm, ⟨57, _⟩ => ⟨S16, .f32⟩
  | .hbm, ⟨58, _⟩ => ⟨S64, .f32⟩
  | .hbm, ⟨59, _⟩ => ⟨S64x1, .f32⟩
  | .hbm, ⟨60, _⟩ => ⟨S64x256, .f32⟩
  | .hbm, ⟨61, _⟩ => ⟨S48x16, .bf16⟩
  | .hbm, ⟨62, _⟩ => ⟨S48x16, .bf16⟩
  | .hbm, ⟨63, _⟩ => ⟨S32, .f32⟩
  | .hbm, ⟨64, _⟩ => ⟨S32, .f32⟩
  | .hbm, ⟨65, _⟩ => ⟨S32, .f32⟩
  | .hbm, ⟨66, _⟩ => ⟨S16, .f32⟩
  | .hbm, ⟨67, _⟩ => ⟨S16, .f32⟩
  | .hbm, ⟨68, _⟩ => ⟨S64, .f32⟩
  | .hbm, ⟨69, _⟩ => ⟨S64x1, .f32⟩
  | .hbm, ⟨70, _⟩ => ⟨S64x256, .f32⟩
  | .hbm, ⟨71, _⟩ => ⟨S48x16, .bf16⟩
  | .hbm, ⟨72, _⟩ => ⟨S192x16, .bf16⟩
  | .hbm, ⟨73, _⟩ => ⟨S128, .f32⟩
  | .hbm, ⟨74, _⟩ => ⟨S128, .f32⟩
  | .hbm, ⟨75, _⟩ => ⟨S128, .f32⟩
  | .hbm, ⟨76, _⟩ => ⟨S64, .f32⟩
  | .hbm, ⟨77, _⟩ => ⟨S64, .f32⟩
  | .hbm, ⟨78, _⟩ => ⟨S256, .f32⟩
  | .hbm, ⟨79, _⟩ => ⟨S256x1, .f32⟩
  | .hbm, ⟨80, _⟩ => ⟨S256x256, .f32⟩
  | .hbm, ⟨81, _⟩ => ⟨S192x64, .bf16⟩
  | .hbm, ⟨82, _⟩ => ⟨S192x64, .bf16⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S64, .f32⟩
  | .hbm, ⟨87, _⟩ => ⟨S64, .f32⟩
  | .hbm, ⟨88, _⟩ => ⟨S256, .f32⟩
  | .hbm, ⟨89, _⟩ => ⟨S256x1, .f32⟩
  | .hbm, ⟨90, _⟩ => ⟨S256x256, .f32⟩
  | .hbm, ⟨91, _⟩ => ⟨S192x64, .bf16⟩
  | .hbm, ⟨92, _⟩ => ⟨S192x64, .bf16⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S64, .f32⟩
  | .hbm, ⟨97, _⟩ => ⟨S64, .f32⟩
  | .hbm, ⟨98, _⟩ => ⟨S256, .f32⟩
  | .hbm, ⟨99, _⟩ => ⟨S256x1, .f32⟩
  | .hbm, ⟨100, _⟩ => ⟨S256x256, .f32⟩
  | .hbm, ⟨101, _⟩ => ⟨S192x64, .bf16⟩
  | .hbm, ⟨102, _⟩ => ⟨S128x256, .f32⟩
  | .hbm, ⟨103, _⟩ => ⟨S256x128, .f32⟩
  | .local _ .vmem, ⟨0, _⟩ => ⟨S32x256x300, .f32⟩
  | .local _ .vmem, ⟨1, _⟩ => ⟨S32x256x300, .f32⟩
  | .local _ .vmem, ⟨2, _⟩ => ⟨S48x300, .bf16⟩
  | .local _ .vmem, ⟨3, _⟩ => ⟨S64x256, .f32⟩
  | .local _ .vmem, ⟨4, _⟩ => ⟨S48x16, .bf16⟩
  | .local _ .vmem, ⟨5, _⟩ => ⟨S48x16, .bf16⟩
  | .local _ .vmem, ⟨6, _⟩ => ⟨S64x256, .f32⟩
  | .local _ .vmem, ⟨7, _⟩ => ⟨S48x16, .bf16⟩
  | .local _ .vmem, ⟨8, _⟩ => ⟨S32x16x256, .bf16⟩
  | .local _ .vmem, ⟨9, _⟩ => ⟨S32x16x256, .bf16⟩
  | .local _ .vmem, ⟨10, _⟩ => ⟨S16x256, .f32⟩
  | .local _ .vmem, ⟨11, _⟩ => ⟨S16x256, .f32⟩
  | .local _ .vmem, ⟨12, _⟩ => ⟨S16x16x256, .bf16⟩
  | .local _ .vmem, ⟨13, _⟩ => ⟨S16x16x256, .bf16⟩
  | .local _ .vmem, ⟨14, _⟩ => ⟨S16x256, .f32⟩
  | .local _ .vmem, ⟨15, _⟩ => ⟨S16x256, .f32⟩
  | .local _ .vmem, ⟨16, _⟩ => ⟨S48x16, .bf16⟩
  | .local _ .vmem, ⟨17, _⟩ => ⟨S64x256, .f32⟩
  | .local _ .vmem, ⟨18, _⟩ => ⟨S48x16, .bf16⟩
  | .local _ .vmem, ⟨19, _⟩ => ⟨S48x16, .bf16⟩
  | .local _ .vmem, ⟨20, _⟩ => ⟨S64x256, .f32⟩
  | .local _ .vmem, ⟨21, _⟩ => ⟨S48x16, .bf16⟩
  | .local _ .vmem, ⟨22, _⟩ => ⟨S192x16, .bf16⟩
  | .local _ .vmem, ⟨23, _⟩ => ⟨S256x256, .f32⟩
  | .local _ .vmem, ⟨24, _⟩ => ⟨S192x64, .bf16⟩
  | .local _ .vmem, ⟨25, _⟩ => ⟨S192x64, .bf16⟩
  | .local _ .vmem, ⟨26, _⟩ => ⟨S256x256, .f32⟩
  | .local _ .vmem, ⟨27, _⟩ => ⟨S192x64, .bf16⟩
  | .local _ .vmem, ⟨28, _⟩ => ⟨S192x64, .bf16⟩
  | .local _ .vmem, ⟨29, _⟩ => ⟨S256x256, .f32⟩
  | .local _ .vmem, ⟨30, _⟩ => ⟨S192x64, .bf16⟩
  | .local _ .vmem, ⟨31, _⟩ => ⟨S128x256, .f32⟩
  | .local _ .vmem, ⟨32, _⟩ => ⟨S16x256, .f32⟩
  | .local _ .vmem, ⟨33, _⟩ => ⟨S16x256, .f32⟩
  | .local _ .vmem, ⟨34, _⟩ => ⟨S64x256, .f32⟩
  | .local _ .vmem, ⟨35, _⟩ => ⟨S64x256, .f32⟩
  | .local _ .vmem, ⟨36, _⟩ => ⟨S64x256, .f32⟩
  | _, _ => ⟨S512x256x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20_0 : Ref sig .tc := ⟨.hbm, 49, rfl⟩
abbrev main_v20_1 : Ref sig .tc := ⟨.hbm, 50, rfl⟩
abbrev main_v20_2 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg14_0 : Ref sig .tc := ⟨.vmem, 27, rfl⟩
abbrev cc1_stg15_0 : Ref sig .tc := ⟨.vmem, 28, rfl⟩
abbrev cc1_stg16_0 : Ref sig .tc := ⟨.vmem, 29, rfl⟩
abbrev cc1_stg17_0 : Ref sig .tc := ⟨.vmem, 30, rfl⟩
abbrev cc1_stg18_0 : Ref sig .tc := ⟨.vmem, 31, rfl⟩
abbrev cc1_scratch0 : Ref sig .tc := ⟨.vmem, 32, rfl⟩
abbrev cc1_scratch1 : Ref sig .tc := ⟨.vmem, 33, rfl⟩
abbrev cc1_scratch2 : Ref sig .tc := ⟨.vmem, 34, rfl⟩
abbrev cc1_scratch3 : Ref sig .tc := ⟨.vmem, 35, rfl⟩
abbrev cc1_scratch4 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem15_0 : DmaSem sig := 28
abbrev cc1_sem16_0 : DmaSem sig := 29
abbrev cc1_sem17_0 : DmaSem sig := 30
abbrev cc1_sem18_0 : DmaSem sig := 31

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c16_i32 : BitVec 32 := 16#32
  let v4 : BitVec 1 := Scalar.cmpi .slt arg0 c16_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c16_i32_3 : BitVec 32 := 16#32
  let v8 : BitVec 1 := Scalar.cmpi .eq arg0 c16_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x256x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x300 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S48x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![33], ![false]⟩

def k1_cond3 (i : grid1.Coords) : BitVec 1 :=
  let arg0 : BitVec 32 := BitVec.ofNat 32 (i 0).val
  let c32_i32_3 : BitVec 32 := 32#32
  let v8 : BitVec 1 := Scalar.cmpi .eq arg0 c32_i32_3
  let v9 : BitVec 32 := Scalar.extui v8
  let c0_i32_4 : BitVec 32 := 0#32
  let v10 : BitVec 1 := Scalar.cmpi .ne v9 c0_i32_4
  v10

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x16x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S48x16 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S48x16 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S48x16 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S48x16 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S192x16 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S192x64 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S192x64 .bf16 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S256x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S192x64 .bf16 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S192x64 .bf16 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S256x256 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 1 → Memref sig .tc .vmem S192x64 .bf16 := fun | 0 => Memref.whole cc1_stg17_0 | ⟨_ + 1, h⟩ => absurd h (Nat.not_lt.2 (Nat.le_add_left _ _))
abbrev sem1_17 : Fin 1 → DmaSem sig := fun | 0 => cc1_sem17_0 | ⟨_ + 1, h⟩ => absurd h (Nat.not_lt.2 (Nat.le_add_left _ _))
abbrev reads1_17 : Fin grid1.rank → Bool := ![false]

abbrev stage1_18 : Fin 1 → Memref sig .tc .vmem S128x256 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]
-- ==== ReferenceIdeal.lean ====
abbrev S512x256x300 : Shape := ⟨3, ![512, 256, 300]⟩
abbrev S48x300 : Shape := ⟨2, ![48, 300]⟩
abbrev S48x16 : Shape := ⟨2, ![48, 16]⟩
abbrev S48 : Shape := ⟨1, ![48]⟩
abbrev S192x16 : Shape := ⟨2, ![192, 16]⟩
abbrev S192x64 : Shape := ⟨2, ![192, 64]⟩
abbrev S192 : Shape := ⟨1, ![192]⟩
abbrev S_ : Shape := ⟨0, ![]⟩
abbrev S256x16 : Shape := ⟨2, ![256, 16]⟩
abbrev S256x64 : Shape := ⟨2, ![256, 64]⟩
abbrev S512x256x48 : Shape := ⟨3, ![512, 256, 48]⟩
abbrev S1x1x48 : Shape := ⟨3, ![1, 1, 48]⟩
abbrev S512x256x16 : Shape := ⟨3, ![512, 256, 16]⟩
abbrev S1x256x48 : Shape := ⟨3, ![1, 256, 48]⟩
abbrev S256x48 : Shape := ⟨2, ![256, 48]⟩
abbrev S16x48 : Shape := ⟨2, ![16, 48]⟩
abbrev S1x48 : Shape := ⟨2, ![1, 48]⟩
abbrev S1x256x16 : Shape := ⟨3, ![1, 256, 16]⟩
abbrev S512x256x192 : Shape := ⟨3, ![512, 256, 192]⟩
abbrev S1x1x192 : Shape := ⟨3, ![1, 1, 192]⟩
abbrev S512x256x64 : Shape := ⟨3, ![512, 256, 64]⟩
abbrev S1x256x192 : Shape := ⟨3, ![1, 256, 192]⟩
abbrev S256x192 : Shape := ⟨2, ![256, 192]⟩
abbrev S64x192 : Shape := ⟨2, ![64, 192]⟩
abbrev S1x192 : Shape := ⟨2, ![1, 192]⟩
abbrev S1x256x64 : Shape := ⟨3, ![1, 256, 64]⟩
abbrev S256x128 : Shape := ⟨2, ![256, 128]⟩

abbrev nBuf : Space → Nat
  | .hbm => 475
  | .vmem => 0
  | .smem => 0
  | _ => 0

abbrev hbmTy0_0 (i : Nat) : BufTy := match i % 128 with
  | 0 => ⟨S512x256x300, .f32⟩
  | 1 => ⟨S48x300, .f32⟩
  | 2 => ⟨S48x16, .f32⟩
  | 3 => ⟨S48, .f32⟩
  | 4 => ⟨S48, .f32⟩
  | 5 => ⟨S48x16, .f32⟩
  | 6 => ⟨S48x16, .f32⟩
  | 7 => ⟨S48, .f32⟩
  | 8 => ⟨S48, .f32⟩
  | 9 => ⟨S48x16, .f32⟩
  | 10 => ⟨S48x16, .f32⟩
  | 11 => ⟨S48, .f32⟩
  | 12 => ⟨S48, .f32⟩
  | 13 => ⟨S48x16, .f32⟩
  | 14 => ⟨S48x16, .f32⟩
  | 15 => ⟨S48, .f32⟩
  | 16 => ⟨S48, .f32⟩
  | 17 => ⟨S192x16, .f32⟩
  | 18 => ⟨S192x64, .f32⟩
  | 19 => ⟨S192, .f32⟩
  | 20 => ⟨S192, .f32⟩
  | 21 => ⟨S192x64, .f32⟩
  | 22 => ⟨S192x64, .f32⟩
  | 23 => ⟨S192, .f32⟩
  | 24 => ⟨S192, .f32⟩
  | 25 => ⟨S192x64, .f32⟩
  | 26 => ⟨S192x64, .f32⟩
  | 27 => ⟨S192, .f32⟩
  | 28 => ⟨S192, .f32⟩
  | 29 => ⟨S_, .f32⟩
  | 30 => ⟨S256x16, .f32⟩
  | 31 => ⟨S_, .f32⟩
  | 32 => ⟨S256x64, .f32⟩
  | 33 => ⟨S512x256x48, .f32⟩
  | 34 => ⟨S1x1x48, .f32⟩
  | 35 => ⟨S512x256x48, .f32⟩
  | 36 => ⟨S512x256x48, .f32⟩
  | 37 => ⟨S_, .f32⟩
  | 38 => ⟨S512x256x16, .f32⟩
  | 39 => ⟨S_, .i32⟩
  | 40 => ⟨S512x256x48, .f32⟩
  | 41 => ⟨S48x16, .f32⟩
  | 42 => ⟨S48, .f32⟩
  | 43 => ⟨S_, .i32⟩
  | 44 => ⟨S256x16, .f32⟩
  | 45 => ⟨S512x256x16, .f32⟩
  | 46 => ⟨S_, .i32⟩
  | 47 => ⟨S_, .i1⟩
  | 48 => ⟨S_, .i32⟩
  | 49 => ⟨S_, .i32⟩
  | 50 => ⟨S1x256x48, .f32⟩
  | 51 => ⟨S256x48, .f32⟩
  | 52 => ⟨S16x48, .f32⟩
  | 53 => ⟨S256x48, .f32⟩
  | 54 => ⟨S1x48, .f32⟩
  | 55 => ⟨S256x48, .f32⟩
  | 56 => ⟨S256x48, .f32⟩
  | 57 => ⟨S256x16, .f32⟩
  | 58 => ⟨S256x16, .f32⟩
  | 59 => ⟨S256x16, .f32⟩
  | 60 => ⟨S256x16, .f32⟩
  | 61 => ⟨S256x16, .f32⟩
  | 62 => ⟨S256x16, .f32⟩
  | 63 => ⟨S256x16, .f32⟩
  | 64 => ⟨S256x16, .f32⟩
  | 65 => ⟨S256x16, .f32⟩
  | 66 => ⟨S_, .f32⟩
  | 67 => ⟨S256x16, .f32⟩
  | 68 => ⟨S256x16, .f32⟩
  | 69 => ⟨S_, .f32⟩
  | 70 => ⟨S256x16, .f32⟩
  | 71 => ⟨S256x16, .f32⟩
  | 72 => ⟨S256x16, .f32⟩
  | 73 => ⟨S256x16, .f32⟩
  | 74 => ⟨S256x16, .f32⟩
  | 75 => ⟨S_, .f32⟩
  | 76 => ⟨S256x16, .f32⟩
  | 77 => ⟨S256x16, .f32⟩
  | 78 => ⟨S_, .f32⟩
  | 79 => ⟨S256x16, .f32⟩
  | 80 => ⟨S256x16, .f32⟩
  | 81 => ⟨S256x16, .f32⟩
  | 82 => ⟨S256x16, .f32⟩
  | 83 => ⟨S256x16, .f32⟩
  | 84 => ⟨S_, .f32⟩
  | 85 => ⟨S256x16, .f32⟩
  | 86 => ⟨S256x16, .f32⟩
  | 87 => ⟨S256x16, .f32⟩
  | 88 => ⟨S256x16, .f32⟩
  | 89 => ⟨S256x16, .f32⟩
  | 90 => ⟨S1x256x16, .f32⟩
  | 91 => ⟨S_, .i32⟩
  | 92 => ⟨S_, .i32⟩
  | 93 => ⟨S512x256x16, .f32⟩
  | 94 => ⟨S_, .i32⟩
  | 95 => ⟨S_, .i32⟩
  | 96 => ⟨S512x256x48, .f32⟩
  | 97 => ⟨S1x1x48, .f32⟩
  | 98 => ⟨S512x256x48, .f32⟩
  | 99 => ⟨S512x256x48, .f32⟩
  | 100 => ⟨S_, .f32⟩
  | 101 => ⟨S512x256x16, .f32⟩
  | 102 => ⟨S_, .i32⟩
  | 103 => ⟨S512x256x48, .f32⟩
  | 104 => ⟨S48x16, .f32⟩
  | 105 => ⟨S48, .f32⟩
  | 106 => ⟨S_, .i32⟩
  | 107 => ⟨S256x16, .f32⟩
  | 108 => ⟨S512x256x16, .f32⟩
  | 109 => ⟨S_, .i32⟩
  | 110 => ⟨S_, .i1⟩
  | 111 => ⟨S_, .i32⟩
  | 112 => ⟨S_, .i32⟩
  | 113 => ⟨S1x256x48, .f32⟩
  | 114 => ⟨S256x48, .f32⟩
  | 115 => ⟨S16x48, .f32⟩
  | 116 => ⟨S256x48, .f32⟩
  | 117 => ⟨S1x48, .f32⟩
  | 118 => ⟨S256x48, .f32⟩
  | 119 => ⟨S256x48, .f32⟩
  | 120 => ⟨S256x16, .f32⟩
  | 121 => ⟨S256x16, .f32⟩
  | 122 => ⟨S256x16, .f32⟩
  | 123 => ⟨S256x16, .f32⟩
  | 124 => ⟨S256x16, .f32⟩
  | 125 => ⟨S256x16, .f32⟩
  | 126 => ⟨S256x16, .f32⟩
  | 127 => ⟨S256x16, .f32⟩
  | _ => ⟨S512x256x300, .f32⟩

abbrev hbmTy0_1 (i : Nat) : BufTy := match i % 128 with
  | 0 => ⟨S256x16, .f32⟩
  | 1 => ⟨S_, .f32⟩
  | 2 => ⟨S256x16, .f32⟩
  | 3 => ⟨S256x16, .f32⟩
  | 4 => ⟨S_, .f32⟩
  | 5 => ⟨S256x16, .f32⟩
  | 6 => ⟨S256x16, .f32⟩
  | 7 => ⟨S256x16, .f32⟩
  | 8 => ⟨S256x16, .f32⟩
  | 9 => ⟨S256x16, .f32⟩
  | 10 => ⟨S_, .f32⟩
  | 11 => ⟨S256x16, .f32⟩
  | 12 => ⟨S256x16, .f32⟩
  | 13 => ⟨S_, .f32⟩
  | 14 => ⟨S256x16, .f32⟩
  | 15 => ⟨S256x16, .f32⟩
  | 16 => ⟨S256x16, .f32⟩
  | 17 => ⟨S256x16, .f32⟩
  | 18 => ⟨S256x16, .f32⟩
  | 19 => ⟨S_, .f32⟩
  | 20 => ⟨S256x16, .f32⟩
  | 21 => ⟨S256x16, .f32⟩
  | 22 => ⟨S256x16, .f32⟩
  | 23 => ⟨S256x16, .f32⟩
  | 24 => ⟨S256x16, .f32⟩
  | 25 => ⟨S1x256x16, .f32⟩
  | 26 => ⟨S_, .i32⟩
  | 27 => ⟨S_, .i32⟩
  | 28 => ⟨S512x256x16, .f32⟩
  | 29 => ⟨S_, .i32⟩
  | 30 => ⟨S_, .i32⟩
  | 31 => ⟨S512x256x48, .f32⟩
  | 32 => ⟨S1x1x48, .f32⟩
  | 33 => ⟨S512x256x48, .f32⟩
  | 34 => ⟨S512x256x48, .f32⟩
  | 35 => ⟨S_, .f32⟩
  | 36 => ⟨S512x256x16, .f32⟩
  | 37 => ⟨S_, .i32⟩
  | 38 => ⟨S512x256x48, .f32⟩
  | 39 => ⟨S48x16, .f32⟩
  | 40 => ⟨S48, .f32⟩
  | 41 => ⟨S_, .i32⟩
  | 42 => ⟨S256x16, .f32⟩
  | 43 => ⟨S512x256x16, .f32⟩
  | 44 => ⟨S_, .i32⟩
  | 45 => ⟨S_, .i1⟩
  | 46 => ⟨S_, .i32⟩
  | 47 => ⟨S_, .i32⟩
  | 48 => ⟨S1x256x48, .f32⟩
  | 49 => ⟨S256x48, .f32⟩
  | 50 => ⟨S16x48, .f32⟩
  | 51 => ⟨S256x48, .f32⟩
  | 52 => ⟨S1x48, .f32⟩
  | 53 => ⟨S256x48, .f32⟩
  | 54 => ⟨S256x48, .f32⟩
  | 55 => ⟨S256x16, .f32⟩
  | 56 => ⟨S256x16, .f32⟩
  | 57 => ⟨S256x16, .f32⟩
  | 58 => ⟨S256x16, .f32⟩
  | 59 => ⟨S256x16, .f32⟩
  | 60 => ⟨S256x16, .f32⟩
  | 61 => ⟨S256x16, .f32⟩
  | 62 => ⟨S256x16, .f32⟩
  | 63 => ⟨S256x16, .f32⟩
  | 64 => ⟨S_, .f32⟩
  | 65 => ⟨S256x16, .f32⟩
  | 66 => ⟨S256x16, .f32⟩
  | 67 => ⟨S_, .f32⟩
  | 68 => ⟨S256x16, .f32⟩
  | 69 => ⟨S256x16, .f32⟩
  | 70 => ⟨S256x16, .f32⟩
  | 71 => ⟨S256x16, .f32⟩
  | 72 => ⟨S256x16, .f32⟩
  | 73 => ⟨S_, .f32⟩
  | 74 => ⟨S256x16, .f32⟩
  | 75 => ⟨S256x16, .f32⟩
  | 76 => ⟨S_, .f32⟩
  | 77 => ⟨S256x16, .f32⟩
  | 78 => ⟨S256x16, .f32⟩
  | 79 => ⟨S256x16, .f32⟩
  | 80 => ⟨S256x16, .f32⟩
  | 81 => ⟨S256x16, .f32⟩
  | 82 => ⟨S_, .f32⟩
  | 83 => ⟨S256x16, .f32⟩
  | 84 => ⟨S256x16, .f32⟩
  | 85 => ⟨S256x16, .f32⟩
  | 86 => ⟨S256x16, .f32⟩
  | 87 => ⟨S256x16, .f32⟩
  | 88 => ⟨S1x256x16, .f32⟩
  | 89 => ⟨S_, .i32⟩
  | 90 => ⟨S_, .i32⟩
  | 91 => ⟨S512x256x16, .f32⟩
  | 92 => ⟨S_, .i32⟩
  | 93 => ⟨S_, .i32⟩
  | 94 => ⟨S512x256x48, .f32⟩
  | 95 => ⟨S1x1x48, .f32⟩
  | 96 => ⟨S512x256x48, .f32⟩
  | 97 => ⟨S512x256x48, .f32⟩
  | 98 => ⟨S_, .f32⟩
  | 99 => ⟨S512x256x16, .f32⟩
  | 100 => ⟨S_, .i32⟩
  | 101 => ⟨S512x256x48, .f32⟩
  | 102 => ⟨S48x16, .f32⟩
  | 103 => ⟨S48, .f32⟩
  | 104 => ⟨S_, .i32⟩
  | 105 => ⟨S256x16, .f32⟩
  | 106 => ⟨S512x256x16, .f32⟩
  | 107 => ⟨S_, .i32⟩
  | 108 => ⟨S_, .i1⟩
  | 109 => ⟨S_, .i32⟩
  | 110 => ⟨S_, .i32⟩
  | 111 => ⟨S1x256x48, .f32⟩
  | 112 => ⟨S256x48, .f32⟩
  | 113 => ⟨S16x48, .f32⟩
  | 114 => ⟨S256x48, .f32⟩
  | 115 => ⟨S1x48, .f32⟩
  | 116 => ⟨S256x48, .f32⟩
  | 117 => ⟨S256x48, .f32⟩
  | 118 => ⟨S256x16, .f32⟩
  | 119 => ⟨S256x16, .f32⟩
  | 120 => ⟨S256x16, .f32⟩
  | 121 => ⟨S256x16, .f32⟩
  | 122 => ⟨S256x16, .f32⟩
  | 123 => ⟨S256x16, .f32⟩
  | 124 => ⟨S256x16, .f32⟩
  | 125 => ⟨S256x16, .f32⟩
  | 126 => ⟨S256x16, .f32⟩
  | 127 => ⟨S_, .f32⟩
  | _ => ⟨S512x256x300, .f32⟩

abbrev hbmTy0_2 (i : Nat) : BufTy := match i % 128 with
  | 0 => ⟨S256x16, .f32⟩
  | 1 => ⟨S256x16, .f32⟩
  | 2 => ⟨S_, .f32⟩
  | 3 => ⟨S256x16, .f32⟩
  | 4 => ⟨S256x16, .f32⟩
  | 5 => ⟨S256x16, .f32⟩
  | 6 => ⟨S256x16, .f32⟩
  | 7 => ⟨S256x16, .f32⟩
  | 8 => ⟨S_, .f32⟩
  | 9 => ⟨S256x16, .f32⟩
  | 10 => ⟨S256x16, .f32⟩
  | 11 => ⟨S_, .f32⟩
  | 12 => ⟨S256x16, .f32⟩
  | 13 => ⟨S256x16, .f32⟩
  | 14 => ⟨S256x16, .f32⟩
  | 15 => ⟨S256x16, .f32⟩
  | 16 => ⟨S256x16, .f32⟩
  | 17 => ⟨S_, .f32⟩
  | 18 => ⟨S256x16, .f32⟩
  | 19 => ⟨S256x16, .f32⟩
  | 20 => ⟨S256x16, .f32⟩
  | 21 => ⟨S256x16, .f32⟩
  | 22 => ⟨S256x16, .f32⟩
  | 23 => ⟨S1x256x16, .f32⟩
  | 24 => ⟨S_, .i32⟩
  | 25 => ⟨S_, .i32⟩
  | 26 => ⟨S512x256x16, .f32⟩
  | 27 => ⟨S_, .i32⟩
  | 28 => ⟨S_, .i32⟩
  | 29 => ⟨S512x256x192, .f32⟩
  | 30 => ⟨S1x1x192, .f32⟩
  | 31 => ⟨S512x256x192, .f32⟩
  | 32 => ⟨S512x256x192, .f32⟩
  | 33 => ⟨S_, .f32⟩
  | 34 => ⟨S512x256x64, .f32⟩
  | 35 => ⟨S_, .i32⟩
  | 36 => ⟨S512x256x192, .f32⟩
  | 37 => ⟨S192x64, .f32⟩
  | 38 => ⟨S192, .f32⟩
  | 39 => ⟨S_, .i32⟩
  | 40 => ⟨S256x64, .f32⟩
  | 41 => ⟨S512x256x64, .f32⟩
  | 42 => ⟨S_, .i32⟩
  | 43 => ⟨S_, .i1⟩
  | 44 => ⟨S_, .i32⟩
  | 45 => ⟨S_, .i32⟩
  | 46 => ⟨S1x256x192, .f32⟩
  | 47 => ⟨S256x192, .f32⟩
  | 48 => ⟨S64x192, .f32⟩
  | 49 => ⟨S256x192, .f32⟩
  | 50 => ⟨S1x192, .f32⟩
  | 51 => ⟨S256x192, .f32⟩
  | 52 => ⟨S256x192, .f32⟩
  | 53 => ⟨S256x64, .f32⟩
  | 54 => ⟨S256x64, .f32⟩
  | 55 => ⟨S256x64, .f32⟩
  | 56 => ⟨S256x64, .f32⟩
  | 57 => ⟨S256x64, .f32⟩
  | 58 => ⟨S256x64, .f32⟩
  | 59 => ⟨S256x64, .f32⟩
  | 60 => ⟨S256x64, .f32⟩
  | 61 => ⟨S256x64, .f32⟩
  | 62 => ⟨S_, .f32⟩
  | 63 => ⟨S256x64, .f32⟩
  | 64 => ⟨S256x64, .f32⟩
  | 65 => ⟨S_, .f32⟩
  | 66 => ⟨S256x64, .f32⟩
  | 67 => ⟨S256x64, .f32⟩
  | 68 => ⟨S256x64, .f32⟩
  | 69 => ⟨S256x64, .f32⟩
  | 70 => ⟨S256x64, .f32⟩
  | 71 => ⟨S_, .f32⟩
  | 72 => ⟨S256x64, .f32⟩
  | 73 => ⟨S256x64, .f32⟩
  | 74 => ⟨S_, .f32⟩
  | 75 => ⟨S256x64, .f32⟩
  | 76 => ⟨S256x64, .f32⟩
  | 77 => ⟨S256x64, .f32⟩
  | 78 => ⟨S256x64, .f32⟩
  | 79 => ⟨S256x64, .f32⟩
  | 80 => ⟨S_, .f32⟩
  | 81 => ⟨S256x64, .f32⟩
  | 82 => ⟨S256x64, .f32⟩
  | 83 => ⟨S256x64, .f32⟩
  | 84 => ⟨S256x64, .f32⟩
  | 85 => ⟨S256x64, .f32⟩
  | 86 => ⟨S1x256x64, .f32⟩
  | 87 => ⟨S_, .i32⟩
  | 88 => ⟨S_, .i32⟩
  | 89 => ⟨S512x256x64, .f32⟩
  | 90 => ⟨S_, .i32⟩
  | 91 => ⟨S_, .i32⟩
  | 92 => ⟨S512x256x192, .f32⟩
  | 93 => ⟨S1x1x192, .f32⟩
  | 94 => ⟨S512x256x192, .f32⟩
  | 95 => ⟨S512x256x192, .f32⟩
  | 96 => ⟨S_, .f32⟩
  | 97 => ⟨S512x256x64, .f32⟩
  | 98 => ⟨S_, .i32⟩
  | 99 => ⟨S512x256x192, .f32⟩
  | 100 => ⟨S192x64, .f32⟩
  | 101 => ⟨S192, .f32⟩
  | 102 => ⟨S_, .i32⟩
  | 103 => ⟨S256x64, .f32⟩
  | 104 => ⟨S512x256x64, .f32⟩
  | 105 => ⟨S_, .i32⟩
  | 106 => ⟨S_, .i1⟩
  | 107 => ⟨S_, .i32⟩
  | 108 => ⟨S_, .i32⟩
  | 109 => ⟨S1x256x192, .f32⟩
  | 110 => ⟨S256x192, .f32⟩
  | 111 => ⟨S64x192, .f32⟩
  | 112 => ⟨S256x192, .f32⟩
  | 113 => ⟨S1x192, .f32⟩
  | 114 => ⟨S256x192, .f32⟩
  | 115 => ⟨S256x192, .f32⟩
  | 116 => ⟨S256x64, .f32⟩
  | 117 => ⟨S256x64, .f32⟩
  | 118 => ⟨S256x64, .f32⟩
  | 119 => ⟨S256x64, .f32⟩
  | 120 => ⟨S256x64, .f32⟩
  | 121 => ⟨S256x64, .f32⟩
  | 122 => ⟨S256x64, .f32⟩
  | 123 => ⟨S256x64, .f32⟩
  | 124 => ⟨S256x64, .f32⟩
  | 125 => ⟨S_, .f32⟩
  | 126 => ⟨S256x64, .f32⟩
  | 127 => ⟨S256x64, .f32⟩
  | _ => ⟨S512x256x300, .f32⟩

abbrev hbmTy0_3 (i : Nat) : BufTy := match i % 128 with
  | 0 => ⟨S_, .f32⟩
  | 1 => ⟨S256x64, .f32⟩
  | 2 => ⟨S256x64, .f32⟩
  | 3 => ⟨S256x64, .f32⟩
  | 4 => ⟨S256x64, .f32⟩
  | 5 => ⟨S256x64, .f32⟩
  | 6 => ⟨S_, .f32⟩
  | 7 => ⟨S256x64, .f32⟩
  | 8 => ⟨S256x64, .f32⟩
  | 9 => ⟨S_, .f32⟩
  | 10 => ⟨S256x64, .f32⟩
  | 11 => ⟨S256x64, .f32⟩
  | 12 => ⟨S256x64, .f32⟩
  | 13 => ⟨S256x64, .f32⟩
  | 14 => ⟨S256x64, .f32⟩
  | 15 => ⟨S_, .f32⟩
  | 16 => ⟨S256x64, .f32⟩
  | 17 => ⟨S256x64, .f32⟩
  | 18 => ⟨S256x64, .f32⟩
  | 19 => ⟨S256x64, .f32⟩
  | 20 => ⟨S256x64, .f32⟩
  | 21 => ⟨S1x256x64, .f32⟩
  | 22 => ⟨S_, .i32⟩
  | 23 => ⟨S_, .i32⟩
  | 24 => ⟨S512x256x64, .f32⟩
  | 25 => ⟨S_, .i32⟩
  | 26 => ⟨S_, .i32⟩
  | 27 => ⟨S512x256x192, .f32⟩
  | 28 => ⟨S1x1x192, .f32⟩
  | 29 => ⟨S512x256x192, .f32⟩
  | 30 => ⟨S512x256x192, .f32⟩
  | 31 => ⟨S_, .f32⟩
  | 32 => ⟨S512x256x64, .f32⟩
  | 33 => ⟨S_, .i32⟩
  | 34 => ⟨S512x256x192, .f32⟩
  | 35 => ⟨S192x64, .f32⟩
  | 36 => ⟨S192, .f32⟩
  | 37 => ⟨S_, .i32⟩
  | 38 => ⟨S256x64, .f32⟩
  | 39 => ⟨S512x256x64, .f32⟩
  | 40 => ⟨S_, .i32⟩
  | 41 => ⟨S_, .i1⟩
  | 42 => ⟨S_, .i32⟩
  | 43 => ⟨S_, .i32⟩
  | 44 => ⟨S1x256x192, .f32⟩
  | 45 => ⟨S256x192, .f32⟩
  | 46 => ⟨S64x192, .f32⟩
  | 47 => ⟨S256x192, .f32⟩
  | 48 => ⟨S1x192, .f32⟩
  | 49 => ⟨S256x192, .f32⟩
  | 50 => ⟨S256x192, .f32⟩
  | 51 => ⟨S256x64, .f32⟩
  | 52 => ⟨S256x64, .f32⟩
  | 53 => ⟨S256x64, .f32⟩
  | 54 => ⟨S256x64, .f32⟩
  | 55 => ⟨S256x64, .f32⟩
  | 56 => ⟨S256x64, .f32⟩
  | 57 => ⟨S256x64, .f32⟩
  | 58 => ⟨S256x64, .f32⟩
  | 59 => ⟨S256x64, .f32⟩
  | 60 => ⟨S_, .f32⟩
  | 61 => ⟨S256x64, .f32⟩
  | 62 => ⟨S256x64, .f32⟩
  | 63 => ⟨S_, .f32⟩
  | 64 => ⟨S256x64, .f32⟩
  | 65 => ⟨S256x64, .f32⟩
  | 66 => ⟨S256x64, .f32⟩
  | 67 => ⟨S256x64, .f32⟩
  | 68 => ⟨S256x64, .f32⟩
  | 69 => ⟨S_, .f32⟩
  | 70 => ⟨S256x64, .f32⟩
  | 71 => ⟨S256x64, .f32⟩
  | 72 => ⟨S_, .f32⟩
  | 73 => ⟨S256x64, .f32⟩
  | 74 => ⟨S256x64, .f32⟩
  | 75 => ⟨S256x64, .f32⟩
  | 76 => ⟨S256x64, .f32⟩
  | 77 => ⟨S256x64, .f32⟩
  | 78 => ⟨S_, .f32⟩
  | 79 => ⟨S256x64, .f32⟩
  | 80 => ⟨S256x64, .f32⟩
  | 81 => ⟨S256x64, .f32⟩
  | 82 => ⟨S256x64, .f32⟩
  | 83 => ⟨S256x64, .f32⟩
  | 84 => ⟨S1x256x64, .f32⟩
  | 85 => ⟨S_, .i32⟩
  | 86 => ⟨S_, .i32⟩
  | 87 => ⟨S512x256x64, .f32⟩
  | 88 => ⟨S_, .i32⟩
  | 89 => ⟨S_, .i32⟩
  | 90 => ⟨S256x128, .f32⟩
  | _ => ⟨S512x256x300, .f32⟩

abbrev hbmTy (i : Nat) : BufTy := match i / 128 with
  | 0 => hbmTy0_0 i
  | 1 => hbmTy0_1 i
  | 2 => hbmTy0_2 i
  | 3 => hbmTy0_3 i
  | _ => ⟨S512x256x300, .f32⟩

abbrev bufTy : (tb : Table) → Fin (tcTables nBuf tb) → BufTy
  | .hbm, ⟨i, _⟩ => hbmTy i
  | _, _ => ⟨S512x256x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_cst : Ref sig .tc := ⟨.hbm, 29, rfl⟩
abbrev main_v0 : Ref sig .tc := ⟨.hbm, 30, rfl⟩
abbrev main_cst_0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_cst_1 : Ref sig .tc := ⟨.hbm, 37, rfl⟩
abbrev main_v6 : Ref sig .tc := ⟨.hbm, 38, rfl⟩
abbrev main_c : Ref sig .tc := ⟨.hbm, 39, rfl⟩
abbrev main_v7_0 : Ref sig .tc := ⟨.hbm, 40, rfl⟩
abbrev main_v7_1 : Ref sig .tc := ⟨.hbm, 41, rfl⟩
abbrev main_v7_2 : Ref sig .tc := ⟨.hbm, 42, rfl⟩
abbrev main_v7_3 : Ref sig .tc := ⟨.hbm, 43, rfl⟩
abbrev main_v7_4 : Ref sig .tc := ⟨.hbm, 44, rfl⟩
abbrev main_v7_5 : Ref sig .tc := ⟨.hbm, 45, rfl⟩
abbrev main_while0c_c_19 : Ref sig .tc := ⟨.hbm, 46, rfl⟩
abbrev main_while0c_v45 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_v0 : Ref sig .tc := ⟨.hbm, 50, rfl⟩
abbrev main_while0b_v45 : Ref sig .tc := ⟨.hbm, 51, rfl⟩
abbrev main_while0b_v46 : Ref sig .tc := ⟨.hbm, 52, rfl⟩
abbrev main_while0b_v47 : Ref sig .tc := ⟨.hbm, 53, rfl⟩
abbrev main_while0b_v48 : Ref sig .tc := ⟨.hbm, 54, rfl⟩
abbrev main_while0b_v49 : Ref sig .tc := ⟨.hbm, 55, rfl⟩
abbrev main_while0b_v50 : Ref sig .tc := ⟨.hbm, 56, rfl⟩
abbrev main_while0b_v51 : Ref sig .tc := ⟨.hbm, 57, rfl⟩
abbrev main_while0b_v52 : Ref sig .tc := ⟨.hbm, 58, rfl⟩
abbrev main_while0b_v53 : Ref sig .tc := ⟨.hbm, 59, rfl⟩
abbrev main_while0b_v54 : Ref sig .tc := ⟨.hbm, 60, rfl⟩
abbrev main_while0b_v55 : Ref sig .tc := ⟨.hbm, 61, rfl⟩
abbrev main_while0b_v56 : Ref sig .tc := ⟨.hbm, 62, rfl⟩
abbrev main_while0b_v57 : Ref sig .tc := ⟨.hbm, 63, rfl⟩
abbrev main_while0b_v58 : Ref sig .tc := ⟨.hbm, 64, rfl⟩
abbrev main_while0b_v59 : Ref sig .tc := ⟨.hbm, 65, rfl⟩
abbrev main_while0b_cst_19 : Ref sig .tc := ⟨.hbm, 66, rfl⟩
abbrev main_while0b_v60 : Ref sig .tc := ⟨.hbm, 67, rfl⟩
abbrev main_while0b_v61 : Ref sig .tc := ⟨.hbm, 68, rfl⟩
abbrev main_while0b_cst_20 : Ref sig .tc := ⟨.hbm, 69, rfl⟩
abbrev main_while0b_v62 : Ref sig .tc := ⟨.hbm, 70, rfl⟩
abbrev main_while0b_v63 : Ref sig .tc := ⟨.hbm, 71, rfl⟩
abbrev main_while0b_v64 : Ref sig .tc := ⟨.hbm, 72, rfl⟩
abbrev main_while0b_v65 : Ref sig .tc := ⟨.hbm, 73, rfl⟩
abbrev main_while0b_v66 : Ref sig .tc := ⟨.hbm, 74, rfl⟩
abbrev main_while0b_cst_21 : Ref sig .tc := ⟨.hbm, 75, rfl⟩
abbrev main_while0b_v67 : Ref sig .tc := ⟨.hbm, 76, rfl⟩
abbrev main_while0b_v68 : Ref sig .tc := ⟨.hbm, 77, rfl⟩
abbrev main_while0b_cst_22 : Ref sig .tc := ⟨.hbm, 78, rfl⟩
abbrev main_while0b_v69 : Ref sig .tc := ⟨.hbm, 79, rfl⟩
abbrev main_while0b_v70 : Ref sig .tc := ⟨.hbm, 80, rfl⟩
abbrev main_while0b_v71 : Ref sig .tc := ⟨.hbm, 81, rfl⟩
abbrev main_while0b_v72 : Ref sig .tc := ⟨.hbm, 82, rfl⟩
abbrev main_while0b_v73 : Ref sig .tc := ⟨.hbm, 83, rfl⟩
abbrev main_while0b_cst_23 : Ref sig .tc := ⟨.hbm, 84, rfl⟩
abbrev main_while0b_v74 : Ref sig .tc := ⟨.hbm, 85, rfl⟩
abbrev main_while0b_v75 : Ref sig .tc := ⟨.hbm, 86, rfl⟩
abbrev main_while0b_v76 : Ref sig .tc := ⟨.hbm, 87, rfl⟩
abbrev main_while0b_v77 : Ref sig .tc := ⟨.hbm, 88, rfl⟩
abbrev main_while0b_v78 : Ref sig .tc := ⟨.hbm, 89, rfl⟩
abbrev main_while0b_call1_v0 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_v79 : Ref sig .tc := ⟨.hbm, 93, rfl⟩
abbrev main_while0b_c_24 : Ref sig .tc := ⟨.hbm, 94, rfl⟩
abbrev main_while0b_v80 : Ref sig .tc := ⟨.hbm, 95, rfl⟩
abbrev main_v8 : Ref sig .tc := ⟨.hbm, 96, rfl⟩
abbrev main_v9 : Ref sig .tc := ⟨.hbm, 97, rfl⟩
abbrev main_v10 : Ref sig .tc := ⟨.hbm, 98, rfl⟩
abbrev main_v11 : Ref sig .tc := ⟨.hbm, 99, rfl⟩
abbrev main_cst_2 : Ref sig .tc := ⟨.hbm, 100, rfl⟩
abbrev main_v12 : Ref sig .tc := ⟨.hbm, 101, rfl⟩
abbrev main_c_3 : Ref sig .tc := ⟨.hbm, 102, rfl⟩
abbrev main_v13_0 : Ref sig .tc := ⟨.hbm, 103, rfl⟩
abbrev main_v13_1 : Ref sig .tc := ⟨.hbm, 104, rfl⟩
abbrev main_v13_2 : Ref sig .tc := ⟨.hbm, 105, rfl⟩
abbrev main_v13_3 : Ref sig .tc := ⟨.hbm, 106, rfl⟩
abbrev main_v13_4 : Ref sig .tc := ⟨.hbm, 107, rfl⟩
abbrev main_v13_5 : Ref sig .tc := ⟨.hbm, 108, rfl⟩
abbrev main_while1c_c_19 : Ref sig .tc := ⟨.hbm, 109, rfl⟩
abbrev main_while1c_v45 : Ref sig .tc := ⟨.hbm, 110, rfl⟩
abbrev main_while1b_call2_c : Ref sig .tc := ⟨.hbm, 111, rfl⟩
abbrev main_while1b_call2_c_0 : Ref sig .tc := ⟨.hbm, 112, rfl⟩
abbrev main_while1b_call2_v0 : Ref sig .tc := ⟨.hbm, 113, rfl⟩
abbrev main_while1b_v45 : Ref sig .tc := ⟨.hbm, 114, rfl⟩
abbrev main_while1b_v46 : Ref sig .tc := ⟨.hbm, 115, rfl⟩
abbrev main_while1b_v47 : Ref sig .tc := ⟨.hbm, 116, rfl⟩
abbrev main_while1b_v48 : Ref sig .tc := ⟨.hbm, 117, rfl⟩
abbrev main_while1b_v49 : Ref sig .tc := ⟨.hbm, 118, rfl⟩
abbrev main_while1b_v50 : Ref sig .tc := ⟨.hbm, 119, rfl⟩
abbrev main_while1b_v51 : Ref sig .tc := ⟨.hbm, 120, rfl⟩
abbrev main_while1b_v52 : Ref sig .tc := ⟨.hbm, 121, rfl⟩
abbrev main_while1b_v53 : Ref sig .tc := ⟨.hbm, 122, rfl⟩
abbrev main_while1b_v54 : Ref sig .tc := ⟨.hbm, 123, rfl⟩
abbrev main_while1b_v55 : Ref sig .tc := ⟨.hbm, 124, rfl⟩
abbrev main_while1b_v56 : Ref sig .tc := ⟨.hbm, 125, rfl⟩
abbrev main_while1b_v57 : Ref sig .tc := ⟨.hbm, 126, rfl⟩
abbrev main_while1b_v58 : Ref sig .tc := ⟨.hbm, 127, rfl⟩
abbrev main_while1b_v59 : Ref sig .tc := ⟨.hbm, 128, rfl⟩
abbrev main_while1b_cst_19 : Ref sig .tc := ⟨.hbm, 129, rfl⟩
abbrev main_while1b_v60 : Ref sig .tc := ⟨.hbm, 130, rfl⟩
abbrev main_while1b_v61 : Ref sig .tc := ⟨.hbm, 131, rfl⟩
abbrev main_while1b_cst_20 : Ref sig .tc := ⟨.hbm, 132, rfl⟩
abbrev main_while1b_v62 : Ref sig .tc := ⟨.hbm, 133, rfl⟩
abbrev main_while1b_v63 : Ref sig .tc := ⟨.hbm, 134, rfl⟩
abbrev main_while1b_v64 : Ref sig .tc := ⟨.hbm, 135, rfl⟩
abbrev main_while1b_v65 : Ref sig .tc := ⟨.hbm, 136, rfl⟩
abbrev main_while1b_v66 : Ref sig .tc := ⟨.hbm, 137, rfl⟩
abbrev main_while1b_cst_21 : Ref sig .tc := ⟨.hbm, 138, rfl⟩
abbrev main_while1b_v67 : Ref sig .tc := ⟨.hbm, 139, rfl⟩
abbrev main_while1b_v68 : Ref sig .tc := ⟨.hbm, 140, rfl⟩
abbrev main_while1b_cst_22 : Ref sig .tc := ⟨.hbm, 141, rfl⟩
abbrev main_while1b_v69 : Ref sig .tc := ⟨.hbm, 142, rfl⟩
abbrev main_while1b_v70 : Ref sig .tc := ⟨.hbm, 143, rfl⟩
abbrev main_while1b_v71 : Ref sig .tc := ⟨.hbm, 144, rfl⟩
abbrev main_while1b_v72 : Ref sig .tc := ⟨.hbm, 145, rfl⟩
abbrev main_while1b_v73 : Ref sig .tc := ⟨.hbm, 146, rfl⟩
abbrev main_while1b_cst_23 : Ref sig .tc := ⟨.hbm, 147, rfl⟩
abbrev main_while1b_v74 : Ref sig .tc := ⟨.hbm, 148, rfl⟩
abbrev main_while1b_v75 : Ref sig .tc := ⟨.hbm, 149, rfl⟩
abbrev main_while1b_v76 : Ref sig .tc := ⟨.hbm, 150, rfl⟩
abbrev main_while1b_v77 : Ref sig .tc := ⟨.hbm, 151, rfl⟩
abbrev main_while1b_v78 : Ref sig .tc := ⟨.hbm, 152, rfl⟩
abbrev main_while1b_call3_v0 : Ref sig .tc := ⟨.hbm, 153, rfl⟩
abbrev main_while1b_call3_c : Ref sig .tc := ⟨.hbm, 154, rfl⟩
abbrev main_while1b_call3_c_0 : Ref sig .tc := ⟨.hbm, 155, rfl⟩
abbrev main_while1b_v79 : Ref sig .tc := ⟨.hbm, 156, rfl⟩
abbrev main_while1b_c_24 : Ref sig .tc := ⟨.hbm, 157, rfl⟩
abbrev main_while1b_v80 : Ref sig .tc := ⟨.hbm, 158, rfl⟩
abbrev main_v14 : Ref sig .tc := ⟨.hbm, 159, rfl⟩
abbrev main_v15 : Ref sig .tc := ⟨.hbm, 160, rfl⟩
abbrev main_v16 : Ref sig .tc := ⟨.hbm, 161, rfl⟩
abbrev main_v17 : Ref sig .tc := ⟨.hbm, 162, rfl⟩
abbrev main_cst_4 : Ref sig .tc := ⟨.hbm, 163, rfl⟩
abbrev main_v18 : Ref sig .tc := ⟨.hbm, 164, rfl⟩
abbrev main_c_5 : Ref sig .tc := ⟨.hbm, 165, rfl⟩
abbrev main_v19_0 : Ref sig .tc := ⟨.hbm, 166, rfl⟩
abbrev main_v19_1 : Ref sig .tc := ⟨.hbm, 167, rfl⟩
abbrev main_v19_2 : Ref sig .tc := ⟨.hbm, 168, rfl⟩
abbrev main_v19_3 : Ref sig .tc := ⟨.hbm, 169, rfl⟩
abbrev main_v19_4 : Ref sig .tc := ⟨.hbm, 170, rfl⟩
abbrev main_v19_5 : Ref sig .tc := ⟨.hbm, 171, rfl⟩
abbrev main_while2c_c_19 : Ref sig .tc := ⟨.hbm, 172, rfl⟩
abbrev main_while2c_v45 : Ref sig .tc := ⟨.hbm, 173, rfl⟩
abbrev main_while2b_call4_c : Ref sig .tc := ⟨.hbm, 174, rfl⟩
abbrev main_while2b_call4_c_0 : Ref sig .tc := ⟨.hbm, 175, rfl⟩
abbrev main_while2b_call4_v0 : Ref sig .tc := ⟨.hbm, 176, rfl⟩
abbrev main_while2b_v45 : Ref sig .tc := ⟨.hbm, 177, rfl⟩
abbrev main_while2b_v46 : Ref sig .tc := ⟨.hbm, 178, rfl⟩
abbrev main_while2b_v47 : Ref sig .tc := ⟨.hbm, 179, rfl⟩
abbrev main_while2b_v48 : Ref sig .tc := ⟨.hbm, 180, rfl⟩
abbrev main_while2b_v49 : Ref sig .tc := ⟨.hbm, 181, rfl⟩
abbrev main_while2b_v50 : Ref sig .tc := ⟨.hbm, 182, rfl⟩
abbrev main_while2b_v51 : Ref sig .tc := ⟨.hbm, 183, rfl⟩
abbrev main_while2b_v52 : Ref sig .tc := ⟨.hbm, 184, rfl⟩
abbrev main_while2b_v53 : Ref sig .tc := ⟨.hbm, 185, rfl⟩
abbrev main_while2b_v54 : Ref sig .tc := ⟨.hbm, 186, rfl⟩
abbrev main_while2b_v55 : Ref sig .tc := ⟨.hbm, 187, rfl⟩
abbrev main_while2b_v56 : Ref sig .tc := ⟨.hbm, 188, rfl⟩
abbrev main_while2b_v57 : Ref sig .tc := ⟨.hbm, 189, rfl⟩
abbrev main_while2b_v58 : Ref sig .tc := ⟨.hbm, 190, rfl⟩
abbrev main_while2b_v59 : Ref sig .tc := ⟨.hbm, 191, rfl⟩
abbrev main_while2b_cst_19 : Ref sig .tc := ⟨.hbm, 192, rfl⟩
abbrev main_while2b_v60 : Ref sig .tc := ⟨.hbm, 193, rfl⟩
abbrev main_while2b_v61 : Ref sig .tc := ⟨.hbm, 194, rfl⟩
abbrev main_while2b_cst_20 : Ref sig .tc := ⟨.hbm, 195, rfl⟩
abbrev main_while2b_v62 : Ref sig .tc := ⟨.hbm, 196, rfl⟩
abbrev main_while2b_v63 : Ref sig .tc := ⟨.hbm, 197, rfl⟩
abbrev main_while2b_v64 : Ref sig .tc := ⟨.hbm, 198, rfl⟩
abbrev main_while2b_v65 : Ref sig .tc := ⟨.hbm, 199, rfl⟩
abbrev main_while2b_v66 : Ref sig .tc := ⟨.hbm, 200, rfl⟩
abbrev main_while2b_cst_21 : Ref sig .tc := ⟨.hbm, 201, rfl⟩
abbrev main_while2b_v67 : Ref sig .tc := ⟨.hbm, 202, rfl⟩
abbrev main_while2b_v68 : Ref sig .tc := ⟨.hbm, 203, rfl⟩
abbrev main_while2b_cst_22 : Ref sig .tc := ⟨.hbm, 204, rfl⟩
abbrev main_while2b_v69 : Ref sig .tc := ⟨.hbm, 205, rfl⟩
abbrev main_while2b_v70 : Ref sig .tc := ⟨.hbm, 206, rfl⟩
abbrev main_while2b_v71 : Ref sig .tc := ⟨.hbm, 207, rfl⟩
abbrev main_while2b_v72 : Ref sig .tc := ⟨.hbm, 208, rfl⟩
abbrev main_while2b_v73 : Ref sig .tc := ⟨.hbm, 209, rfl⟩
abbrev main_while2b_cst_23 : Ref sig .tc := ⟨.hbm, 210, rfl⟩
abbrev main_while2b_v74 : Ref sig .tc := ⟨.hbm, 211, rfl⟩
abbrev main_while2b_v75 : Ref sig .tc := ⟨.hbm, 212, rfl⟩
abbrev main_while2b_v76 : Ref sig .tc := ⟨.hbm, 213, rfl⟩
abbrev main_while2b_v77 : Ref sig .tc := ⟨.hbm, 214, rfl⟩
abbrev main_while2b_v78 : Ref sig .tc := ⟨.hbm, 215, rfl⟩
abbrev main_while2b_call5_v0 : Ref sig .tc := ⟨.hbm, 216, rfl⟩
abbrev main_while2b_call5_c : Ref sig .tc := ⟨.hbm, 217, rfl⟩
abbrev main_while2b_call5_c_0 : Ref sig .tc := ⟨.hbm, 218, rfl⟩
abbrev main_while2b_v79 : Ref sig .tc := ⟨.hbm, 219, rfl⟩
abbrev main_while2b_c_24 : Ref sig .tc := ⟨.hbm, 220, rfl⟩
abbrev main_while2b_v80 : Ref sig .tc := ⟨.hbm, 221, rfl⟩
abbrev main_v20 : Ref sig .tc := ⟨.hbm, 222, rfl⟩
abbrev main_v21 : Ref sig .tc := ⟨.hbm, 223, rfl⟩
abbrev main_v22 : Ref sig .tc := ⟨.hbm, 224, rfl⟩
abbrev main_v23 : Ref sig .tc := ⟨.hbm, 225, rfl⟩
abbrev main_cst_6 : Ref sig .tc := ⟨.hbm, 226, rfl⟩
abbrev main_v24 : Ref sig .tc := ⟨.hbm, 227, rfl⟩
abbrev main_c_7 : Ref sig .tc := ⟨.hbm, 228, rfl⟩
abbrev main_v25_0 : Ref sig .tc := ⟨.hbm, 229, rfl⟩
abbrev main_v25_1 : Ref sig .tc := ⟨.hbm, 230, rfl⟩
abbrev main_v25_2 : Ref sig .tc := ⟨.hbm, 231, rfl⟩
abbrev main_v25_3 : Ref sig .tc := ⟨.hbm, 232, rfl⟩
abbrev main_v25_4 : Ref sig .tc := ⟨.hbm, 233, rfl⟩
abbrev main_v25_5 : Ref sig .tc := ⟨.hbm, 234, rfl⟩
abbrev main_while3c_c_19 : Ref sig .tc := ⟨.hbm, 235, rfl⟩
abbrev main_while3c_v45 : Ref sig .tc := ⟨.hbm, 236, rfl⟩
abbrev main_while3b_call6_c : Ref sig .tc := ⟨.hbm, 237, rfl⟩
abbrev main_while3b_call6_c_0 : Ref sig .tc := ⟨.hbm, 238, rfl⟩
abbrev main_while3b_call6_v0 : Ref sig .tc := ⟨.hbm, 239, rfl⟩
abbrev main_while3b_v45 : Ref sig .tc := ⟨.hbm, 240, rfl⟩
abbrev main_while3b_v46 : Ref sig .tc := ⟨.hbm, 241, rfl⟩
abbrev main_while3b_v47 : Ref sig .tc := ⟨.hbm, 242, rfl⟩
abbrev main_while3b_v48 : Ref sig .tc := ⟨.hbm, 243, rfl⟩
abbrev main_while3b_v49 : Ref sig .tc := ⟨.hbm, 244, rfl⟩
abbrev main_while3b_v50 : Ref sig .tc := ⟨.hbm, 245, rfl⟩
abbrev main_while3b_v51 : Ref sig .tc := ⟨.hbm, 246, rfl⟩
abbrev main_while3b_v52 : Ref sig .tc := ⟨.hbm, 247, rfl⟩
abbrev main_while3b_v53 : Ref sig .tc := ⟨.hbm, 248, rfl⟩
abbrev main_while3b_v54 : Ref sig .tc := ⟨.hbm, 249, rfl⟩
abbrev main_while3b_v55 : Ref sig .tc := ⟨.hbm, 250, rfl⟩
abbrev main_while3b_v56 : Ref sig .tc := ⟨.hbm, 251, rfl⟩
abbrev main_while3b_v57 : Ref sig .tc := ⟨.hbm, 252, rfl⟩
abbrev main_while3b_v58 : Ref sig .tc := ⟨.hbm, 253, rfl⟩
abbrev main_while3b_v59 : Ref sig .tc := ⟨.hbm, 254, rfl⟩
abbrev main_while3b_cst_19 : Ref sig .tc := ⟨.hbm, 255, rfl⟩
abbrev main_while3b_v60 : Ref sig .tc := ⟨.hbm, 256, rfl⟩
abbrev main_while3b_v61 : Ref sig .tc := ⟨.hbm, 257, rfl⟩
abbrev main_while3b_cst_20 : Ref sig .tc := ⟨.hbm, 258, rfl⟩
abbrev main_while3b_v62 : Ref sig .tc := ⟨.hbm, 259, rfl⟩
abbrev main_while3b_v63 : Ref sig .tc := ⟨.hbm, 260, rfl⟩
abbrev main_while3b_v64 : Ref sig .tc := ⟨.hbm, 261, rfl⟩
abbrev main_while3b_v65 : Ref sig .tc := ⟨.hbm, 262, rfl⟩
abbrev main_while3b_v66 : Ref sig .tc := ⟨.hbm, 263, rfl⟩
abbrev main_while3b_cst_21 : Ref sig .tc := ⟨.hbm, 264, rfl⟩
abbrev main_while3b_v67 : Ref sig .tc := ⟨.hbm, 265, rfl⟩
abbrev main_while3b_v68 : Ref sig .tc := ⟨.hbm, 266, rfl⟩
abbrev main_while3b_cst_22 : Ref sig .tc := ⟨.hbm, 267, rfl⟩
abbrev main_while3b_v69 : Ref sig .tc := ⟨.hbm, 268, rfl⟩
abbrev main_while3b_v70 : Ref sig .tc := ⟨.hbm, 269, rfl⟩
abbrev main_while3b_v71 : Ref sig .tc := ⟨.hbm, 270, rfl⟩
abbrev main_while3b_v72 : Ref sig .tc := ⟨.hbm, 271, rfl⟩
abbrev main_while3b_v73 : Ref sig .tc := ⟨.hbm, 272, rfl⟩
abbrev main_while3b_cst_23 : Ref sig .tc := ⟨.hbm, 273, rfl⟩
abbrev main_while3b_v74 : Ref sig .tc := ⟨.hbm, 274, rfl⟩
abbrev main_while3b_v75 : Ref sig .tc := ⟨.hbm, 275, rfl⟩
abbrev main_while3b_v76 : Ref sig .tc := ⟨.hbm, 276, rfl⟩
abbrev main_while3b_v77 : Ref sig .tc := ⟨.hbm, 277, rfl⟩
abbrev main_while3b_v78 : Ref sig .tc := ⟨.hbm, 278, rfl⟩
abbrev main_while3b_call7_v0 : Ref sig .tc := ⟨.hbm, 279, rfl⟩
abbrev main_while3b_call7_c : Ref sig .tc := ⟨.hbm, 280, rfl⟩
abbrev main_while3b_call7_c_0 : Ref sig .tc := ⟨.hbm, 281, rfl⟩
abbrev main_while3b_v79 : Ref sig .tc := ⟨.hbm, 282, rfl⟩
abbrev main_while3b_c_24 : Ref sig .tc := ⟨.hbm, 283, rfl⟩
abbrev main_while3b_v80 : Ref sig .tc := ⟨.hbm, 284, rfl⟩
abbrev main_v26 : Ref sig .tc := ⟨.hbm, 285, rfl⟩
abbrev main_v27 : Ref sig .tc := ⟨.hbm, 286, rfl⟩
abbrev main_v28 : Ref sig .tc := ⟨.hbm, 287, rfl⟩
abbrev main_v29 : Ref sig .tc := ⟨.hbm, 288, rfl⟩
abbrev main_cst_8 : Ref sig .tc := ⟨.hbm, 289, rfl⟩
abbrev main_v30 : Ref sig .tc := ⟨.hbm, 290, rfl⟩
abbrev main_c_9 : Ref sig .tc := ⟨.hbm, 291, rfl⟩
abbrev main_v31_0 : Ref sig .tc := ⟨.hbm, 292, rfl⟩
abbrev main_v31_1 : Ref sig .tc := ⟨.hbm, 293, rfl⟩
abbrev main_v31_2 : Ref sig .tc := ⟨.hbm, 294, rfl⟩
abbrev main_v31_3 : Ref sig .tc := ⟨.hbm, 295, rfl⟩
abbrev main_v31_4 : Ref sig .tc := ⟨.hbm, 296, rfl⟩
abbrev main_v31_5 : Ref sig .tc := ⟨.hbm, 297, rfl⟩
abbrev main_while4c_c_19 : Ref sig .tc := ⟨.hbm, 298, rfl⟩
abbrev main_while4c_v45 : Ref sig .tc := ⟨.hbm, 299, rfl⟩
abbrev main_while4b_call8_c : Ref sig .tc := ⟨.hbm, 300, rfl⟩
abbrev main_while4b_call8_c_0 : Ref sig .tc := ⟨.hbm, 301, rfl⟩
abbrev main_while4b_call8_v0 : Ref sig .tc := ⟨.hbm, 302, rfl⟩
abbrev main_while4b_v45 : Ref sig .tc := ⟨.hbm, 303, rfl⟩
abbrev main_while4b_v46 : Ref sig .tc := ⟨.hbm, 304, rfl⟩
abbrev main_while4b_v47 : Ref sig .tc := ⟨.hbm, 305, rfl⟩
abbrev main_while4b_v48 : Ref sig .tc := ⟨.hbm, 306, rfl⟩
abbrev main_while4b_v49 : Ref sig .tc := ⟨.hbm, 307, rfl⟩
abbrev main_while4b_v50 : Ref sig .tc := ⟨.hbm, 308, rfl⟩
abbrev main_while4b_v51 : Ref sig .tc := ⟨.hbm, 309, rfl⟩
abbrev main_while4b_v52 : Ref sig .tc := ⟨.hbm, 310, rfl⟩
abbrev main_while4b_v53 : Ref sig .tc := ⟨.hbm, 311, rfl⟩
abbrev main_while4b_v54 : Ref sig .tc := ⟨.hbm, 312, rfl⟩
abbrev main_while4b_v55 : Ref sig .tc := ⟨.hbm, 313, rfl⟩
abbrev main_while4b_v56 : Ref sig .tc := ⟨.hbm, 314, rfl⟩
abbrev main_while4b_v57 : Ref sig .tc := ⟨.hbm, 315, rfl⟩
abbrev main_while4b_v58 : Ref sig .tc := ⟨.hbm, 316, rfl⟩
abbrev main_while4b_v59 : Ref sig .tc := ⟨.hbm, 317, rfl⟩
abbrev main_while4b_cst_19 : Ref sig .tc := ⟨.hbm, 318, rfl⟩
abbrev main_while4b_v60 : Ref sig .tc := ⟨.hbm, 319, rfl⟩
abbrev main_while4b_v61 : Ref sig .tc := ⟨.hbm, 320, rfl⟩
abbrev main_while4b_cst_20 : Ref sig .tc := ⟨.hbm, 321, rfl⟩
abbrev main_while4b_v62 : Ref sig .tc := ⟨.hbm, 322, rfl⟩
abbrev main_while4b_v63 : Ref sig .tc := ⟨.hbm, 323, rfl⟩
abbrev main_while4b_v64 : Ref sig .tc := ⟨.hbm, 324, rfl⟩
abbrev main_while4b_v65 : Ref sig .tc := ⟨.hbm, 325, rfl⟩
abbrev main_while4b_v66 : Ref sig .tc := ⟨.hbm, 326, rfl⟩
abbrev main_while4b_cst_21 : Ref sig .tc := ⟨.hbm, 327, rfl⟩
abbrev main_while4b_v67 : Ref sig .tc := ⟨.hbm, 328, rfl⟩
abbrev main_while4b_v68 : Ref sig .tc := ⟨.hbm, 329, rfl⟩
abbrev main_while4b_cst_22 : Ref sig .tc := ⟨.hbm, 330, rfl⟩
abbrev main_while4b_v69 : Ref sig .tc := ⟨.hbm, 331, rfl⟩
abbrev main_while4b_v70 : Ref sig .tc := ⟨.hbm, 332, rfl⟩
abbrev main_while4b_v71 : Ref sig .tc := ⟨.hbm, 333, rfl⟩
abbrev main_while4b_v72 : Ref sig .tc := ⟨.hbm, 334, rfl⟩
abbrev main_while4b_v73 : Ref sig .tc := ⟨.hbm, 335, rfl⟩
abbrev main_while4b_cst_23 : Ref sig .tc := ⟨.hbm, 336, rfl⟩
abbrev main_while4b_v74 : Ref sig .tc := ⟨.hbm, 337, rfl⟩
abbrev main_while4b_v75 : Ref sig .tc := ⟨.hbm, 338, rfl⟩
abbrev main_while4b_v76 : Ref sig .tc := ⟨.hbm, 339, rfl⟩
abbrev main_while4b_v77 : Ref sig .tc := ⟨.hbm, 340, rfl⟩
abbrev main_while4b_v78 : Ref sig .tc := ⟨.hbm, 341, rfl⟩
abbrev main_while4b_call9_v0 : Ref sig .tc := ⟨.hbm, 342, rfl⟩
abbrev main_while4b_call9_c : Ref sig .tc := ⟨.hbm, 343, rfl⟩
abbrev main_while4b_call9_c_0 : Ref sig .tc := ⟨.hbm, 344, rfl⟩
abbrev main_while4b_v79 : Ref sig .tc := ⟨.hbm, 345, rfl⟩
abbrev main_while4b_c_24 : Ref sig .tc := ⟨.hbm, 346, rfl⟩
abbrev main_while4b_v80 : Ref sig .tc := ⟨.hbm, 347, rfl⟩
abbrev main_v32 : Ref sig .tc := ⟨.hbm, 348, rfl⟩
abbrev main_v33 : Ref sig .tc := ⟨.hbm, 349, rfl⟩
abbrev main_v34 : Ref sig .tc := ⟨.hbm, 350, rfl⟩
abbrev main_v35 : Ref sig .tc := ⟨.hbm, 351, rfl⟩
abbrev main_cst_10 : Ref sig .tc := ⟨.hbm, 352, rfl⟩
abbrev main_v36 : Ref sig .tc := ⟨.hbm, 353, rfl⟩
abbrev main_c_11 : Ref sig .tc := ⟨.hbm, 354, rfl⟩
abbrev main_v37_0 : Ref sig .tc := ⟨.hbm, 355, rfl⟩
abbrev main_v37_1 : Ref sig .tc := ⟨.hbm, 356, rfl⟩
abbrev main_v37_2 : Ref sig .tc := ⟨.hbm, 357, rfl⟩
abbrev main_v37_3 : Ref sig .tc := ⟨.hbm, 358, rfl⟩
abbrev main_v37_4 : Ref sig .tc := ⟨.hbm, 359, rfl⟩
abbrev main_v37_5 : Ref sig .tc := ⟨.hbm, 360, rfl⟩
abbrev main_while5c_c_19 : Ref sig .tc := ⟨.hbm, 361, rfl⟩
abbrev main_while5c_v45 : Ref sig .tc := ⟨.hbm, 362, rfl⟩
abbrev main_while5b_call10_c : Ref sig .tc := ⟨.hbm, 363, rfl⟩
abbrev main_while5b_call10_c_0 : Ref sig .tc := ⟨.hbm, 364, rfl⟩
abbrev main_while5b_call10_v0 : Ref sig .tc := ⟨.hbm, 365, rfl⟩
abbrev main_while5b_v45 : Ref sig .tc := ⟨.hbm, 366, rfl⟩
abbrev main_while5b_v46 : Ref sig .tc := ⟨.hbm, 367, rfl⟩
abbrev main_while5b_v47 : Ref sig .tc := ⟨.hbm, 368, rfl⟩
abbrev main_while5b_v48 : Ref sig .tc := ⟨.hbm, 369, rfl⟩
abbrev main_while5b_v49 : Ref sig .tc := ⟨.hbm, 370, rfl⟩
abbrev main_while5b_v50 : Ref sig .tc := ⟨.hbm, 371, rfl⟩
abbrev main_while5b_v51 : Ref sig .tc := ⟨.hbm, 372, rfl⟩
abbrev main_while5b_v52 : Ref sig .tc := ⟨.hbm, 373, rfl⟩
abbrev main_while5b_v53 : Ref sig .tc := ⟨.hbm, 374, rfl⟩
abbrev main_while5b_v54 : Ref sig .tc := ⟨.hbm, 375, rfl⟩
abbrev main_while5b_v55 : Ref sig .tc := ⟨.hbm, 376, rfl⟩
abbrev main_while5b_v56 : Ref sig .tc := ⟨.hbm, 377, rfl⟩
abbrev main_while5b_v57 : Ref sig .tc := ⟨.hbm, 378, rfl⟩
abbrev main_while5b_v58 : Ref sig .tc := ⟨.hbm, 379, rfl⟩
abbrev main_while5b_v59 : Ref sig .tc := ⟨.hbm, 380, rfl⟩
abbrev main_while5b_cst_19 : Ref sig .tc := ⟨.hbm, 381, rfl⟩
abbrev main_while5b_v60 : Ref sig .tc := ⟨.hbm, 382, rfl⟩
abbrev main_while5b_v61 : Ref sig .tc := ⟨.hbm, 383, rfl⟩
abbrev main_while5b_cst_20 : Ref sig .tc := ⟨.hbm, 384, rfl⟩
abbrev main_while5b_v62 : Ref sig .tc := ⟨.hbm, 385, rfl⟩
abbrev main_while5b_v63 : Ref sig .tc := ⟨.hbm, 386, rfl⟩
abbrev main_while5b_v64 : Ref sig .tc := ⟨.hbm, 387, rfl⟩
abbrev main_while5b_v65 : Ref sig .tc := ⟨.hbm, 388, rfl⟩
abbrev main_while5b_v66 : Ref sig .tc := ⟨.hbm, 389, rfl⟩
abbrev main_while5b_cst_21 : Ref sig .tc := ⟨.hbm, 390, rfl⟩
abbrev main_while5b_v67 : Ref sig .tc := ⟨.hbm, 391, rfl⟩
abbrev main_while5b_v68 : Ref sig .tc := ⟨.hbm, 392, rfl⟩
abbrev main_while5b_cst_22 : Ref sig .tc := ⟨.hbm, 393, rfl⟩
abbrev main_while5b_v69 : Ref sig .tc := ⟨.hbm, 394, rfl⟩
abbrev main_while5b_v70 : Ref sig .tc := ⟨.hbm, 395, rfl⟩
abbrev main_while5b_v71 : Ref sig .tc := ⟨.hbm, 396, rfl⟩
abbrev main_while5b_v72 : Ref sig .tc := ⟨.hbm, 397, rfl⟩
abbrev main_while5b_v73 : Ref sig .tc := ⟨.hbm, 398, rfl⟩
abbrev main_while5b_cst_23 : Ref sig .tc := ⟨.hbm, 399, rfl⟩
abbrev main_while5b_v74 : Ref sig .tc := ⟨.hbm, 400, rfl⟩
abbrev main_while5b_v75 : Ref sig .tc := ⟨.hbm, 401, rfl⟩
abbrev main_while5b_v76 : Ref sig .tc := ⟨.hbm, 402, rfl⟩
abbrev main_while5b_v77 : Ref sig .tc := ⟨.hbm, 403, rfl⟩
abbrev main_while5b_v78 : Ref sig .tc := ⟨.hbm, 404, rfl⟩
abbrev main_while5b_call11_v0 : Ref sig .tc := ⟨.hbm, 405, rfl⟩
abbrev main_while5b_call11_c : Ref sig .tc := ⟨.hbm, 406, rfl⟩
abbrev main_while5b_call11_c_0 : Ref sig .tc := ⟨.hbm, 407, rfl⟩
abbrev main_while5b_v79 : Ref sig .tc := ⟨.hbm, 408, rfl⟩
abbrev main_while5b_c_24 : Ref sig .tc := ⟨.hbm, 409, rfl⟩
abbrev main_while5b_v80 : Ref sig .tc := ⟨.hbm, 410, rfl⟩
abbrev main_v38 : Ref sig .tc := ⟨.hbm, 411, rfl⟩
abbrev main_v39 : Ref sig .tc := ⟨.hbm, 412, rfl⟩
abbrev main_v40 : Ref sig .tc := ⟨.hbm, 413, rfl⟩
abbrev main_v41 : Ref sig .tc := ⟨.hbm, 414, rfl⟩
abbrev main_cst_12 : Ref sig .tc := ⟨.hbm, 415, rfl⟩
abbrev main_v42 : Ref sig .tc := ⟨.hbm, 416, rfl⟩
abbrev main_c_13 : Ref sig .tc := ⟨.hbm, 417, rfl⟩
abbrev main_v43_0 : Ref sig .tc := ⟨.hbm, 418, rfl⟩
abbrev main_v43_1 : Ref sig .tc := ⟨.hbm, 419, rfl⟩
abbrev main_v43_2 : Ref sig .tc := ⟨.hbm, 420, rfl⟩
abbrev main_v43_3 : Ref sig .tc := ⟨.hbm, 421, rfl⟩
abbrev main_v43_4 : Ref sig .tc := ⟨.hbm, 422, rfl⟩
abbrev main_v43_5 : Ref sig .tc := ⟨.hbm, 423, rfl⟩
abbrev main_while6c_c_19 : Ref sig .tc := ⟨.hbm, 424, rfl⟩
abbrev main_while6c_v45 : Ref sig .tc := ⟨.hbm, 425, rfl⟩
abbrev main_while6b_call12_c : Ref sig .tc := ⟨.hbm, 426, rfl⟩
abbrev main_while6b_call12_c_0 : Ref sig .tc := ⟨.hbm, 427, rfl⟩
abbrev main_while6b_call12_v0 : Ref sig .tc := ⟨.hbm, 428, rfl⟩
abbrev main_while6b_v45 : Ref sig .tc := ⟨.hbm, 429, rfl⟩
abbrev main_while6b_v46 : Ref sig .tc := ⟨.hbm, 430, rfl⟩
abbrev main_while6b_v47 : Ref sig .tc := ⟨.hbm, 431, rfl⟩
abbrev main_while6b_v48 : Ref sig .tc := ⟨.hbm, 432, rfl⟩
abbrev main_while6b_v49 : Ref sig .tc := ⟨.hbm, 433, rfl⟩
abbrev main_while6b_v50 : Ref sig .tc := ⟨.hbm, 434, rfl⟩
abbrev main_while6b_v51 : Ref sig .tc := ⟨.hbm, 435, rfl⟩
abbrev main_while6b_v52 : Ref sig .tc := ⟨.hbm, 436, rfl⟩
abbrev main_while6b_v53 : Ref sig .tc := ⟨.hbm, 437, rfl⟩
abbrev main_while6b_v54 : Ref sig .tc := ⟨.hbm, 438, rfl⟩
abbrev main_while6b_v55 : Ref sig .tc := ⟨.hbm, 439, rfl⟩
abbrev main_while6b_v56 : Ref sig .tc := ⟨.hbm, 440, rfl⟩
abbrev main_while6b_v57 : Ref sig .tc := ⟨.hbm, 441, rfl⟩
abbrev main_while6b_v58 : Ref sig .tc := ⟨.hbm, 442, rfl⟩
abbrev main_while6b_v59 : Ref sig .tc := ⟨.hbm, 443, rfl⟩
abbrev main_while6b_cst_19 : Ref sig .tc := ⟨.hbm, 444, rfl⟩
abbrev main_while6b_v60 : Ref sig .tc := ⟨.hbm, 445, rfl⟩
abbrev main_while6b_v61 : Ref sig .tc := ⟨.hbm, 446, rfl⟩
abbrev main_while6b_cst_20 : Ref sig .tc := ⟨.hbm, 447, rfl⟩
abbrev main_while6b_v62 : Ref sig .tc := ⟨.hbm, 448, rfl⟩
abbrev main_while6b_v63 : Ref sig .tc := ⟨.hbm, 449, rfl⟩
abbrev main_while6b_v64 : Ref sig .tc := ⟨.hbm, 450, rfl⟩
abbrev main_while6b_v65 : Ref sig .tc := ⟨.hbm, 451, rfl⟩
abbrev main_while6b_v66 : Ref sig .tc := ⟨.hbm, 452, rfl⟩
abbrev main_while6b_cst_21 : Ref sig .tc := ⟨.hbm, 453, rfl⟩
abbrev main_while6b_v67 : Ref sig .tc := ⟨.hbm, 454, rfl⟩
abbrev main_while6b_v68 : Ref sig .tc := ⟨.hbm, 455, rfl⟩
abbrev main_while6b_cst_22 : Ref sig .tc := ⟨.hbm, 456, rfl⟩
abbrev main_while6b_v69 : Ref sig .tc := ⟨.hbm, 457, rfl⟩
abbrev main_while6b_v70 : Ref sig .tc := ⟨.hbm, 458, rfl⟩
abbrev main_while6b_v71 : Ref sig .tc := ⟨.hbm, 459, rfl⟩
abbrev main_while6b_v72 : Ref sig .tc := ⟨.hbm, 460, rfl⟩
abbrev main_while6b_v73 : Ref sig .tc := ⟨.hbm, 461, rfl⟩
abbrev main_while6b_cst_23 : Ref sig .tc := ⟨.hbm, 462, rfl⟩
abbrev main_while6b_v74 : Ref sig .tc := ⟨.hbm, 463, rfl⟩
abbrev main_while6b_v75 : Ref sig .tc := ⟨.hbm, 464, rfl⟩
abbrev main_while6b_v76 : Ref sig .tc := ⟨.hbm, 465, rfl⟩
abbrev main_while6b_v77 : Ref sig .tc := ⟨.hbm, 466, rfl⟩
abbrev main_while6b_v78 : Ref sig .tc := ⟨.hbm, 467, rfl⟩
abbrev main_while6b_call13_v0 : Ref sig .tc := ⟨.hbm, 468, rfl⟩
abbrev main_while6b_call13_c : Ref sig .tc := ⟨.hbm, 469, rfl⟩
abbrev main_while6b_call13_c_0 : Ref sig .tc := ⟨.hbm, 470, rfl⟩
abbrev main_while6b_v79 : Ref sig .tc := ⟨.hbm, 471, rfl⟩
abbrev main_while6b_c_24 : Ref sig .tc := ⟨.hbm, 472, rfl⟩
abbrev main_while6b_v80 : Ref sig .tc := ⟨.hbm, 473, rfl⟩
abbrev main_v44 : Ref sig .tc := ⟨.hbm, 474, rfl⟩

abbrev nD : Nat := 1
abbrev τ : Topo := Topo.v7x

variable {F : FTy → Type} [FloatOps F]

abbrev main_while0_count : Scf.Loop 32 := ⟨0#32, 512#32, 1#32⟩

abbrev main_while1_count : Scf.Loop 32 := ⟨0#32, 512#32, 1#32⟩

abbrev main_while2_count : Scf.Loop 32 := ⟨0#32, 512#32, 1#32⟩

abbrev main_while3_count : Scf.Loop 32 := ⟨0#32, 512#32, 1#32⟩

abbrev main_while4_count : Scf.Loop 32 := ⟨0#32, 512#32, 1#32⟩

abbrev main_while5_count : Scf.Loop 32 := ⟨0#32, 512#32, 1#32⟩

abbrev main_while6_count : Scf.Loop 32 := ⟨0#32, 512#32, 1#32⟩
-- ==== Proof.Same.lean ====
/- The kernel as printed and the kernel idealized are one program text. -/
module

public import proofs.«01_k».proof.Kernel
public import proofs.«01_k».proof.KernelIdeal
public import proofs.«01_k».proof.Proof.Gen.Kernel
public import proofs.«01_k».proof.Proof.Gen.KernelIdeal

@[expose] public section

set_option maxRecDepth 16384

noncomputable section

namespace Cert.Same

open Idealize.ShloMosaic Idealize.SL.Sem

variable {F : FTy → Type} [FloatOps F]

set_option maxHeartbeats 8000000 in
/-- The two programs' compress kernels are one text. -/
theorem compress_same :
    @Cert.Kernel.cc0_sentemb_compress1 F _ Cert.Kernel.Gen.facts = @Cert.KernelIdeal.cc0_sentemb_compress1 F _ Cert.KernelIdeal.Gen.facts := rfl

set_option maxHeartbeats 8000000 in
/-- The two programs' decode kernels are one text. -/
theorem decode_same :
    @Cert.Kernel.cc1_sentemb_decode F _ Cert.Kernel.Gen.facts = @Cert.KernelIdeal.cc1_sentemb_decode F _ Cert.KernelIdeal.Gen.facts := rfl

set_option maxHeartbeats 8000000 in
/-- The two programs' host code is one text. -/
theorem main_same : @Cert.Kernel.main F _ Cert.Kernel.Gen.facts = @Cert.KernelIdeal.main F _ Cert.KernelIdeal.Gen.facts := rfl

end Cert.Same

end
-- ==== Proof.SameDefs.lean ====
/- The two programs' body tables are one text. -/
module

public import proofs.«01_k».proof.Kernel
public import proofs.«01_k».proof.KernelIdeal
public import proofs.«01_k».proof.Proof.Gen.Kernel
public import proofs.«01_k».proof.Proof.Gen.KernelIdeal

@[expose] public section

set_option maxRecDepth 16384

noncomputable section

namespace Cert.Same

open Idealize.ShloMosaic Idealize.SL.Sem

variable {F : FTy → Type} [FloatOps F]

set_option maxHeartbeats 8000000 in
/-- The two programs' tables of kernel bodies are one text. -/
theorem kernels_same : @Cert.Kernel.defs₀ F _ Cert.Kernel.Gen.facts = @Cert.KernelIdeal.defs₀ F _ Cert.KernelIdeal.Gen.facts := by
  funext p l a
  cases p with
  | tc =>
    match l, a with
    | ⟨0, _⟩, (t, s) => exact rfl
    | ⟨1, _⟩, (t, s) => exact rfl
  | _ => rfl

set_option maxHeartbeats 8000000 in
/-- The two programs' body tables are one text. -/
theorem defs_same : @Cert.Kernel.defs F _ Cert.Kernel.Gen.facts = @Cert.KernelIdeal.defs F _ Cert.KernelIdeal.Gen.facts :=
  congrArg (Pipeline.defs (Cert.KernelIdeal.pcfgs (F := F))) kernels_same

end Cert.Same

end
-- ==== Proof.GruOps.lean ====
module

public import proofs.«01_k».proof.KernelIdeal
public import Idealize.ShloMosaic.PureOps.Ideal

/-! The pieces of one time step that the two kernels share: products, biases, the gates, and reading and writing a state. -/

@[expose] public section

set_option maxRecDepth 16384

noncomputable section

namespace Cert.KernelIdeal.Gru

open Idealize.ShloMosaic Idealize.SL.Sem

variable {F : FTy → Type} [FloatOps F]
variable [Facts]
open Facts₀ Facts

/-- A program of the kernel: its effects are the accelerator's. -/
abbrev KProg (F : FTy → Type) [FloatOps F] (α : Type) := Prog (TpuEff nD τ sig (Elt F) Λ₀ .tc) α

/-- The product of a 48×16 weight with a 16×256 operand. -/
def proj16 (w : Memref sig .tc .vmem S48x16 .bf16) (h : FVec F S16x256 .bf16) : KProg F (FVec F S48x256 .f32) := do
  let v : Vec F S48x16 .bf16 ← Prog.lift (.load w (Rect.unit (s := S48x16) ![0, 0] S48x16.size inb_S48x16_S48x16_0_0).toLoadRect (View.loadsAt_vmem h_S48x16))
  have v' : FVec F S48x16 .bf16 := shapeCast S48x16 v shapeCasts_S48x16_S48x16
  have z : FVec F S48x256 .f32 := constant S48x256 .f32 0x00000000#32
  have r : FVec F S48x256 .f32 := matmul dot_S48x16_S16x256_S48x256_1_0_0_1_n_n none v' h z
  pure r

/-- The packed biases of a layer with sixteen units. -/
def bias16 (b : Memref sig .tc .vmem S64x256 .f32) : KProg F (FVec F S64x256 .f32) := do
  let v : Vec F S64x256 .f32 ← Prog.lift (.load b (Rect.unit (s := S64x256) ![0, 0] S64x256.size inb_S64x256_S64x256_0_0).toLoadRect (View.loadsAt_vmem h_S64x256))
  have v' : FVec F S64x256 .f32 := shapeCast S64x256 v shapeCasts_S64x256_S64x256
  pure v'

/-- The gates and the new state of a layer with sixteen units, from its two products, its biases and its state. -/
def cell16 (xd hd : FVec F S48x256 .f32) (b : FVec F S64x256 .f32) (h : FVec F S16x256 .f32) : KProg F (FVec F S16x256 .f32) := do
  have r : FVec F S16x256 .f32 := logistic (addf (extractStridedSlice S16x256 ![0, 0] xd slices_S48x256_o0_0_S16x256)
    (addf (extractStridedSlice S16x256 ![0, 0] hd slices_S48x256_o0_0_S16x256) (extractStridedSlice S16x256 ![0, 0] b slices_S64x256_o0_0_S16x256)))
  have z : FVec F S16x256 .f32 := logistic (addf (extractStridedSlice S16x256 ![16, 0] xd slices_S48x256_o16_0_S16x256)
    (addf (extractStridedSlice S16x256 ![16, 0] hd slices_S48x256_o16_0_S16x256) (extractStridedSlice S16x256 ![16, 0] b slices_S64x256_o16_0_S16x256)))
  have n : FVec F S16x256 .f32 := tanh (addf
    (addf (extractStridedSlice S16x256 ![32, 0] xd slices_S48x256_o32_0_S16x256) (extractStridedSlice S16x256 ![32, 0] b slices_S64x256_o32_0_S16x256))
    (mulf r (addf (extractStridedSlice S16x256 ![32, 0] hd slices_S48x256_o32_0_S16x256) (extractStridedSlice S16x256 ![48, 0] b slices_S64x256_o48_0_S16x256))))
  pure (addf n (mulf z (subf h n)))

/-- The packed biases of a layer with sixty-four units. -/
def bias64 (b : Memref sig .tc .vmem S256x256 .f32) : KProg F (FVec F S256x256 .f32) := do
  let v : Vec F S256x256 .f32 ← Prog.lift (.load b (Rect.unit (s := S256x256) ![0, 0] S256x256.size inb_S256x256_S256x256_0_0).toLoadRect (View.loadsAt_vmem h_S256x256))
  have v' : FVec F S256x256 .f32 := shapeCast S256x256 v shapeCasts_S256x256_S256x256
  pure v'

/-- The gates and the new state of a layer with sixty-four units, from its two products, its biases and its state. -/
def cell64 (xd hd : FVec F S192x256 .f32) (b : FVec F S256x256 .f32) (h : FVec F S64x256 .f32) : KProg F (FVec F S64x256 .f32) := do
  have r : FVec F S64x256 .f32 := logistic (addf (extractStridedSlice S64x256 ![0, 0] xd slices_S192x256_o0_0_S64x256)
    (addf (extractStridedSlice S64x256 ![0, 0] hd slices_S192x256_o0_0_S64x256) (extractStridedSlice S64x256 ![0, 0] b slices_S256x256_o0_0_S64x256)))
  have z : FVec F S64x256 .f32 := logistic (addf (extractStridedSlice S64x256 ![64, 0] xd slices_S192x256_o64_0_S64x256)
    (addf (extractStridedSlice S64x256 ![64, 0] hd slices_S192x256_o64_0_S64x256) (extractStridedSlice S64x256 ![64, 0] b slices_S256x256_o64_0_S64x256)))
  have n : FVec F S64x256 .f32 := tanh (addf
    (addf (extractStridedSlice S64x256 ![128, 0] xd slices_S192x256_o128_0_S64x256) (extractStridedSlice S64x256 ![128, 0] b slices_S256x256_o128_0_S64x256))
    (mulf r (addf (extractStridedSlice S64x256 ![128, 0] hd slices_S192x256_o128_0_S64x256) (extractStridedSlice S64x256 ![192, 0] b slices_S256x256_o192_0_S64x256))))
  pure (addf n (mulf z (subf h n)))

/-- The product of a 192×16 weight with a 16×256 operand. -/
def proj64of16 (w : Memref sig .tc .vmem S192x16 .bf16) (h : FVec F S16x256 .bf16) : KProg F (FVec F S192x256 .f32) := do
  let v : Vec F S192x16 .bf16 ← Prog.lift (.load w (Rect.unit (s := S192x16) ![0, 0] S192x16.size inb_S192x16_S192x16_0_0).toLoadRect (View.loadsAt_vmem h_S192x16))
  have v' : FVec F S192x16 .bf16 := shapeCast S192x16 v shapeCasts_S192x16_S192x16
  have z : FVec F S192x256 .f32 := constant S192x256 .f32 0x00000000#32
  have r : FVec F S192x256 .f32 := matmul dot_S192x16_S16x256_S192x256_1_0_0_1_n_n none v' h z
  pure r

/-- The product of a 192×64 weight with a 64×256 operand. -/
def proj64of64 (w : Memref sig .tc .vmem S192x64 .bf16) (h : FVec F S64x256 .bf16) : KProg F (FVec F S192x256 .f32) := do
  let v : Vec F S192x64 .bf16 ← Prog.lift (.load w (Rect.unit (s := S192x64) ![0, 0] S192x64.size inb_S192x64_S192x64_0_0).toLoadRect (View.loadsAt_vmem h_S192x64))
  have v' : FVec F S192x64 .bf16 := shapeCast S192x64 v shapeCasts_S192x64_S192x64
  have z : FVec F S192x256 .f32 := constant S192x256 .f32 0x00000000#32
  have r : FVec F S192x256 .f32 := matmul dot_S192x64_S64x256_S192x256_1_0_0_1_n_n none v' h z
  pure r

/-- How a step takes over a layer's new state: the number of the step in the block, the new state, the old one. -/
abbrev Upd (F : FTy → Type) [FloatOps F] (s : Shape) := ℕ → FVec F s .f32 → FVec F s .f32 → KProg F (FVec F s .f32)

/-- The new state is taken over. -/
def updAll {s : Shape} : Upd F s := fun _ n _ => pure n
/-- The new state is taken over from time `k` on; a block has `c` steps. -/
def updFrom {s : Shape} (arg0 c k : BitVec 32) : Upd F s := fun d n o => do
  let v : BitVec 32 := Scalar.muli arg0 c
  let e : BitVec 32 := BitVec.ofNat 32 d
  let t : BitVec 32 := Scalar.addi v e
  let b : BitVec 1 := Scalar.cmpi .sge t k
  have r : FVec F s .f32 := Scalar.select b n o
  pure r
/-- The new state is taken over before time `k`; a block has `c` steps. -/
def updBefore {s : Shape} (arg0 c k : BitVec 32) : Upd F s := fun d n o => do
  let v : BitVec 32 := Scalar.muli arg0 c
  let e : BitVec 32 := BitVec.ofNat 32 d
  let t : BitVec 32 := Scalar.addi v e
  let b : BitVec 1 := Scalar.cmpi .slt t k
  have r : FVec F s .f32 := Scalar.select b n o
  pure r

/-- A state with sixteen units is written. -/
def putH (m : Memref sig .tc .vmem S16x256 .f32) (h : FVec F S16x256 .f32) : KProg F PUnit := do
  let o : Vec F S16x256 .f32 ← Prog.lift (.load m (Rect.unit (s := S16x256) ![0, 0] S16x256.size inb_S16x256_S16x256_0_0).toLoadRect (View.loadsAt_vmem h_S16x256))
  Prog.lift (.store m (Rect.unit (s := S16x256) ![0, 0] S16x256.size inb_S16x256_S16x256_0_0) h Finset.univ (View.stores_vmem_bits_univ h_S16x256 rfl) (.inl rfl))

/-- A state with sixteen units is read. -/
def getH (m : Memref sig .tc .vmem S16x256 .f32) : KProg F (FVec F S16x256 .f32) := do
  let v : Vec F S16x256 .f32 ← Prog.lift (.load m (Rect.unit (s := S16x256) ![0, 0] S16x256.size inb_S16x256_S16x256_0_0).toLoadRect (View.loadsAt_vmem h_S16x256))
  have v' : FVec F S16x256 .f32 := shapeCast S16x256 v shapeCasts_S16x256_S16x256
  pure v'

/-- A state with sixteen units is kept for the next block. -/
def keep16 (m : Memref sig .tc .vmem S16x256 .f32) (h : FVec F S16x256 .f32) : KProg F PUnit := do
  let o : Vec F S16x256 .f32 ← Prog.lift (.load m (Rect.unit (s := S16x256) ![0, 0] S16x256.size inb_S16x256_S16x256_0_0).toLoadRect (View.loadsAt_vmem h_S16x256))
  have h' : FVec F S16x256 .f32 := shapeCast S16x256 h shapeCasts_S16x256_S16x256
  Prog.lift (.store m (Rect.unit (s := S16x256) ![0, 0] S16x256.size inb_S16x256_S16x256_0_0) h' Finset.univ (View.stores_vmem_bits_univ h_S16x256 rfl) (.inl rfl))

/-- A kept state with sixteen units is read. -/
def kept16 (m : Memref sig .tc .vmem S16x256 .f32) : KProg F (Vec F S16x256 .f32) :=
  Prog.lift (.load m (Rect.unit (s := S16x256) ![0, 0] S16x256.size inb_S16x256_S16x256_0_0).toLoadRect (View.loadsAt_vmem h_S16x256))

/-- A state with sixty-four units is kept for the next block. -/
def keep64 (m : Memref sig .tc .vmem S64x256 .f32) (h : FVec F S64x256 .f32) : KProg F PUnit := do
  let o : Vec F S64x256 .f32 ← Prog.lift (.load m (Rect.unit (s := S64x256) ![0, 0] S64x256.size inb_S64x256_S64x256_0_0).toLoadRect (View.loadsAt_vmem h_S64x256))
  have h' : FVec F S64x256 .f32 := shapeCast S64x256 h shapeCasts_S64x256_S64x256
  Prog.lift (.store m (Rect.unit (s := S64x256) ![0, 0] S64x256.size inb_S64x256_S64x256_0_0) h' Finset.univ (View.stores_vmem_bits_univ h_S64x256 rfl) (.inl rfl))

/-- A kept state with sixty-four units is read. -/
def kept64 (m : Memref sig .tc .vmem S64x256 .f32) : KProg F (Vec F S64x256 .f32) :=
  Prog.lift (.load m (Rect.unit (s := S64x256) ![0, 0] S64x256.size inb_S64x256_S64x256_0_0).toLoadRect (View.loadsAt_vmem h_S64x256))

end Cert.KernelIdeal.Gru

end
-- ==== Proof.DecodeText.lean ====
module

public import proofs.«01_k».proof.Proof.GruOps
public import Idealize.ShloMosaic.PureOps.Ideal

/-! The decode kernel's body as sixteen time steps: the text of one step, with the row of the window as its parameter, and the
printed body as the steps one after another. -/

@[expose] public section

set_option maxRecDepth 16384

noncomputable section

namespace Cert.KernelIdeal.Gru

open Idealize.ShloMosaic Idealize.SL.Sem

/-- Row `d` of a window of sixteen lies in it. -/
theorem inbD (d : ℕ) (hd : d < 16) : ∀ a, (![d, 0, 0] : Fin 3 → Nat) a + S1x16x256.size a ≤ S16x16x256.size a := by
  intro a; fin_cases a <;> simp <;> omega

variable {F : FTy → Type} [FloatOps F]
variable [Facts]
open Facts₀ Facts

/-- The product of the third layer's weight with row `d` of the window of the second layer's states. -/
def projY (w : Memref sig .tc .vmem S48x16 .bf16) (y : Memref sig .tc .vmem S16x16x256 .bf16) (d : ℕ) (hd : d < 16) :
    KProg F (FVec F S48x256 .f32) := do
  let v : Vec F S48x16 .bf16 ← Prog.lift (.load w (Rect.unit (s := S48x16) ![0, 0] S48x16.size inb_S48x16_S48x16_0_0).toLoadRect (View.loadsAt_vmem h_S48x16))
  have v' : FVec F S48x16 .bf16 := shapeCast S48x16 v shapeCasts_S48x16_S48x16
  let u : Vec F S1x16x256 .bf16 ← Prog.lift (.load y (Rect.unit (s := S16x16x256) ![d, 0, 0] S1x16x256.size (inbD d hd)).toLoadRect (View.loadsAt_vmem h_S1x16x256))
  have u' : FVec F S16x256 .bf16 := shapeCast S16x256 u shapeCasts_S1x16x256_S16x256
  have z : FVec F S48x256 .f32 := constant S48x256 .f32 0x00000000#32
  have r : FVec F S48x256 .f32 := matmul dot_S48x16_S16x256_S48x256_1_0_0_1_n_n none v' u' z
  pure r

/-- The states of the five layers. -/
abbrev Hid (F : FTy → Type) [FloatOps F] :=
  FVec F S16x256 .f32 × FVec F S16x256 .f32 × FVec F S64x256 .f32 × FVec F S64x256 .f32 × FVec F S64x256 .f32

section
variable (arg1 : Memref sig .tc .vmem S16x16x256 .bf16) (arg4 : Memref sig .tc .vmem S48x16 .bf16) (arg5 : Memref sig .tc .vmem S64x256 .f32) (arg6 : Memref sig .tc .vmem S48x16 .bf16) (arg7 : Memref sig .tc .vmem S48x16 .bf16) (arg8 : Memref sig .tc .vmem S64x256 .f32) (arg9 : Memref sig .tc .vmem S48x16 .bf16) (arg10 : Memref sig .tc .vmem S192x16 .bf16) (arg11 : Memref sig .tc .vmem S256x256 .f32) (arg12 : Memref sig .tc .vmem S192x64 .bf16) (arg13 : Memref sig .tc .vmem S192x64 .bf16) (arg14 : Memref sig .tc .vmem S256x256 .f32) (arg15 : Memref sig .tc .vmem S192x64 .bf16) (arg16 : Memref sig .tc .vmem S192x64 .bf16) (arg17 : Memref sig .tc .vmem S256x256 .f32) (arg18 : Memref sig .tc .vmem S192x64 .bf16)

/-- One time step: all five layers from their old states. -/
def dstep (u3 u4 : Upd F S16x256) (u5 u6 u7 : Upd F S64x256) (d : ℕ) (hd : d < 16) (h : Hid F) : KProg F (Hid F) := do
  let (h3, h4, h5, h6, h7) := h
  have h3b : FVec F S16x256 .bf16 := truncf .bf16 h3 bitsLt_bf16_f32
  have h4b : FVec F S16x256 .bf16 := truncf .bf16 h4 bitsLt_bf16_f32
  have h5b : FVec F S64x256 .bf16 := truncf .bf16 h5 bitsLt_bf16_f32
  have h6b : FVec F S64x256 .bf16 := truncf .bf16 h6 bitsLt_bf16_f32
  have h7b : FVec F S64x256 .bf16 := truncf .bf16 h7 bitsLt_bf16_f32
  let x3 ← projY arg4 arg1 d hd
  let g3 ← proj16 arg6 h3b
  let b3 ← bias16 arg5
  let n3 ← cell16 x3 g3 b3 h3
  let x4 ← proj16 arg7 h3b
  let g4 ← proj16 arg9 h4b
  let b4 ← bias16 arg8
  let n4 ← cell16 x4 g4 b4 h4
  let x5 ← proj64of16 arg10 h4b
  let g5 ← proj64of64 arg12 h5b
  let b5 ← bias64 arg11
  let n5 ← cell64 x5 g5 b5 h5
  let x6 ← proj64of64 arg13 h5b
  let g6 ← proj64of64 arg15 h6b
  let b6 ← bias64 arg14
  let n6 ← cell64 x6 g6 b6 h6
  let x7 ← proj64of64 arg16 h6b
  let g7 ← proj64of64 arg18 h7b
  let b7 ← bias64 arg17
  let n7 ← cell64 x7 g7 b7 h7
  let h3' ← u3 d n3 h3
  let h4' ← u4 d n4 h4
  let h5' ← u5 d n5 h5
  let h6' ← u6 d n6 h6
  let h7' ← u7 d n7 h7
  pure (h3', h4', h5', h6', h7')

/-- Time steps one after another. -/
def dsteps (u3 u4 : Upd F S16x256) (u5 u6 u7 : Upd F S64x256) : (l : List ℕ) → (∀ d ∈ l, d < 16) → Hid F → KProg F (Hid F)
  | [], _, h => pure h
  | d :: l, hl, h => do
    let h' ← dstep arg1 arg4 arg5 arg6 arg7 arg8 arg9 arg10 arg11 arg12 arg13 arg14 arg15 arg16 arg17 arg18 u3 u4 u5 u6 u7 d (hl d List.mem_cons_self) h
    dsteps u3 u4 u5 u6 u7 l (fun e he => hl e (List.mem_cons_of_mem _ he)) h'

/-- The sixteen steps of a block. -/
def dblock (u3 u4 : Upd F S16x256) (u5 u6 u7 : Upd F S64x256) (h : Hid F) : KProg F (Hid F) :=
  dsteps arg1 arg4 arg5 arg6 arg7 arg8 arg9 arg10 arg11 arg12 arg13 arg14 arg15 arg16 arg17 arg18 u3 u4 u5 u6 u7 [0, 1, 2, 3, 4, 5, 6, 7, 8, 9, 10, 11, 12, 13, 14, 15] (by decide) h

end

section
variable (arg20 : Memref sig .tc .vmem S16x256 .f32) (arg21 : Memref sig .tc .vmem S16x256 .f32) (arg22 : Memref sig .tc .vmem S64x256 .f32) (arg23 : Memref sig .tc .vmem S64x256 .f32) (arg24 : Memref sig .tc .vmem S64x256 .f32)

/-- The five states are kept for the next block. -/
def keepAll (h : Hid F) : KProg F PUnit := do
  let (h3, h4, h5, h6, h7) := h
  keep16 arg20 h3
  keep16 arg21 h4
  keep64 arg22 h5
  keep64 arg23 h6
  keep64 arg24 h7

/-- The five kept states are read. -/
def keptAll : KProg F (Hid F) := do
  let h3 ← kept16 arg20
  let h4 ← kept16 arg21
  let h5 ← kept64 arg22
  let h6 ← kept64 arg23
  let h7 ← kept64 arg24
  pure (h3, h4, h5, h6, h7)

end

/-- The last block's output: the last layer's state above that of the layer before. -/
def putOut (arg19 : Memref sig .tc .vmem S128x256 .f32) (h : Hid F) : KProg F PUnit := do
  let (h3, h4, h5, h6, h7) := h
  let o : Vec F S64x256 .f32 ← Prog.lift (.load arg19 (Rect.unit (s := S128x256) ![0, 0] S64x256.size inb_S128x256_S64x256_0_0).toLoadRect (View.loadsAt_vmem h_S64x256))
  Prog.lift (.store arg19 (Rect.unit (s := S128x256) ![0, 0] S64x256.size inb_S128x256_S64x256_0_0) h7 Finset.univ (View.stores_vmem_bits_univ h_S64x256 rfl) (.inl rfl))
  let o : Vec F S64x256 .f32 ← Prog.lift (.load arg19 (Rect.unit (s := S128x256) ![64, 0] S64x256.size inb_S128x256_S64x256_64_0).toLoadRect (View.loadsAt_vmem h_S64x256))
  Prog.lift (.store arg19 (Rect.unit (s := S128x256) ![64, 0] S64x256.size inb_S128x256_S64x256_64_0) h6 Finset.univ (View.stores_vmem_bits_univ h_S64x256 rfl) (.inl rfl))

/-- The body: one block, in the way of its place on the grid. -/
def decodeBody (i : grid1.Coords) (arg1 : Memref sig .tc .vmem S16x16x256 .bf16) (harg1 : arg1.IsWhole) (arg2 : Memref sig .tc .vmem S16x256 .f32) (harg2 : arg2.IsWhole) (arg3 : Memref sig .tc .vmem S16x256 .f32) (harg3 : arg3.IsWhole) (arg4 : Memref sig .tc .vmem S48x16 .bf16) (harg4 : arg4.IsWhole) (arg5 : Memref sig .tc .vmem S64x256 .f32) (harg5 : arg5.IsWhole) (arg6 : Memref sig .tc .vmem S48x16 .bf16) (harg6 : arg6.IsWhole) (arg7 : Memref sig .tc .vmem S48x16 .bf16) (harg7 : arg7.IsWhole) (arg8 : Memref sig .tc .vmem S64x256 .f32) (harg8 : arg8.IsWhole) (arg9 : Memref sig .tc .vmem S48x16 .bf16) (harg9 : arg9.IsWhole) (arg10 : Memref sig .tc .vmem S192x16 .bf16) (harg10 : arg10.IsWhole) (arg11 : Memref sig .tc .vmem S256x256 .f32) (harg11 : arg11.IsWhole) (arg12 : Memref sig .tc .vmem S192x64 .bf16) (harg12 : arg12.IsWhole) (arg13 : Memref sig .tc .vmem S192x64 .bf16) (harg13 : arg13.IsWhole) (arg14 : Memref sig .tc .vmem S256x256 .f32) (harg14 : arg14.IsWhole) (arg15 : Memref sig .tc .vmem S192x64 .bf16) (harg15 : arg15.IsWhole) (arg16 : Memref sig .tc .vmem S192x64 .bf16) (harg16 : arg16.IsWhole) (arg17 : Memref sig .tc .vmem S256x256 .f32) (harg17 : arg17.IsWhole) (arg18 : Memref sig .tc .vmem S192x64 .bf16) (harg18 : arg18.IsWhole) (arg19 : Memref sig .tc .vmem S128x256 .f32) (harg19 : arg19.IsWhole) (arg20 : Memref sig .tc .vmem S16x256 .f32) (harg20 : arg20.IsWhole) (arg21 : Memref sig .tc .vmem S16x256 .f32) (harg21 : arg21.IsWhole) (arg22 : Memref sig .tc .vmem S64x256 .f32) (harg22 : arg22.IsWhole) (arg23 : Memref sig .tc .vmem S64x256 .f32) (harg23 : arg23.IsWhole) (arg24 : Memref sig .tc .vmem S64x256 .f32) (harg24 : arg24.IsWhole) : KProg F PUnit := do
  let arg0 : BitVec 32 := BitVec.ofNat 32 (i 0).val
  let v0 : BitVec 1 := Scalar.cmpi .eq arg0 0#32
  let v1 : BitVec 32 := Scalar.extui v0
  let v2 : BitVec 1 := Scalar.cmpi .ne v1 0#32
  if k1_h1 : v2 = 1#1 then do
    let h3 ← getH arg2
    let h4 ← getH arg3
    have c5 : F .f32 := Scalar.ofBits .f32 0x00000000#32
    have h5 : FVec F S64x256 .f32 := broadcast S64x256 c5
    let h ← dblock arg1 arg4 arg5 arg6 arg7 arg8 arg9 arg10 arg11 arg12 arg13 arg14 arg15 arg16 arg17 arg18 (updFrom arg0 16#32 1#32) (updFrom arg0 16#32 2#32) (updFrom arg0 16#32 3#32) (updFrom arg0 16#32 4#32) (updFrom arg0 16#32 5#32) (h3, h4, h5, h5, h5)
    keepAll arg20 arg21 arg22 arg23 arg24 h
    pure ⟨⟩
  else pure ⟨⟩
  let v3 : BitVec 1 := Scalar.cmpi .sgt arg0 0#32
  let v4 : BitVec 1 := Scalar.cmpi .slt arg0 32#32
  let v5 : BitVec 1 := Scalar.andi v3 v4
  let v6 : BitVec 32 := Scalar.extui v5
  let v7 : BitVec 1 := Scalar.cmpi .ne v6 0#32
  if k1_h2 : v7 = 1#1 then do
    let h ← keptAll arg20 arg21 arg22 arg23 arg24
    let h ← dblock arg1 arg4 arg5 arg6 arg7 arg8 arg9 arg10 arg11 arg12 arg13 arg14 arg15 arg16 arg17 arg18 updAll updAll updAll updAll updAll h
    keepAll arg20 arg21 arg22 arg23 arg24 h
    pure ⟨⟩
  else pure ⟨⟩
  if k1_h3 : k1_cond3 i = 1#1 then do
    let h ← keptAll arg20 arg21 arg22 arg23 arg24
    let h ← dblock arg1 arg4 arg5 arg6 arg7 arg8 arg9 arg10 arg11 arg12 arg13 arg14 arg15 arg16 arg17 arg18 (updBefore arg0 16#32 513#32) (updBefore arg0 16#32 514#32) (updBefore arg0 16#32 515#32) (updBefore arg0 16#32 516#32) (updBefore arg0 16#32 517#32) h
    keepAll arg20 arg21 arg22 arg23 arg24 h
    putOut arg19 h
    pure ⟨⟩
  else pure ⟨⟩

end Cert.KernelIdeal.Gru

end
-- ==== Proof.CompressText.lean ====
module

public import proofs.«01_k».proof.Proof.GruOps
public import Idealize.ShloMosaic.PureOps.Ideal

/-! The compress kernel's body as thirty-two time steps: the text of one step, with the row of the window as its parameter, and the
printed body as the steps one after another. -/

@[expose] public section

set_option maxRecDepth 16384

noncomputable section

namespace Cert.KernelIdeal.Gru

open Idealize.ShloMosaic Idealize.SL.Sem

/-- Row `d` of a window of thirty-two lies in it. -/
theorem inbX (d : ℕ) (hd : d < 32) : ∀ a, (![d, 0, 0] : Fin 3 → Nat) a + S1x256x300.size a ≤ S32x256x300.size a := by
  intro a; fin_cases a <;> simp <;> omega

/-- Row `d` of a window of thirty-two lies in it. -/
theorem inbY (d : ℕ) (hd : d < 32) : ∀ a, (![d, 0, 0] : Fin 3 → Nat) a + S1x16x256.size a ≤ S32x16x256.size a := by
  intro a; fin_cases a <;> simp <;> omega

/-- A whole row is made of whole packed words. -/
theorem packY (d : ℕ) (hd : d < 32) :
    (Rect.unit (s := S32x16x256) ![d, 0, 0] S1x16x256.size (inbY d hd)).PackedRows (EltTy.packing .bf16) := by
  have h : ∀ e : Fin 32, (Rect.unit (s := S32x16x256) ![e.val, 0, 0] S1x16x256.size (inbY e.val e.isLt)).PackedRows (EltTy.packing .bf16) := by
    decide
  exact h ⟨d, hd⟩

variable {F : FTy → Type} [FloatOps F]
variable [Facts]
open Facts₀ Facts

/-- The product of the first layer's weight with row `d` of the window of inputs. -/
def projX (w : Memref sig .tc .vmem S48x300 .bf16) (x : Memref sig .tc .vmem S32x256x300 .f32) (d : ℕ) (hd : d < 32) :
    KProg F (FVec F S48x256 .f32) := do
  let v : Vec F S48x300 .bf16 ← Prog.lift (.load w (Rect.unit (s := S48x300) ![0, 0] S48x300.size inb_S48x300_S48x300_0_0).toLoadRect (View.loadsAt_vmem h_S48x300))
  have v' : FVec F S48x300 .bf16 := shapeCast S48x300 v shapeCasts_S48x300_S48x300
  let u : Vec F S1x256x300 .f32 ← Prog.lift (.load x (Rect.unit (s := S32x256x300) ![d, 0, 0] S1x256x300.size (inbX d hd)).toLoadRect (View.loadsAt_vmem h_S1x256x300))
  have u' : FVec F S256x300 .f32 := shapeCast S256x300 u shapeCasts_S1x256x300_S256x300
  have u'' : FVec F S256x300 .bf16 := truncf .bf16 u' bitsLt_bf16_f32
  have z : FVec F S48x256 .f32 := constant S48x256 .f32 0x00000000#32
  have r : FVec F S48x256 .f32 := matmul dot_S48x300_S256x300_S48x256_1_1_0_0_n_n none v' u'' z
  pure r

/-- Row `d` of the window of outputs becomes `v`. -/
def putY (y : Memref sig .tc .vmem S32x16x256 .bf16) (hy : y.IsWhole) (d : ℕ) (hd : d < 32) (h : FVec F S16x256 .f32) :
    KProg F PUnit := do
  have v : FVec F S16x256 .bf16 := truncf .bf16 h bitsLt_bf16_f32
  let o : Vec F S1x16x256 .bf16 ← Prog.lift (.load y (Rect.unit (s := S32x16x256) ![d, 0, 0] S1x16x256.size (inbY d hd)).toLoadRect (View.loadsAt_vmem h_S1x16x256))
  have v' : FVec F S1x16x256 .bf16 := shapeCast S1x16x256 v shapeCasts_S16x256_S1x16x256
  Prog.lift (.store y (Rect.unit (s := S32x16x256) ![d, 0, 0] S1x16x256.size (inbY d hd)) v' Finset.univ (View.stores_vmem h_S1x16x256 (hy.storeExact_slice rfl _ (packY d hd)) (fun _ => rfl)) (.inl rfl))

section
variable (arg1 : Memref sig .tc .vmem S32x256x300 .f32) (arg2 : Memref sig .tc .vmem S48x300 .bf16) (arg3 : Memref sig .tc .vmem S64x256 .f32) (arg4 : Memref sig .tc .vmem S48x16 .bf16) (arg5 : Memref sig .tc .vmem S48x16 .bf16) (arg6 : Memref sig .tc .vmem S64x256 .f32) (arg7 : Memref sig .tc .vmem S48x16 .bf16) (arg8 : Memref sig .tc .vmem S32x16x256 .bf16) (harg8 : arg8.IsWhole) (arg9 : Memref sig .tc .vmem S16x256 .f32) (arg10 : Memref sig .tc .vmem S16x256 .f32)

/-- One time step: both layers from their old states. -/
def step (u1 u2 : Upd F S16x256) (d : ℕ) (hd : d < 32) (h1 h2 : FVec F S16x256 .f32) : KProg F (FVec F S16x256 .f32 × FVec F S16x256 .f32) := do
  have h1b : FVec F S16x256 .bf16 := truncf .bf16 h1 bitsLt_bf16_f32
  have h2b : FVec F S16x256 .bf16 := truncf .bf16 h2 bitsLt_bf16_f32
  let x1 ← projX arg2 arg1 d hd
  let g1 ← proj16 arg4 h1b
  let b1 ← bias16 arg3
  let n1 ← cell16 x1 g1 b1 h1
  let x2 ← proj16 arg5 h1b
  let g2 ← proj16 arg7 h2b
  let b2 ← bias16 arg6
  let n2 ← cell16 x2 g2 b2 h2
  let h1' ← u1 d n1 h1
  let h2' ← u2 d n2 h2
  putY arg8 harg8 d hd n2
  pure (h1', h2')

/-- Time steps one after another. -/
def steps (u1 u2 : Upd F S16x256) : (l : List ℕ) → (∀ d ∈ l, d < 32) → FVec F S16x256 .f32 → FVec F S16x256 .f32 →
    KProg F (FVec F S16x256 .f32 × FVec F S16x256 .f32)
  | [], _, h1, h2 => pure (h1, h2)
  | d :: l, hl, h1, h2 => do
    let (h1', h2') ← step arg1 arg2 arg3 arg4 arg5 arg6 arg7 arg8 harg8 u1 u2 d (hl d List.mem_cons_self) h1 h2
    steps u1 u2 l (fun e he => hl e (List.mem_cons_of_mem _ he)) h1' h2'

/-- A block: the thirty-two steps from two states, then the two states written. -/
def block (u1 u2 : Upd F S16x256) (h1 h2 : FVec F S16x256 .f32) : KProg F PUnit := do
  let (h1', h2') ← steps arg1 arg2 arg3 arg4 arg5 arg6 arg7 arg8 harg8 u1 u2
    [0, 1, 2, 3, 4, 5, 6, 7, 8, 9, 10, 11, 12, 13, 14, 15, 16, 17, 18, 19, 20, 21, 22, 23, 24, 25, 26, 27, 28, 29, 30, 31] (by decide) h1 h2
  putH arg9 h1'
  putH arg10 h2'
  pure ⟨⟩

end

/-- The body: one block, in the way of its place on the grid. -/
def compressBody (i : grid0.Coords) (arg1 : Memref sig .tc .vmem S32x256x300 .f32) (harg1 : arg1.IsWhole) (arg2 : Memref sig .tc .vmem S48x300 .bf16) (harg2 : arg2.IsWhole) (arg3 : Memref sig .tc .vmem S64x256 .f32) (harg3 : arg3.IsWhole) (arg4 : Memref sig .tc .vmem S48x16 .bf16) (harg4 : arg4.IsWhole) (arg5 : Memref sig .tc .vmem S48x16 .bf16) (harg5 : arg5.IsWhole) (arg6 : Memref sig .tc .vmem S64x256 .f32) (harg6 : arg6.IsWhole) (arg7 : Memref sig .tc .vmem S48x16 .bf16) (harg7 : arg7.IsWhole) (arg8 : Memref sig .tc .vmem S32x16x256 .bf16) (harg8 : arg8.IsWhole) (arg9 : Memref sig .tc .vmem S16x256 .f32) (harg9 : arg9.IsWhole) (arg10 : Memref sig .tc .vmem S16x256 .f32) (harg10 : arg10.IsWhole) : KProg F PUnit := do
  let arg0 : BitVec 32 := BitVec.ofNat 32 (i 0).val
  if k0_h1 : k0_cond1 i = 1#1 then do
    have c1 : F .f32 := Scalar.ofBits .f32 0x00000000#32
    have z1 : FVec F S16x256 .f32 := broadcast S16x256 c1
    have c2 : F .f32 := Scalar.ofBits .f32 0x00000000#32
    have z2 : FVec F S16x256 .f32 := broadcast S16x256 c2
    block arg1 arg2 arg3 arg4 arg5 arg6 arg7 arg8 harg8 arg9 arg10 updAll (updFrom arg0 32#32 1#32) z1 z2
  else pure ⟨⟩
  if k0_h2 : k0_cond2 i = 1#1 then do
    let h1 ← getH arg9
    let h2 ← getH arg10
    block arg1 arg2 arg3 arg4 arg5 arg6 arg7 arg8 harg8 arg9 arg10 updAll updAll h1 h2
  else pure ⟨⟩
  if k0_h3 : k0_cond3 i = 1#1 then do
    let h1 ← getH arg9
    let h2 ← getH arg10
    block arg1 arg2 arg3 arg4 arg5 arg6 arg7 arg8 harg8 arg9 arg10 (updBefore arg0 32#32 512#32) (updBefore arg0 32#32 513#32) h1 h2
  else pure ⟨⟩

end Cert.KernelIdeal.Gru

end
-- ==== Proof.Triples.lean ====
/- What the pieces of a time step do to the buffers they read and write. A resource `P` stands for all the buffers a program may
touch; `Does c P p v P'` says that `p` from `P` ends with the value `v` and the resource `P'`. -/
module

public import proofs.«01_k».proof.Proof.GruOps
public import proofs.«01_k».proof.Proof.Gen.KernelIdeal.Launch
public import Idealize.ShloMosaic.Lib.Pipeline.FrameBody
public import Idealize.ShloMosaic.Lib.VecWindow
public import Idealize.ShloMosaic.Lib.Tactic

@[expose] public section

set_option maxRecDepth 16384

noncomputable section

namespace Cert.KernelIdeal.Gru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The assertions over the kernels' buffers. -/
abbrev SProp (F : FTy → Type) := sProp (MT nD τ sig Unit (Elt F) ℕ (UR sig nD τ) ℕ)

section Rules
variable [Facts] (c : Dev nD)

/-- From `P` the program ends with `v` and `P'`. -/
def Does (P : SProp F) {α : Type} (p : KProg F α) (v : α) (P' : SProp F) : Prop :=
  ∀ Q : α → SProp F, iprop(P ∗ (P' -∗ Q v)) ⊢ wp frame (wpE (defs₀ (F := F)) Variants.none c none) Set.univ p Q

variable {c}

theorem Does.pure {P : SProp F} {α : Type} (v : α) : Does c P (Pure.pure v : KProg F α) v P := fun Q => by
  rw [wp_pure]
  iintro ⟨HP, Hk⟩
  imodintro
  iapply Hk; iexact HP

theorem Does.bind {P P' P'' : SProp F} {α β : Type} {p : KProg F α} {k : α → KProg F β} {v : α} {w : β}
    (h : Does c P p v P') (h' : Does c P' (k v) w P'') : Does c P (p >>= k) w P'' := fun Q => by
  rw [wp_bind]
  refine BIBase.Entails.trans ?_ (h _)
  iintro ⟨HP, Hk⟩
  isplitl [HP]; · iexact HP
  iintro HP'
  iapply (h' Q)
  isplitl [HP'] <;> iassumption

/-- A memref's contents can be taken out of `P` and put back. -/
def Holds (c : Dev nD) (P : SProp F) {sp : Space} {s : Shape} {e : EltTy} (m : Memref sig .tc sp s e) (X : s.Idx → Elt F e) : Prop :=
  P ⊢ iprop(owns (c : Thread nD τ) m fullShare X ∗ (owns (c : Thread nD τ) m fullShare X -∗ P))

/-- A memref's contents can be taken out of `P`, and with other contents put back they give `P'`. -/
def Swaps (c : Dev nD) (P P' : SProp F) {sp : Space} {s : Shape} {e : EltTy} (m : Memref sig .tc sp s e) (X X' : s.Idx → Elt F e) : Prop :=
  P ⊢ iprop(owns (c : Thread nD τ) m fullShare X ∗ (owns (c : Thread nD τ) m fullShare X' -∗ P'))

theorem Does.load {P : SProp F} {cs : CoreSpace} {s : Shape} {e : EltTy} {m : Memref sig .tc cs s e} {X : s.Idx → Elt F e}
    (h : Holds c P m X) {off size : Fin s.rank → ℕ} {inb : ∀ a, off a + size a ≤ s.size a} {hl : m.view.LoadsAt (Rect.unit off size inb).toLoadRect} :
    Does c P (Prog.lift (.load m (Rect.unit off size inb).toLoadRect hl) : KProg F _) (VecWindow.window X off size inb) P := fun Q => by
  refine BIBase.Entails.trans (sep_mono h .rfl) ?_
  unfold owns
  iintro ⟨⟨⟨%f, %hf, Hm⟩, HP⟩, Hk⟩
  iapply (wp_load (defs := defs₀ (F := F)) Variants.none (c : Thread nD τ) none Set.univ (m := m) (hl := hl) (S := m.view.set)
    (by rw [View.setOn, ← View.set_slice]; exact View.set_slice_subset m.view (Rect.unit off size inb))) $$ Hm
  iintro Hm
  rw [View.readAt_unit m.view f inb rfl inb, hf]
  rw [show ∀ x, (Prog.ret x : KProg F _) = Pure.pure x from fun _ => rfl, wp_pure]
  imodintro
  iapply Hk
  iapply HP
  iexists f
  isplitr; · ipureintro; exact hf
  iexact Hm

theorem Does.store {P P' : SProp F} {cs : CoreSpace} {s : Shape} {e : EltTy} {m : Memref sig .tc cs s e} {X : s.Idx → Elt F e}
    {off size : Fin s.rank → ℕ} {inb : ∀ a, off a + size a ≤ s.size a} {w : (Rect.unit off size inb).shape.Idx → Elt F e}
    (h : Swaps c P P' m X (VecWindow.put X off size w)) {hx} {hm} :
    Does c P (Prog.lift (.store m (Rect.unit off size inb) w Finset.univ hx hm) : KProg F _) ⟨⟩ P' := fun Q => by
  refine BIBase.Entails.trans (sep_mono h .rfl) ?_
  unfold owns
  iintro ⟨⟨⟨%f, %hf, Hm⟩, HP⟩, Hk⟩
  iapply (wp_store (defs := defs₀ (F := F)) Variants.none (c : Thread nD τ) none Set.univ (m := m) (hx := hx) (hm := hm) (S := m.view.set)
    (by rw [View.setOn_univ]; exact View.set_slice_subset m.view (Rect.unit off size inb))) $$ Hm
  iintro Hm
  rw [show ∀ x, (Prog.ret x : KProg F _) = Pure.pure x from fun _ => rfl, wp_pure]
  imodintro
  iapply Hk
  iapply HP
  iexists _
  isplitr; swap; · iexact Hm
  ipureintro
  have := View.read_writes_cons_put (Val := Elt F) m.view f inb w [] rfl
  rw [View.writes_nil, hf] at this
  exact this

/-- A window of the whole shape is the contents. -/
theorem window_full {s : Shape} {α : Type} (X : s.Idx → α) {off : Fin s.rank → ℕ} (inb : ∀ a, off a + s.size a ≤ s.size a) :
    VecWindow.window X off s.size inb = X :=
  funext fun y => congrArg X (funext fun a => Fin.ext (by
    show off a + 1 * (y a).val = (y a).val
    have := inb a; omega))

/-- What is put over the whole shape replaces the contents. -/
theorem put_full {s : Shape} {α : Type} (X w : s.Idx → α) {off : Fin s.rank → ℕ} (inb : ∀ a, off a + s.size a ≤ s.size a) :
    VecWindow.put X off s.size w = w := by
  have h := VecWindow.window_put_same X off s.size inb w
  exact (window_full (VecWindow.put X off s.size w) inb).symm.trans h

theorem Does.loadFull {P : SProp F} {cs : CoreSpace} {s : Shape} {e : EltTy} {m : Memref sig .tc cs s e} {X : s.Idx → Elt F e}
    (h : Holds c P m X) {off : Fin s.rank → ℕ} {inb : ∀ a, off a + s.size a ≤ s.size a} {hl : m.view.LoadsAt (Rect.unit off s.size inb).toLoadRect} :
    Does c P (Prog.lift (.load m (Rect.unit off s.size inb).toLoadRect hl) : KProg F _) X P := by
  have h' := Does.load h (inb := inb) (hl := hl)
  rw [window_full X inb] at h'
  exact h'

theorem Does.storeFull {P P' : SProp F} {cs : CoreSpace} {s : Shape} {e : EltTy} {m : Memref sig .tc cs s e} {X : s.Idx → Elt F e}
    {off : Fin s.rank → ℕ} {inb : ∀ a, off a + s.size a ≤ s.size a} {w : s.Idx → Elt F e}
    (h : Swaps c P P' m X w) {hx} {hm} :
    Does c P (Prog.lift (.store m (Rect.unit off s.size inb) w Finset.univ hx hm) : KProg F _) ⟨⟩ P' :=
  Does.store (X := X) (by rw [put_full X w inb]; exact h)

end Rules

end Cert.KernelIdeal.Gru

end
-- ==== Proof.StepValues.lean ====
/- The values of the pieces of a time step, and that the pieces compute them. -/
module

public import proofs.«01_k».proof.Proof.Triples

@[expose] public section

set_option maxRecDepth 16384

noncomputable section

namespace Cert.KernelIdeal.Gru

open Idealize.ShloMosaic Idealize.ShloMosaic.TcCoe
open Idealize.SL Idealize.SL.BI Idealize.SL.Sem

variable {F : FTy → Type} [FloatOps F]
variable [Facts]
open Facts₀ Facts

/-- A product of a 48×16 weight with a 16×256 operand. -/
def proj16V (w : FVec F S48x16 .bf16) (h : FVec F S16x256 .bf16) : FVec F S48x256 .f32 :=
  matmul dot_S48x16_S16x256_S48x256_1_0_0_1_n_n none (shapeCast S48x16 w shapeCasts_S48x16_S48x16) h (constant S48x256 .f32 0x00000000#32)

/-- A product of a 192×16 weight with a 16×256 operand. -/
def proj64of16V (w : FVec F S192x16 .bf16) (h : FVec F S16x256 .bf16) : FVec F S192x256 .f32 :=
  matmul dot_S192x16_S16x256_S192x256_1_0_0_1_n_n none (shapeCast S192x16 w shapeCasts_S192x16_S192x16) h (constant S192x256 .f32 0x00000000#32)

/-- A product of a 192×64 weight with a 64×256 operand. -/
def proj64of64V (w : FVec F S192x64 .bf16) (h : FVec F S64x256 .bf16) : FVec F S192x256 .f32 :=
  matmul dot_S192x64_S64x256_S192x256_1_0_0_1_n_n none (shapeCast S192x64 w shapeCasts_S192x64_S192x64) h (constant S192x256 .f32 0x00000000#32)

/-- The product of the first layer's weight with one time's inputs. -/
def projXV (w : FVec F S48x300 .bf16) (x : FVec F S1x256x300 .f32) : FVec F S48x256 .f32 :=
  matmul dot_S48x300_S256x300_S48x256_1_1_0_0_n_n none (shapeCast S48x300 w shapeCasts_S48x300_S48x300)
    (truncf .bf16 (shapeCast S256x300 x shapeCasts_S1x256x300_S256x300) bitsLt_bf16_f32) (constant S48x256 .f32 0x00000000#32)

/-- The product of the third layer's weight with one time's states of the second layer. -/
def projYV (w : FVec F S48x16 .bf16) (y : FVec F S1x16x256 .bf16) : FVec F S48x256 .f32 :=
  matmul dot_S48x16_S16x256_S48x256_1_0_0_1_n_n none (shapeCast S48x16 w shapeCasts_S48x16_S48x16)
    (shapeCast S16x256 y shapeCasts_S1x16x256_S16x256) (constant S48x256 .f32 0x00000000#32)

/-- The new state of a layer with sixteen units. -/
def cell16V (xd hd : FVec F S48x256 .f32) (b : FVec F S64x256 .f32) (h : FVec F S16x256 .f32) : FVec F S16x256 .f32 :=
  let r : FVec F S16x256 .f32 := logistic (addf (extractStridedSlice S16x256 ![0, 0] xd slices_S48x256_o0_0_S16x256)
    (addf (extractStridedSlice S16x256 ![0, 0] hd slices_S48x256_o0_0_S16x256) (extractStridedSlice S16x256 ![0, 0] b slices_S64x256_o0_0_S16x256)))
  let z : FVec F S16x256 .f32 := logistic (addf (extractStridedSlice S16x256 ![16, 0] xd slices_S48x256_o16_0_S16x256)
    (addf (extractStridedSlice S16x256 ![16, 0] hd slices_S48x256_o16_0_S16x256) (extractStridedSlice S16x256 ![16, 0] b slices_S64x256_o16_0_S16x256)))
  let n : FVec F S16x256 .f32 := tanh (addf
    (addf (extractStridedSlice S16x256 ![32, 0] xd slices_S48x256_o32_0_S16x256) (extractStridedSlice S16x256 ![32, 0] b slices_S64x256_o32_0_S16x256))
    (mulf r (addf (extractStridedSlice S16x256 ![32, 0] hd slices_S48x256_o32_0_S16x256) (extractStridedSlice S16x256 ![48, 0] b slices_S64x256_o48_0_S16x256))))
  addf n (mulf z (subf h n))

/-- The new state of a layer with sixty-four units. -/
def cell64V (xd hd : FVec F S192x256 .f32) (b : FVec F S256x256 .f32) (h : FVec F S64x256 .f32) : FVec F S64x256 .f32 :=
  let r : FVec F S64x256 .f32 := logistic (addf (extractStridedSlice S64x256 ![0, 0] xd slices_S192x256_o0_0_S64x256)
    (addf (extractStridedSlice S64x256 ![0, 0] hd slices_S192x256_o0_0_S64x256) (extractStridedSlice S64x256 ![0, 0] b slices_S256x256_o0_0_S64x256)))
  let z : FVec F S64x256 .f32 := logistic (addf (extractStridedSlice S64x256 ![64, 0] xd slices_S192x256_o64_0_S64x256)
    (addf (extractStridedSlice S64x256 ![64, 0] hd slices_S192x256_o64_0_S64x256) (extractStridedSlice S64x256 ![64, 0] b slices_S256x256_o64_0_S64x256)))
  let n : FVec F S64x256 .f32 := tanh (addf
    (addf (extractStridedSlice S64x256 ![128, 0] xd slices_S192x256_o128_0_S64x256) (extractStridedSlice S64x256 ![128, 0] b slices_S256x256_o128_0_S64x256))
    (mulf r (addf (extractStridedSlice S64x256 ![128, 0] hd slices_S192x256_o128_0_S64x256) (extractStridedSlice S64x256 ![192, 0] b slices_S256x256_o192_0_S64x256))))
  addf n (mulf z (subf h n))

variable {c : Dev nD} {P P' : SProp F}

theorem does_cell16 (xd hd : FVec F S48x256 .f32) (b : FVec F S64x256 .f32) (h : FVec F S16x256 .f32) :
    Does c P (cell16 xd hd b h) (cell16V xd hd b h) P := Does.pure _

theorem does_cell64 (xd hd : FVec F S192x256 .f32) (b : FVec F S256x256 .f32) (h : FVec F S64x256 .f32) :
    Does c P (cell64 xd hd b h) (cell64V xd hd b h) P := Does.pure _

theorem does_proj16 {m : Memref sig .tc .vmem S48x16 .bf16} {W : FVec F S48x16 .bf16} (hm : Holds c P m W) (h : FVec F S16x256 .bf16) :
    Does c P (proj16 m h) (proj16V W h) P := (Does.loadFull hm).bind (Does.pure _)

theorem does_proj64of16 {m : Memref sig .tc .vmem S192x16 .bf16} {W : FVec F S192x16 .bf16} (hm : Holds c P m W) (h : FVec F S16x256 .bf16) :
    Does c P (proj64of16 m h) (proj64of16V W h) P := (Does.loadFull hm).bind (Does.pure _)

theorem does_proj64of64 {m : Memref sig .tc .vmem S192x64 .bf16} {W : FVec F S192x64 .bf16} (hm : Holds c P m W) (h : FVec F S64x256 .bf16) :
    Does c P (proj64of64 m h) (proj64of64V W h) P := (Does.loadFull hm).bind (Does.pure _)

theorem does_bias16 {m : Memref sig .tc .vmem S64x256 .f32} {B : FVec F S64x256 .f32} (hm : Holds c P m B) :
    Does c P (bias16 m) (shapeCast S64x256 B shapeCasts_S64x256_S64x256) P := (Does.loadFull hm).bind (Does.pure _)

theorem does_bias64 {m : Memref sig .tc .vmem S256x256 .f32} {B : FVec F S256x256 .f32} (hm : Holds c P m B) :
    Does c P (bias64 m) (shapeCast S256x256 B shapeCasts_S256x256_S256x256) P := (Does.loadFull hm).bind (Does.pure _)

theorem does_getH {m : Memref sig .tc .vmem S16x256 .f32} {H : FVec F S16x256 .f32} (hm : Holds c P m H) :
    Does c P (getH m) (shapeCast S16x256 H shapeCasts_S16x256_S16x256) P := (Does.loadFull hm).bind (Does.pure _)

theorem does_kept16 {m : Memref sig .tc .vmem S16x256 .f32} {H : FVec F S16x256 .f32} (hm : Holds c P m H) :
    Does c P (kept16 m) H P := Does.loadFull hm

theorem does_kept64 {m : Memref sig .tc .vmem S64x256 .f32} {H : FVec F S64x256 .f32} (hm : Holds c P m H) :
    Does c P (kept64 m) H P := Does.loadFull hm

theorem does_putH {m : Memref sig .tc .vmem S16x256 .f32} {O H : FVec F S16x256 .f32} (hm : Holds c P m O) (hs : Swaps c P P' m O H) :
    Does c P (putH m H) ⟨⟩ P' := (Does.loadFull hm).bind (Does.storeFull hs)

theorem does_keep16 {m : Memref sig .tc .vmem S16x256 .f32} {O H : FVec F S16x256 .f32} (hm : Holds c P m O)
    (hs : Swaps c P P' m O (shapeCast S16x256 H shapeCasts_S16x256_S16x256)) :
    Does c P (keep16 m H) ⟨⟩ P' := (Does.loadFull hm).bind (Does.storeFull hs)

theorem does_keep64 {m : Memref sig .tc .vmem S64x256 .f32} {O H : FVec F S64x256 .f32} (hm : Holds c P m O)
    (hs : Swaps c P P' m O (shapeCast S64x256 H shapeCasts_S64x256_S64x256)) :
    Does c P (keep64 m H) ⟨⟩ P' := (Does.loadFull hm).bind (Does.storeFull hs)

/-- The value an update takes over. -/
abbrev UpdV (F : FTy → Type) [FloatOps F] (s : Shape) := ℕ → FVec F s .f32 → FVec F s .f32 → FVec F s .f32

/-- The update `u` takes over what `p` says. -/
def Takes {s : Shape} (u : Upd F s) (p : UpdV F s) (N : ℕ) : Prop := ∀ d, d < N → ∀ n o, u d n o = pure (p d n o)

theorem takes_all {s : Shape} (N : ℕ) : Takes (F := F) (updAll (s := s)) (fun _ n _ => n) N := fun _ _ _ _ => rfl

theorem takes_from {s : Shape} (b C k N : ℕ) (h : ∀ d, d < N →
    Scalar.cmpi .sge (Scalar.addi (Scalar.muli (BitVec.ofNat 32 b) (BitVec.ofNat 32 C)) (BitVec.ofNat 32 d)) (BitVec.ofNat 32 k) = BitVec.ofBool (decide (k ≤ C * b + d))) :
    Takes (F := F) (updFrom (s := s) (BitVec.ofNat 32 b) (BitVec.ofNat 32 C) (BitVec.ofNat 32 k)) (fun d n o => if k ≤ C * b + d then n else o) N := fun d hd n o => by
  show (pure (Scalar.select (Scalar.cmpi .sge (Scalar.addi (Scalar.muli (BitVec.ofNat 32 b) (BitVec.ofNat 32 C)) (BitVec.ofNat 32 d)) (BitVec.ofNat 32 k)) n o) : KProg F _) = _
  rw [h d hd]
  by_cases hk : k ≤ C * b + d <;> simp [hk, Scalar.select]

theorem takes_before {s : Shape} (b C k N : ℕ) (h : ∀ d, d < N →
    Scalar.cmpi .slt (Scalar.addi (Scalar.muli (BitVec.ofNat 32 b) (BitVec.ofNat 32 C)) (BitVec.ofNat 32 d)) (BitVec.ofNat 32 k) = BitVec.ofBool (decide (C * b + d < k))) :
    Takes (F := F) (updBefore (s := s) (BitVec.ofNat 32 b) (BitVec.ofNat 32 C) (BitVec.ofNat 32 k)) (fun d n o => if C * b + d < k then n else o) N := fun d hd n o => by
  show (pure (Scalar.select (Scalar.cmpi .slt (Scalar.addi (Scalar.muli (BitVec.ofNat 32 b) (BitVec.ofNat 32 C)) (BitVec.ofNat 32 d)) (BitVec.ofNat 32 k)) n o) : KProg F _) = _
  rw [h d hd]
  by_cases hk : C * b + d < k <;> simp [hk, Scalar.select]

end Cert.KernelIdeal.Gru

end
-- ==== Proof.CompressDoes.lean ====
/- What one time step, and a block of thirty-two, of the compress kernel do. -/
module

public import proofs.«01_k».proof.Proof.CompressText
public import proofs.«01_k».proof.Proof.StepValues

@[expose] public section

set_option maxRecDepth 16384

noncomputable section

namespace Cert.KernelIdeal.Gru

open Idealize.ShloMosaic Idealize.ShloMosaic.TcCoe
open Idealize.SL Idealize.SL.BI Idealize.SL.Sem

variable {F : FTy → Type} [FloatOps F]
variable [Facts]
open Facts₀ Facts

/-- One time's inputs: row `d` of a window of thirty-two. -/
def rowX (X : FVec F S32x256x300 .f32) (d : ℕ) (hd : d < 32) : FVec F S1x256x300 .f32 :=
  VecWindow.window X ![d, 0, 0] S1x256x300.size (inbX d hd)

/-- What the first two layers' weights and biases are: weight on the input, biases, weight on the state. -/
structure W12 (F : FTy → Type) where
  w1 : FVec F S48x300 .bf16
  b1 : FVec F S64x256 .f32
  u1 : FVec F S48x16 .bf16
  w2 : FVec F S48x16 .bf16
  b2 : FVec F S64x256 .f32
  u2 : FVec F S48x16 .bf16

/-- The first layer's new state. -/
def new1 (W : W12 F) (x : FVec F S1x256x300 .f32) (h1 : FVec F S16x256 .f32) : FVec F S16x256 .f32 :=
  cell16V (projXV W.w1 x) (proj16V W.u1 (truncf .bf16 h1 bitsLt_bf16_f32)) (shapeCast S64x256 W.b1 shapeCasts_S64x256_S64x256) h1

/-- The second layer's new state, from the first layer's old one. -/
def new2 (W : W12 F) (h1 h2 : FVec F S16x256 .f32) : FVec F S16x256 .f32 :=
  cell16V (proj16V W.w2 (truncf .bf16 h1 bitsLt_bf16_f32)) (proj16V W.u2 (truncf .bf16 h2 bitsLt_bf16_f32)) (shapeCast S64x256 W.b2 shapeCasts_S64x256_S64x256) h2

/-- The row of outputs a state becomes. -/
def rowY (h : FVec F S16x256 .f32) : FVec F S1x16x256 .bf16 :=
  shapeCast S1x16x256 (truncf .bf16 h bitsLt_bf16_f32) shapeCasts_S16x256_S1x16x256

/-- Both layers' states after a step with the updates `p1`, `p2`. -/
def stepV (W : W12 F) (p1 p2 : UpdV F S16x256) (d : ℕ) (x : FVec F S1x256x300 .f32) (h : FVec F S16x256 .f32 × FVec F S16x256 .f32) :
    FVec F S16x256 .f32 × FVec F S16x256 .f32 :=
  (p1 d (new1 W x h.1) h.1, p2 d (new2 W h.1 h.2) h.2)

variable {c : Dev nD}
variable {arg1 : Memref sig .tc .vmem S32x256x300 .f32} {arg2 : Memref sig .tc .vmem S48x300 .bf16} {arg3 : Memref sig .tc .vmem S64x256 .f32}
  {arg4 arg5 : Memref sig .tc .vmem S48x16 .bf16} {arg6 : Memref sig .tc .vmem S64x256 .f32} {arg7 : Memref sig .tc .vmem S48x16 .bf16}
  {arg8 : Memref sig .tc .vmem S32x16x256 .bf16} {harg8 : arg8.IsWhole}
  {X : FVec F S32x256x300 .f32} {W : W12 F}
  {u1 u2 : Upd F S16x256} {p1 p2 : UpdV F S16x256}

/-- The buffers a step reads, in a resource. -/
structure Reads12 (c : Dev nD) (P : SProp F) (arg1 : Memref sig .tc .vmem S32x256x300 .f32) (arg2 : Memref sig .tc .vmem S48x300 .bf16) (arg3 : Memref sig .tc .vmem S64x256 .f32)
    (arg4 arg5 : Memref sig .tc .vmem S48x16 .bf16) (arg6 : Memref sig .tc .vmem S64x256 .f32) (arg7 : Memref sig .tc .vmem S48x16 .bf16)
    (X : FVec F S32x256x300 .f32) (W : W12 F) : Prop where
  x : Holds c P arg1 X
  w1 : Holds c P arg2 W.w1
  b1 : Holds c P arg3 W.b1
  u1 : Holds c P arg4 W.u1
  w2 : Holds c P arg5 W.w2
  b2 : Holds c P arg6 W.b2
  u2 : Holds c P arg7 W.u2

theorem does_projX {P : SProp F} {w : FVec F S48x300 .bf16} {m : Memref sig .tc .vmem S48x300 .bf16} (hm : Holds c P m w)
    (hx : Holds c P arg1 X) (d : ℕ) (hd : d < 32) : Does c P (projX m arg1 d hd) (projXV w (rowX X d hd)) P :=
  (Does.loadFull hm).bind ((Does.load hx).bind (Does.pure _))

/-- The outputs with row `d` replaced. -/
def setY (Y : FVec F S32x16x256 .bf16) (d : ℕ) (h : FVec F S16x256 .f32) : FVec F S32x16x256 .bf16 :=
  VecWindow.put Y ![d, 0, 0] S1x16x256.size (rowY h)

theorem does_putY {P : FVec F S32x16x256 .bf16 → SProp F} (hP : ∀ Y, Holds c (P Y) arg8 Y) (hs : ∀ Y Y', Swaps c (P Y) (P Y') arg8 Y Y')
    (Y : FVec F S32x16x256 .bf16) (d : ℕ) (hd : d < 32) (h : FVec F S16x256 .f32) :
    Does c (P Y) (putY arg8 harg8 d hd h) ⟨⟩ (P (setY Y d h)) :=
  (Does.load (hP Y)).bind (Does.store (hs _ _))

/-- One time step. -/
theorem does_step {P : FVec F S32x16x256 .bf16 → SProp F} (hr : ∀ Y, Reads12 c (P Y) arg1 arg2 arg3 arg4 arg5 arg6 arg7 X W)
    (hP : ∀ Y, Holds c (P Y) arg8 Y) (hs : ∀ Y Y', Swaps c (P Y) (P Y') arg8 Y Y') (h1 : Takes u1 p1 32) (h2 : Takes u2 p2 32)
    (Y : FVec F S32x16x256 .bf16) (d : ℕ) (hd : d < 32) (h : FVec F S16x256 .f32 × FVec F S16x256 .f32) :
    Does c (P Y) (step arg1 arg2 arg3 arg4 arg5 arg6 arg7 arg8 harg8 u1 u2 d hd h.1 h.2) (stepV W p1 p2 d (rowX X d hd) h) (P (setY Y d (new2 W h.1 h.2))) := by
  have r := hr Y
  refine (does_projX r.w1 r.x d hd).bind <| (does_proj16 r.u1 _).bind <| (does_bias16 r.b1).bind <| (does_cell16 _ _ _ _).bind <|
    (does_proj16 r.w2 _).bind <| (does_proj16 r.u2 _).bind <| (does_bias16 r.b2).bind <| (does_cell16 _ _ _ _).bind <| ?_
  rw [h1 d hd, h2 d hd]
  exact (Does.pure _).bind <| (Does.pure _).bind <| (does_putY hP hs Y d hd _).bind <| Does.pure _

/-- The states after `n` steps of a block, from step `d` on. -/
def runV (W : W12 F) (p1 p2 : UpdV F S16x256) (x : ℕ → FVec F S1x256x300 .f32) (d : ℕ) (h : FVec F S16x256 .f32 × FVec F S16x256 .f32) :
    ℕ → FVec F S16x256 .f32 × FVec F S16x256 .f32
  | 0 => h
  | n + 1 => runV W p1 p2 x (d + 1) (stepV W p1 p2 d (x d) h) n

/-- The outputs after `n` steps of a block, from step `d` on. -/
def outV (W : W12 F) (p1 p2 : UpdV F S16x256) (x : ℕ → FVec F S1x256x300 .f32) (d : ℕ) (h : FVec F S16x256 .f32 × FVec F S16x256 .f32)
    (Y : FVec F S32x16x256 .bf16) : ℕ → FVec F S32x16x256 .bf16
  | 0 => Y
  | n + 1 => outV W p1 p2 x (d + 1) (stepV W p1 p2 d (x d) h) (setY Y d (new2 W h.1 h.2)) n

theorem does_steps {P : FVec F S32x16x256 .bf16 → SProp F} (hr : ∀ Y, Reads12 c (P Y) arg1 arg2 arg3 arg4 arg5 arg6 arg7 X W)
    (hP : ∀ Y, Holds c (P Y) arg8 Y) (hs : ∀ Y Y', Swaps c (P Y) (P Y') arg8 Y Y') (h1 : Takes u1 p1 32) (h2 : Takes u2 p2 32)
    {x : ℕ → FVec F S1x256x300 .f32} (hx : ∀ d hd, rowX X d hd = x d) :
    ∀ (n d : ℕ) (hl : ∀ e ∈ List.range' d n, e < 32) (Y : FVec F S32x16x256 .bf16) (h : FVec F S16x256 .f32 × FVec F S16x256 .f32),
      Does c (P Y) (steps arg1 arg2 arg3 arg4 arg5 arg6 arg7 arg8 harg8 u1 u2 (List.range' d n) hl h.1 h.2) (runV W p1 p2 x d h n) (P (outV W p1 p2 x d h Y n))
  | 0, _, _, _, _ => Does.pure _
  | n + 1, d, hl, Y, h => by
    have hd : d < 32 := hl d (by simp)
    refine (does_step hr hP hs h1 h2 Y d hd h).bind ?_
    rw [hx d hd]
    exact does_steps hr hP hs h1 h2 hx n (d + 1) (fun e he => hl e (by rw [List.range'_succ]; exact List.mem_cons_of_mem _ he)) _ _

end Cert.KernelIdeal.Gru

end
-- ==== Proof.CompressBlock.lean ====
/- What a block of the compress kernel does at each place of its grid, in terms of the states of the two layers over all times. -/
module

public import proofs.«01_k».proof.Proof.CompressDoes
public import Idealize.ShloMosaic.Lib.Pointwise.Reshape

@[expose] public section

set_option maxRecDepth 16384

noncomputable section

namespace Cert.KernelIdeal.Gru

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

/-- The new value from time `lo` on and before time `hi`, the old one otherwise. -/
def within {α : Type} (lo hi n : ℕ) (new old : α) : α := if lo ≤ n ∧ n < hi then new else old

section Resources
variable {F : FTy → Type} [FloatOps F] [Facts] {c : Dev nD} {sp sp' : Space} {s s' : Shape} {e e' : EltTy}
  {m : Memref sig .tc sp s e} {X X' : s.Idx → Elt F e} {A R R' : SProp F}

/-- The first memref of a list of them is held. -/
theorem Holds.head : Holds c iprop(owns (c : Thread nD τ) m fullShare X ∗ R) m X := by
  unfold Holds
  iintro ⟨H, HR⟩
  isplitl [H]; · iexact H
  iintro H
  isplitl [H] <;> iassumption

theorem Holds.last : Holds c (owns (c : Thread nD τ) m fullShare X) m X := by
  unfold Holds
  iintro H
  isplitl [H]; · iexact H
  iintro H
  iexact H

/-- A memref held in the rest of a list is held. -/
theorem Holds.tail (h : Holds c R m X) : Holds c iprop(A ∗ R) m X := by
  unfold Holds at *
  iintro ⟨HA, HR⟩
  ihave H := h $$ HR
  icases H with ⟨H, HR⟩
  isplitl [H]; · iexact H
  iintro H
  isplitl [HA]; · iexact HA
  iapply HR; iexact H

theorem Swaps.head : Swaps c iprop(owns (c : Thread nD τ) m fullShare X ∗ R) iprop(owns (c : Thread nD τ) m fullShare X' ∗ R) m X X' := by
  unfold Swaps
  iintro ⟨H, HR⟩
  isplitl [H]; · iexact H
  iintro H
  isplitl [H] <;> iassumption

theorem Swaps.last : Swaps c (owns (c : Thread nD τ) m fullShare X) (owns (c : Thread nD τ) m fullShare X') m X X' := by
  unfold Swaps
  iintro H
  isplitl [H]; · iexact H
  iintro H
  iexact H

theorem Swaps.tail (h : Swaps c R R' m X X') : Swaps c iprop(A ∗ R) iprop(A ∗ R') m X X' := by
  unfold Swaps at *
  iintro ⟨HA, HR⟩
  ihave H := h $$ HR
  icases H with ⟨H, HR⟩
  isplitl [H]; · iexact H
  iintro H
  isplitl [HA]; · iexact HA
  iapply HR; iexact H

end Resources

/-- A load through the cast to the same shape is the contents. -/
theorem shapeCast_same {s : Shape} {α : Type} (v : s.Idx → α) (h : s.ShapeCasts s) : shapeCast s v h = v := by
  exact shapeCast_id v h

variable {F : FTy → Type} [FloatOps F]
variable [Facts]
open Facts₀ Facts

/-! ## The states over all times -/

/-- The two layers' states at the start. -/
def zero16 : FVec F S16x256 .f32 := broadcast S16x256 (Scalar.ofBits .f32 0x00000000#32)

/-- The two layers' states before time `n`: the first layer moves at the times below 512, the second one time later. -/
def hist (W : W12 F) (x : ℕ → FVec F S1x256x300 .f32) : ℕ → FVec F S16x256 .f32 × FVec F S16x256 .f32
  | 0 => (zero16, zero16)
  | n + 1 => (within 0 512 n (new1 W (x n) (hist W x n).1) (hist W x n).1,
      within 1 513 n (new2 W (hist W x n).1 (hist W x n).2) (hist W x n).2)

/-- The second layer's output at time `n`. -/
def yAt (W : W12 F) (x : ℕ → FVec F S1x256x300 .f32) (n : ℕ) : FVec F S16x256 .f32 := new2 W (hist W x n).1 (hist W x n).2

/-- The place in its row of a place in a window of rows. -/
def rowIdx (y : S32x16x256.Idx) : S1x16x256.Idx := fun a => match a with
  | ⟨0, _⟩ => (0 : Fin 1)
  | ⟨1, _⟩ => (y 1 : Fin 16)
  | ⟨2, _⟩ => (y 2 : Fin 256)

/-- Block `b` of the outputs. -/
def blockY (W : W12 F) (x : ℕ → FVec F S1x256x300 .f32) (b : ℕ) : FVec F S32x16x256 .bf16 :=
  fun y => rowY (yAt W x (32 * b + (y 0).val)) (rowIdx y)

/-- The update of a layer that moves from time `lo` on and before time `hi`, in block `b` of `C` steps. -/
def updIn {s : Shape} (C b lo hi : ℕ) : UpdV F s := fun d n o => within lo hi (C * b + d) n o

variable {W : W12 F} {x : ℕ → FVec F S1x256x300 .f32}

theorem stepV_hist (b d : ℕ) :
    stepV W (updIn 32 b 0 512) (updIn 32 b 1 513) d (x (32 * b + d)) (hist W x (32 * b + d)) = hist W x (32 * b + (d + 1)) := rfl

theorem runV_hist (b : ℕ) : ∀ n d, runV W (updIn 32 b 0 512) (updIn 32 b 1 513) (fun d => x (32 * b + d)) d (hist W x (32 * b + d)) n = hist W x (32 * b + (d + n))
  | 0, _ => rfl
  | n + 1, d => by
    show runV W _ _ _ (d + 1) (stepV W (updIn 32 b 0 512) (updIn 32 b 1 513) d (x (32 * b + d)) (hist W x (32 * b + d))) n = _
    rw [stepV_hist, runV_hist b n (d + 1), show d + 1 + n = d + (n + 1) by omega]

theorem setY_apply (Y : FVec F S32x16x256 .bf16) (d : ℕ) (h : FVec F S16x256 .f32) (y : S32x16x256.Idx) :
    setY Y d h y = if (y 0).val = d then rowY h (rowIdx y) else Y y := by
  unfold setY VecWindow.put
  have hin : (∀ a : Fin 3, (![d, 0, 0] : Fin 3 → ℕ) a ≤ (y a).val ∧ (y a).val < (![d, 0, 0] : Fin 3 → ℕ) a + S1x16x256.size a) ↔ (y 0).val = d := by
    constructor
    · intro h; have := h 0; simp at this; omega
    · intro h a
      have h1 : (y 1).val < 16 := (y 1).isLt
      have h2 : (y 2).val < 256 := (y 2).isLt
      fin_cases a <;> simp <;> omega
  by_cases hd : (y 0).val = d
  · rw [dif_pos (hin.mpr hd), if_pos hd]
    refine congrArg (rowY h) (funext fun a => Fin.ext ?_)
    fin_cases a
    · show (y 0).val - d = 0
      omega
    · rfl
    · rfl
  · rw [dif_neg (fun h => hd (hin.mp h)), if_neg hd]

theorem outV_hist (b : ℕ) : ∀ n d (Y : FVec F S32x16x256 .bf16) (y : S32x16x256.Idx),
    outV W (updIn 32 b 0 512) (updIn 32 b 1 513) (fun d => x (32 * b + d)) d (hist W x (32 * b + d)) Y n y
      = if d ≤ (y 0).val ∧ (y 0).val < d + n then blockY W x b y else Y y
  | 0, d, Y, y => by rw [if_neg (by omega)]; rfl
  | n + 1, d, Y, y => by
    show outV W _ _ _ (d + 1) (stepV W (updIn 32 b 0 512) (updIn 32 b 1 513) d (x (32 * b + d)) (hist W x (32 * b + d))) _ n y = _
    rw [stepV_hist, outV_hist b n (d + 1), setY_apply]
    by_cases h0 : (y 0).val = d
    · rw [if_neg (by omega), if_pos h0, if_pos (by omega)]
      unfold blockY
      rw [h0]; rfl
    · by_cases h1 : d + 1 ≤ (y 0).val ∧ (y 0).val < d + 1 + n
      · rw [if_pos h1, if_pos (by omega)]
      · rw [if_neg h1, if_neg h0, if_neg (by omega)]

theorem outV_block (b : ℕ) (Y : FVec F S32x16x256 .bf16) :
    outV W (updIn 32 b 0 512) (updIn 32 b 1 513) (fun d => x (32 * b + d)) 0 (hist W x (32 * b)) Y 32 = blockY W x b := funext fun y => by
  have h := outV_hist (W := W) (x := x) b 32 0 Y y
  rw [if_pos ⟨Nat.zero_le _, by have : (y 0).val < 32 := (y 0).isLt; omega⟩] at h
  exact h

/-! ## The updates of the three kinds of blocks -/

theorem takes_updAll {s : Shape} (C b lo hi N : ℕ) (h : ∀ d, d < N → lo ≤ C * b + d ∧ C * b + d < hi) :
    Takes (F := F) (updAll (s := s)) (updIn C b lo hi) N := fun d hd n o => by
  show (pure n : KProg F _) = pure (updIn C b lo hi d n o)
  unfold updIn within
  rw [if_pos (h d hd)]

theorem takes_updFrom {s : Shape} (b C lo hi N : ℕ) (hh : ∀ d, d < N → C * b + d < hi) (h : ∀ d, d < N →
    Scalar.cmpi .sge (Scalar.addi (Scalar.muli (BitVec.ofNat 32 b) (BitVec.ofNat 32 C)) (BitVec.ofNat 32 d)) (BitVec.ofNat 32 lo) = BitVec.ofBool (decide (lo ≤ C * b + d))) :
    Takes (F := F) (updFrom (s := s) (BitVec.ofNat 32 b) (BitVec.ofNat 32 C) (BitVec.ofNat 32 lo)) (updIn C b lo hi) N := fun d hd n o => by
  rw [takes_from b C lo N h d hd]
  unfold updIn within
  dsimp only
  by_cases hk : lo ≤ C * b + d
  · rw [if_pos hk, if_pos ⟨hk, hh d hd⟩]
  · rw [if_neg hk, if_neg (fun h => hk h.1)]

theorem takes_updBefore {s : Shape} (b C lo hi N : ℕ) (hh : ∀ d, d < N → lo ≤ C * b + d) (h : ∀ d, d < N →
    Scalar.cmpi .slt (Scalar.addi (Scalar.muli (BitVec.ofNat 32 b) (BitVec.ofNat 32 C)) (BitVec.ofNat 32 d)) (BitVec.ofNat 32 hi) = BitVec.ofBool (decide (C * b + d < hi))) :
    Takes (F := F) (updBefore (s := s) (BitVec.ofNat 32 b) (BitVec.ofNat 32 C) (BitVec.ofNat 32 hi)) (updIn C b lo hi) N := fun d hd n o => by
  rw [takes_before b C hi N h d hd]
  unfold updIn within
  dsimp only
  by_cases hk : C * b + d < hi
  · rw [if_pos hk, if_pos ⟨hh d hd, hk⟩]
  · rw [if_neg hk, if_neg (fun h => hk h.2)]

/-! ## A block and the body -/

variable {c : Dev nD}
variable {arg1 : Memref sig .tc .vmem S32x256x300 .f32} {arg2 : Memref sig .tc .vmem S48x300 .bf16} {arg3 : Memref sig .tc .vmem S64x256 .f32}
  {arg4 arg5 : Memref sig .tc .vmem S48x16 .bf16} {arg6 : Memref sig .tc .vmem S64x256 .f32} {arg7 : Memref sig .tc .vmem S48x16 .bf16}
  {arg8 : Memref sig .tc .vmem S32x16x256 .bf16} {arg9 arg10 : Memref sig .tc .vmem S16x256 .f32}

/-- The ten windows' buffers, by their contents. -/
def Res12 (c : Dev nD) (arg1 : Memref sig .tc .vmem S32x256x300 .f32) (arg2 : Memref sig .tc .vmem S48x300 .bf16) (arg3 : Memref sig .tc .vmem S64x256 .f32)
    (arg4 arg5 : Memref sig .tc .vmem S48x16 .bf16) (arg6 : Memref sig .tc .vmem S64x256 .f32) (arg7 : Memref sig .tc .vmem S48x16 .bf16)
    (arg8 : Memref sig .tc .vmem S32x16x256 .bf16) (arg9 arg10 : Memref sig .tc .vmem S16x256 .f32)
    (X : FVec F S32x256x300 .f32) (W : W12 F) (Y : FVec F S32x16x256 .bf16) (H1 H2 : FVec F S16x256 .f32) : SProp F :=
  iprop(owns (c : Thread nD τ) arg1 fullShare X ∗ owns (c : Thread nD τ) arg2 fullShare W.w1 ∗ owns (c : Thread nD τ) arg3 fullShare W.b1
    ∗ owns (c : Thread nD τ) arg4 fullShare W.u1 ∗ owns (c : Thread nD τ) arg5 fullShare W.w2 ∗ owns (c : Thread nD τ) arg6 fullShare W.b2
    ∗ owns (c : Thread nD τ) arg7 fullShare W.u2 ∗ owns (c : Thread nD τ) arg8 fullShare Y ∗ owns (c : Thread nD τ) arg9 fullShare H1
    ∗ owns (c : Thread nD τ) arg10 fullShare H2)

variable {X : FVec F S32x256x300 .f32}

theorem reads12 (Y : FVec F S32x16x256 .bf16) (H1 H2 : FVec F S16x256 .f32) : Reads12 c (Res12 c arg1 arg2 arg3 arg4 arg5 arg6 arg7 arg8 arg9 arg10 X W Y H1 H2) arg1 arg2 arg3 arg4 arg5 arg6 arg7 X W where
  x := Holds.head
  w1 := Holds.tail Holds.head
  b1 := Holds.tail (Holds.tail Holds.head)
  u1 := Holds.tail (Holds.tail (Holds.tail Holds.head))
  w2 := Holds.tail (Holds.tail (Holds.tail (Holds.tail Holds.head)))
  b2 := Holds.tail (Holds.tail (Holds.tail (Holds.tail (Holds.tail Holds.head))))
  u2 := Holds.tail (Holds.tail (Holds.tail (Holds.tail (Holds.tail (Holds.tail Holds.head)))))

theorem holds8 (Y : FVec F S32x16x256 .bf16) (H1 H2 : FVec F S16x256 .f32) : Holds c (Res12 c arg1 arg2 arg3 arg4 arg5 arg6 arg7 arg8 arg9 arg10 X W Y H1 H2) arg8 Y :=
  Holds.tail (Holds.tail (Holds.tail (Holds.tail (Holds.tail (Holds.tail (Holds.tail Holds.head))))))

theorem swaps8 (Y Y' : FVec F S32x16x256 .bf16) (H1 H2 : FVec F S16x256 .f32) : Swaps c (Res12 c arg1 arg2 arg3 arg4 arg5 arg6 arg7 arg8 arg9 arg10 X W Y H1 H2) (Res12 c arg1 arg2 arg3 arg4 arg5 arg6 arg7 arg8 arg9 arg10 X W Y' H1 H2) arg8 Y Y' :=
  Swaps.tail (Swaps.tail (Swaps.tail (Swaps.tail (Swaps.tail (Swaps.tail (Swaps.tail Swaps.head))))))

theorem holds9 (Y : FVec F S32x16x256 .bf16) (H1 H2 : FVec F S16x256 .f32) : Holds c (Res12 c arg1 arg2 arg3 arg4 arg5 arg6 arg7 arg8 arg9 arg10 X W Y H1 H2) arg9 H1 :=
  Holds.tail (Holds.tail (Holds.tail (Holds.tail (Holds.tail (Holds.tail (Holds.tail (Holds.tail Holds.head)))))))

theorem swaps9 (Y : FVec F S32x16x256 .bf16) (H1 H1' H2 : FVec F S16x256 .f32) : Swaps c (Res12 c arg1 arg2 arg3 arg4 arg5 arg6 arg7 arg8 arg9 arg10 X W Y H1 H2) (Res12 c arg1 arg2 arg3 arg4 arg5 arg6 arg7 arg8 arg9 arg10 X W Y H1' H2) arg9 H1 H1' :=
  Swaps.tail (Swaps.tail (Swaps.tail (Swaps.tail (Swaps.tail (Swaps.tail (Swaps.tail (Swaps.tail Swaps.head)))))))

theorem holds10 (Y : FVec F S32x16x256 .bf16) (H1 H2 : FVec F S16x256 .f32) : Holds c (Res12 c arg1 arg2 arg3 arg4 arg5 arg6 arg7 arg8 arg9 arg10 X W Y H1 H2) arg10 H2 :=
  Holds.tail (Holds.tail (Holds.tail (Holds.tail (Holds.tail (Holds.tail (Holds.tail (Holds.tail (Holds.tail Holds.last))))))))

theorem swaps10 (Y : FVec F S32x16x256 .bf16) (H1 H2 H2' : FVec F S16x256 .f32) : Swaps c (Res12 c arg1 arg2 arg3 arg4 arg5 arg6 arg7 arg8 arg9 arg10 X W Y H1 H2) (Res12 c arg1 arg2 arg3 arg4 arg5 arg6 arg7 arg8 arg9 arg10 X W Y H1 H2') arg10 H2 H2' :=
  Swaps.tail (Swaps.tail (Swaps.tail (Swaps.tail (Swaps.tail (Swaps.tail (Swaps.tail (Swaps.tail (Swaps.tail Swaps.last))))))))

/-- A block from the states before it leaves its outputs and the states after it. -/
theorem does_block {harg8 : arg8.IsWhole} {u1 u2 : Upd F S16x256} (b : ℕ) (h1 : Takes u1 (updIn 32 b 0 512) 32) (h2 : Takes u2 (updIn 32 b 1 513) 32)
    (hx : ∀ d hd, rowX X d hd = x (32 * b + d)) (Y : FVec F S32x16x256 .bf16) (H1 H2 : FVec F S16x256 .f32) :
    Does c (Res12 c arg1 arg2 arg3 arg4 arg5 arg6 arg7 arg8 arg9 arg10 X W Y H1 H2) (block arg1 arg2 arg3 arg4 arg5 arg6 arg7 arg8 harg8 arg9 arg10 u1 u2 (hist W x (32 * b)).1 (hist W x (32 * b)).2) ⟨⟩
      (Res12 c arg1 arg2 arg3 arg4 arg5 arg6 arg7 arg8 arg9 arg10 X W (blockY W x b) (hist W x (32 * (b + 1))).1 (hist W x (32 * (b + 1))).2) := by
  have hs := does_steps (P := fun Y => Res12 c arg1 arg2 arg3 arg4 arg5 arg6 arg7 arg8 arg9 arg10 X W Y H1 H2) (harg8 := harg8) (x := fun d => x (32 * b + d)) (fun Y => reads12 Y H1 H2) (fun Y => holds8 Y H1 H2)
    (fun Y Y' => swaps8 Y Y' H1 H2) h1 h2 hx 32 0 (by decide) Y (hist W x (32 * b))
  have hr : runV W (updIn 32 b 0 512) (updIn 32 b 1 513) (fun d => x (32 * b + d)) 0 (hist W x (32 * b)) 32 = hist W x (32 * (b + 1)) :=
    (runV_hist b 32 0).trans (congrArg (hist W x) (by omega))
  rw [outV_block, hr] at hs
  exact hs.bind <| (does_putH (holds9 _ _ _) (swaps9 _ _ _ _)).bind <| (does_putH (holds10 _ _ _) (swaps10 _ _ _ _)).bind <| Does.pure _

theorem cond0_first (i : grid0.Coords) : k0_cond1 i = BitVec.ofBool (decide ((i 0).val = 0)) := by
  unfold k0_cond1
  generalize i 0 = b
  revert b
  show ∀ b : Fin 17, _
  decide
theorem cond0_mid (i : grid0.Coords) : k0_cond2 i = BitVec.ofBool (decide (0 < (i 0).val ∧ (i 0).val < 16)) := by
  unfold k0_cond2
  generalize i 0 = b
  revert b
  show ∀ b : Fin 17, _
  decide
theorem cond0_last (i : grid0.Coords) : k0_cond3 i = BitVec.ofBool (decide ((i 0).val = 16)) := by
  unfold k0_cond3
  generalize i 0 = b
  revert b
  show ∀ b : Fin 17, _
  decide

/-- The body at each place of the grid: from any contents of the first place's states, and from the states before the block at the later ones, it leaves
the block's outputs and the states after it. -/
theorem does_compressBody (i : grid0.Coords) {harg1 : arg1.IsWhole} {harg2 : arg2.IsWhole} {harg3 : arg3.IsWhole} {harg4 : arg4.IsWhole} {harg5 : arg5.IsWhole}
    {harg6 : arg6.IsWhole} {harg7 : arg7.IsWhole} {harg8 : arg8.IsWhole} {harg9 : arg9.IsWhole} {harg10 : arg10.IsWhole} (b : ℕ) (hb : (i 0).val = b)
    (hx : ∀ d hd, rowX X d hd = x (32 * b + d)) (Y : FVec F S32x16x256 .bf16) (H1 H2 : FVec F S16x256 .f32)
    (h1 : 0 < b → H1 = (hist W x (32 * b)).1) (h2 : 0 < b → H2 = (hist W x (32 * b)).2) :
    Does c (Res12 c arg1 arg2 arg3 arg4 arg5 arg6 arg7 arg8 arg9 arg10 X W Y H1 H2)
      (compressBody i arg1 harg1 arg2 harg2 arg3 harg3 arg4 harg4 arg5 harg5 arg6 harg6 arg7 harg7 arg8 harg8 arg9 harg9 arg10 harg10) ⟨⟩
      (Res12 c arg1 arg2 arg3 arg4 arg5 arg6 arg7 arg8 arg9 arg10 X W (blockY W x b) (hist W x (32 * (b + 1))).1 (hist W x (32 * (b + 1))).2) := by
  have hlt : b < 17 := hb ▸ (i 0).isLt
  unfold compressBody
  rw [hb]
  rcases Nat.eq_zero_or_pos b with h0 | hpos
  · subst h0
    have c1 : k0_cond1 i = 1#1 := by rw [cond0_first, hb]; rfl
    have c2 : ¬ k0_cond2 i = 1#1 := by rw [cond0_mid, hb]; decide
    have c3 : ¬ k0_cond3 i = 1#1 := by rw [cond0_last, hb]; decide
    rw [dif_pos c1]
    refine (does_block 0 (takes_updAll _ _ _ _ _ (by omega)) (takes_updFrom 0 32 1 513 32 (by omega) (by decide)) hx Y H1 H2).bind ?_
    rw [dif_neg c2, dif_neg c3]
    exact Does.pure _
  · rw [h1 hpos, h2 hpos]
    have c1 : ¬ k0_cond1 i = 1#1 := by rw [cond0_first, hb, decide_eq_false (by omega)]; decide
    rw [dif_neg c1]
    by_cases h16 : b < 16
    · have c2 : k0_cond2 i = 1#1 := by rw [cond0_mid, hb, decide_eq_true ⟨hpos, h16⟩]; rfl
      have c3 : ¬ k0_cond3 i = 1#1 := by rw [cond0_last, hb, decide_eq_false (by omega)]; decide
      rw [dif_pos c2]
      refine (does_getH (holds9 _ _ _)).bind <| (does_getH (holds10 _ _ _)).bind ?_
      rw [shapeCast_same, shapeCast_same]
      refine (does_block b (takes_updAll _ _ _ _ _ (by omega)) (takes_updAll _ _ _ _ _ (by omega)) hx Y _ _).bind ?_
      rw [dif_neg c3]
      exact Does.pure _
    · obtain rfl : b = 16 := by omega
      have c2 : ¬ k0_cond2 i = 1#1 := by rw [cond0_mid, hb]; decide
      have c3 : k0_cond3 i = 1#1 := by rw [cond0_last, hb]; rfl
      rw [dif_neg c2, dif_pos c3]
      refine (does_getH (holds9 _ _ _)).bind <| (does_getH (holds10 _ _ _)).bind ?_
      rw [shapeCast_same, shapeCast_same]
      exact does_block 16 (takes_updBefore 16 32 0 512 32 (by omega) (by decide)) (takes_updBefore 16 32 1 513 32 (by omega) (by decide)) hx Y _ _

end Cert.KernelIdeal.Gru

end
-- ==== Proof.DecodeBlock.lean ====
/- What a time step, and a block of sixteen, of the decode kernel do, and what its body does at each place of its grid, in terms of the
states of the five layers over all times. -/
module

public import proofs.«01_k».proof.Proof.DecodeText
public import proofs.«01_k».proof.Proof.CompressBlock

@[expose] public section

set_option maxRecDepth 16384

noncomputable section

namespace Cert.KernelIdeal.Gru

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable [Facts]
open Facts₀ Facts

/-- One time's inputs: row `d` of a window of sixteen. -/
def rowD (Y : FVec F S16x16x256 .bf16) (d : ℕ) (hd : d < 16) : FVec F S1x16x256 .bf16 :=
  VecWindow.window Y ![d, 0, 0] S1x16x256.size (inbD d hd)

/-- The five layers' weights and biases: for each the weight on the input, the biases, the weight on the state. -/
structure WD (F : FTy → Type) where
  w3 : FVec F S48x16 .bf16
  b3 : FVec F S64x256 .f32
  u3 : FVec F S48x16 .bf16
  w4 : FVec F S48x16 .bf16
  b4 : FVec F S64x256 .f32
  u4 : FVec F S48x16 .bf16
  w5 : FVec F S192x16 .bf16
  b5 : FVec F S256x256 .f32
  u5 : FVec F S192x64 .bf16
  w6 : FVec F S192x64 .bf16
  b6 : FVec F S256x256 .f32
  u6 : FVec F S192x64 .bf16
  w7 : FVec F S192x64 .bf16
  b7 : FVec F S256x256 .f32
  u7 : FVec F S192x64 .bf16

/-- The five layers' new states, each from the layer before's old state; `y` is the third layer's input. -/
def newD (W : WD F) (y : FVec F S1x16x256 .bf16) : Hid F → Hid F := fun (h3, h4, h5, h6, h7) =>
  (cell16V (projYV W.w3 y) (proj16V W.u3 (truncf .bf16 h3 bitsLt_bf16_f32)) (shapeCast S64x256 W.b3 shapeCasts_S64x256_S64x256) h3,
   cell16V (proj16V W.w4 (truncf .bf16 h3 bitsLt_bf16_f32)) (proj16V W.u4 (truncf .bf16 h4 bitsLt_bf16_f32)) (shapeCast S64x256 W.b4 shapeCasts_S64x256_S64x256) h4,
   cell64V (proj64of16V W.w5 (truncf .bf16 h4 bitsLt_bf16_f32)) (proj64of64V W.u5 (truncf .bf16 h5 bitsLt_bf16_f32)) (shapeCast S256x256 W.b5 shapeCasts_S256x256_S256x256) h5,
   cell64V (proj64of64V W.w6 (truncf .bf16 h5 bitsLt_bf16_f32)) (proj64of64V W.u6 (truncf .bf16 h6 bitsLt_bf16_f32)) (shapeCast S256x256 W.b6 shapeCasts_S256x256_S256x256) h6,
   cell64V (proj64of64V W.w7 (truncf .bf16 h6 bitsLt_bf16_f32)) (proj64of64V W.u7 (truncf .bf16 h7 bitsLt_bf16_f32)) (shapeCast S256x256 W.b7 shapeCasts_S256x256_S256x256) h7)

/-- The five layers' states after a step of block `b`: layer `2 + k` moves from time `k` on and before time `512 + k`. -/
def mixD (n : ℕ) (new old : Hid F) : Hid F :=
  (within 1 513 n new.1 old.1, within 2 514 n new.2.1 old.2.1, within 3 515 n new.2.2.1 old.2.2.1, within 4 516 n new.2.2.2.1 old.2.2.2.1,
    within 5 517 n new.2.2.2.2 old.2.2.2.2)

/-- The five layers' states before time `n`, from the states `h` at the start. -/
def histD (W : WD F) (y : ℕ → FVec F S1x16x256 .bf16) (h : Hid F) : ℕ → Hid F
  | 0 => h
  | n + 1 => mixD n (newD W (y n) (histD W y h n)) (histD W y h n)

variable {c : Dev nD}
variable {arg1 : Memref sig .tc .vmem S16x16x256 .bf16} {arg2 : Memref sig .tc .vmem S16x256 .f32} {arg3 : Memref sig .tc .vmem S16x256 .f32} {arg4 : Memref sig .tc .vmem S48x16 .bf16} {arg5 : Memref sig .tc .vmem S64x256 .f32} {arg6 : Memref sig .tc .vmem S48x16 .bf16} {arg7 : Memref sig .tc .vmem S48x16 .bf16} {arg8 : Memref sig .tc .vmem S64x256 .f32} {arg9 : Memref sig .tc .vmem S48x16 .bf16} {arg10 : Memref sig .tc .vmem S192x16 .bf16} {arg11 : Memref sig .tc .vmem S256x256 .f32} {arg12 : Memref sig .tc .vmem S192x64 .bf16} {arg13 : Memref sig .tc .vmem S192x64 .bf16} {arg14 : Memref sig .tc .vmem S256x256 .f32} {arg15 : Memref sig .tc .vmem S192x64 .bf16} {arg16 : Memref sig .tc .vmem S192x64 .bf16} {arg17 : Memref sig .tc .vmem S256x256 .f32} {arg18 : Memref sig .tc .vmem S192x64 .bf16} {arg19 : Memref sig .tc .vmem S128x256 .f32} {arg20 : Memref sig .tc .vmem S16x256 .f32} {arg21 : Memref sig .tc .vmem S16x256 .f32} {arg22 : Memref sig .tc .vmem S64x256 .f32} {arg23 : Memref sig .tc .vmem S64x256 .f32} {arg24 : Memref sig .tc .vmem S64x256 .f32}
variable {Y : FVec F S16x16x256 .bf16} {W : WD F} {y : ℕ → FVec F S1x16x256 .bf16}

/-- The buffers a step reads, in a resource. -/
structure ReadsD (c : Dev nD) (P : SProp F) (arg1 : Memref sig .tc .vmem S16x16x256 .bf16) (arg4 : Memref sig .tc .vmem S48x16 .bf16) (arg5 : Memref sig .tc .vmem S64x256 .f32) (arg6 : Memref sig .tc .vmem S48x16 .bf16) (arg7 : Memref sig .tc .vmem S48x16 .bf16) (arg8 : Memref sig .tc .vmem S64x256 .f32) (arg9 : Memref sig .tc .vmem S48x16 .bf16) (arg10 : Memref sig .tc .vmem S192x16 .bf16) (arg11 : Memref sig .tc .vmem S256x256 .f32) (arg12 : Memref sig .tc .vmem S192x64 .bf16) (arg13 : Memref sig .tc .vmem S192x64 .bf16) (arg14 : Memref sig .tc .vmem S256x256 .f32) (arg15 : Memref sig .tc .vmem S192x64 .bf16) (arg16 : Memref sig .tc .vmem S192x64 .bf16) (arg17 : Memref sig .tc .vmem S256x256 .f32) (arg18 : Memref sig .tc .vmem S192x64 .bf16)
    (Y : FVec F S16x16x256 .bf16) (W : WD F) : Prop where
  y : Holds c P arg1 Y
  w3 : Holds c P arg4 W.w3
  b3 : Holds c P arg5 W.b3
  u3 : Holds c P arg6 W.u3
  w4 : Holds c P arg7 W.w4
  b4 : Holds c P arg8 W.b4
  u4 : Holds c P arg9 W.u4
  w5 : Holds c P arg10 W.w5
  b5 : Holds c P arg11 W.b5
  u5 : Holds c P arg12 W.u5
  w6 : Holds c P arg13 W.w6
  b6 : Holds c P arg14 W.b6
  u6 : Holds c P arg15 W.u6
  w7 : Holds c P arg16 W.w7
  b7 : Holds c P arg17 W.b7
  u7 : Holds c P arg18 W.u7

theorem does_projY {P : SProp F} {w : FVec F S48x16 .bf16} {m : Memref sig .tc .vmem S48x16 .bf16} (hm : Holds c P m w)
    (hy : Holds c P arg1 Y) (d : ℕ) (hd : d < 16) : Does c P (projY m arg1 d hd) (projYV w (rowD Y d hd)) P :=
  (Does.loadFull hm).bind ((Does.load hy).bind (Does.pure _))

/-- The five updates of block `b`. -/
structure TakesD (u3 u4 : Upd F S16x256) (u5 u6 u7 : Upd F S64x256) (b : ℕ) : Prop where
  t3 : Takes u3 (updIn 16 b 1 513) 16
  t4 : Takes u4 (updIn 16 b 2 514) 16
  t5 : Takes u5 (updIn 16 b 3 515) 16
  t6 : Takes u6 (updIn 16 b 4 516) 16
  t7 : Takes u7 (updIn 16 b 5 517) 16

variable {u3 u4 : Upd F S16x256} {u5 u6 u7 : Upd F S64x256}

/-- One time step. -/
theorem does_dstep {P : SProp F} (r : ReadsD c P arg1 arg4 arg5 arg6 arg7 arg8 arg9 arg10 arg11 arg12 arg13 arg14 arg15 arg16 arg17 arg18 Y W) (b : ℕ) (ht : TakesD u3 u4 u5 u6 u7 b) (d : ℕ) (hd : d < 16) : ∀ h : Hid F,
    Does c P (dstep arg1 arg4 arg5 arg6 arg7 arg8 arg9 arg10 arg11 arg12 arg13 arg14 arg15 arg16 arg17 arg18 u3 u4 u5 u6 u7 d hd h) (mixD (16 * b + d) (newD W (rowD Y d hd) h) h) P := fun (h3, h4, h5, h6, h7) => by
  refine (does_projY r.w3 r.y d hd).bind <| (does_proj16 r.u3 _).bind <| (does_bias16 r.b3).bind <| (does_cell16 _ _ _ _).bind <|
    (does_proj16 r.w4 _).bind <| (does_proj16 r.u4 _).bind <| (does_bias16 r.b4).bind <| (does_cell16 _ _ _ _).bind <|
    (does_proj64of16 r.w5 _).bind <| (does_proj64of64 r.u5 _).bind <| (does_bias64 r.b5).bind <| (does_cell64 _ _ _ _).bind <|
    (does_proj64of64 r.w6 _).bind <| (does_proj64of64 r.u6 _).bind <| (does_bias64 r.b6).bind <| (does_cell64 _ _ _ _).bind <|
    (does_proj64of64 r.w7 _).bind <| (does_proj64of64 r.u7 _).bind <| (does_bias64 r.b7).bind <| (does_cell64 _ _ _ _).bind <| ?_
  rw [ht.t3 d hd, ht.t4 d hd, ht.t5 d hd, ht.t6 d hd, ht.t7 d hd]
  exact (Does.pure _).bind <| (Does.pure _).bind <| (Does.pure _).bind <| (Does.pure _).bind <| (Does.pure _).bind <| Does.pure _

theorem does_dsteps {P : SProp F} (r : ReadsD c P arg1 arg4 arg5 arg6 arg7 arg8 arg9 arg10 arg11 arg12 arg13 arg14 arg15 arg16 arg17 arg18 Y W) (b : ℕ) (ht : TakesD u3 u4 u5 u6 u7 b) {h₀ : Hid F}
    (hy : ∀ d hd, rowD Y d hd = y (16 * b + d)) :
    ∀ (n d : ℕ) (hl : ∀ e ∈ List.range' d n, e < 16),
      Does c P (dsteps arg1 arg4 arg5 arg6 arg7 arg8 arg9 arg10 arg11 arg12 arg13 arg14 arg15 arg16 arg17 arg18 u3 u4 u5 u6 u7 (List.range' d n) hl (histD W y h₀ (16 * b + d))) (histD W y h₀ (16 * b + (d + n))) P
  | 0, _, _ => Does.pure _
  | n + 1, d, hl => by
    have hd : d < 16 := hl d (by simp)
    refine (does_dstep r b ht d hd _).bind ?_
    rw [hy d hd, show d + (n + 1) = d + 1 + n by omega]
    exact does_dsteps r b ht hy n (d + 1) (fun e he => hl e (by rw [List.range'_succ]; exact List.mem_cons_of_mem _ he))

/-- A block's sixteen steps from the states before it give the states after it. -/
theorem does_dblock {P : SProp F} (r : ReadsD c P arg1 arg4 arg5 arg6 arg7 arg8 arg9 arg10 arg11 arg12 arg13 arg14 arg15 arg16 arg17 arg18 Y W) (b : ℕ) (ht : TakesD u3 u4 u5 u6 u7 b) {h₀ : Hid F}
    (hy : ∀ d hd, rowD Y d hd = y (16 * b + d)) :
    Does c P (dblock arg1 arg4 arg5 arg6 arg7 arg8 arg9 arg10 arg11 arg12 arg13 arg14 arg15 arg16 arg17 arg18 u3 u4 u5 u6 u7 (histD W y h₀ (16 * b))) (histD W y h₀ (16 * (b + 1))) P := by
  have h := does_dsteps r b ht (h₀ := h₀) hy 16 0 (by decide)
  rw [show 16 * b + (0 + 16) = 16 * (b + 1) by omega] at h
  exact h

/-- The last layer's state above that of the layer before. -/
def outD (h : Hid F) : FVec F S128x256 .f32 :=
  VecWindow.put (VecWindow.put (fun _ => Scalar.ofBits .f32 0x00000000#32) ![0, 0] S64x256.size h.2.2.2.2) ![64, 0] S64x256.size h.2.2.2.1

theorem put_put_out (O : FVec F S128x256 .f32) (h7 h6 : FVec F S64x256 .f32) (O' : FVec F S128x256 .f32) :
    VecWindow.put (VecWindow.put O ![0, 0] S64x256.size h7) ![64, 0] S64x256.size h6
      = VecWindow.put (VecWindow.put O' ![0, 0] S64x256.size h7) ![64, 0] S64x256.size h6 := by
  funext y
  unfold VecWindow.put
  by_cases h : ∀ a : Fin 2, (![64, 0] : Fin 2 → ℕ) a ≤ (y a).val ∧ (y a).val < (![64, 0] : Fin 2 → ℕ) a + S64x256.size a
  · rw [dif_pos h, dif_pos h]
  · rw [dif_neg h, dif_neg h]
    have h' : ∀ a : Fin 2, (![0, 0] : Fin 2 → ℕ) a ≤ (y a).val ∧ (y a).val < (![0, 0] : Fin 2 → ℕ) a + S64x256.size a := by
      have h0 : (y 0).val < 128 := (y 0).isLt
      have h1 : (y 1).val < 256 := (y 1).isLt
      have hlt : (y 0).val < 64 := by
        by_contra hc
        apply h
        intro a
        fin_cases a <;> simp <;> omega
      intro a
      fin_cases a <;> simp <;> omega
    rw [dif_pos h', dif_pos h']

/-- The nineteen windows' buffers and the five scratch buffers, by their contents. -/
def ResD (c : Dev nD) (arg1 : Memref sig .tc .vmem S16x16x256 .bf16) (arg2 : Memref sig .tc .vmem S16x256 .f32) (arg3 : Memref sig .tc .vmem S16x256 .f32) (arg4 : Memref sig .tc .vmem S48x16 .bf16) (arg5 : Memref sig .tc .vmem S64x256 .f32) (arg6 : Memref sig .tc .vmem S48x16 .bf16) (arg7 : Memref sig .tc .vmem S48x16 .bf16) (arg8 : Memref sig .tc .vmem S64x256 .f32) (arg9 : Memref sig .tc .vmem S48x16 .bf16) (arg10 : Memref sig .tc .vmem S192x16 .bf16) (arg11 : Memref sig .tc .vmem S256x256 .f32) (arg12 : Memref sig .tc .vmem S192x64 .bf16) (arg13 : Memref sig .tc .vmem S192x64 .bf16) (arg14 : Memref sig .tc .vmem S256x256 .f32) (arg15 : Memref sig .tc .vmem S192x64 .bf16) (arg16 : Memref sig .tc .vmem S192x64 .bf16) (arg17 : Memref sig .tc .vmem S256x256 .f32) (arg18 : Memref sig .tc .vmem S192x64 .bf16) (arg19 : Memref sig .tc .vmem S128x256 .f32) (arg20 : Memref sig .tc .vmem S16x256 .f32) (arg21 : Memref sig .tc .vmem S16x256 .f32) (arg22 : Memref sig .tc .vmem S64x256 .f32) (arg23 : Memref sig .tc .vmem S64x256 .f32) (arg24 : Memref sig .tc .vmem S64x256 .f32)
    (Y : FVec F S16x16x256 .bf16) (A B : FVec F S16x256 .f32) (W : WD F) (O : FVec F S128x256 .f32) (h : Hid F) : SProp F :=
  iprop(owns (c : Thread nD τ) arg1 fullShare Y ∗ owns (c : Thread nD τ) arg2 fullShare A ∗ owns (c : Thread nD τ) arg3 fullShare B ∗ owns (c : Thread nD τ) arg4 fullShare W.w3 ∗ owns (c : Thread nD τ) arg5 fullShare W.b3 ∗ owns (c : Thread nD τ) arg6 fullShare W.u3 ∗ owns (c : Thread nD τ) arg7 fullShare W.w4 ∗ owns (c : Thread nD τ) arg8 fullShare W.b4 ∗ owns (c : Thread nD τ) arg9 fullShare W.u4 ∗ owns (c : Thread nD τ) arg10 fullShare W.w5 ∗ owns (c : Thread nD τ) arg11 fullShare W.b5 ∗ owns (c : Thread nD τ) arg12 fullShare W.u5 ∗ owns (c : Thread nD τ) arg13 fullShare W.w6 ∗ owns (c : Thread nD τ) arg14 fullShare W.b6 ∗ owns (c : Thread nD τ) arg15 fullShare W.u6 ∗ owns (c : Thread nD τ) arg16 fullShare W.w7 ∗ owns (c : Thread nD τ) arg17 fullShare W.b7 ∗ owns (c : Thread nD τ) arg18 fullShare W.u7 ∗ owns (c : Thread nD τ) arg19 fullShare O ∗ owns (c : Thread nD τ) arg20 fullShare h.1 ∗ owns (c : Thread nD τ) arg21 fullShare h.2.1 ∗ owns (c : Thread nD τ) arg22 fullShare h.2.2.1 ∗ owns (c : Thread nD τ) arg23 fullShare h.2.2.2.1 ∗ owns (c : Thread nD τ) arg24 fullShare h.2.2.2.2)

variable {A B : FVec F S16x256 .f32}

theorem readsD (O : FVec F S128x256 .f32) (h : Hid F) : ReadsD c (ResD c arg1 arg2 arg3 arg4 arg5 arg6 arg7 arg8 arg9 arg10 arg11 arg12 arg13 arg14 arg15 arg16 arg17 arg18 arg19 arg20 arg21 arg22 arg23 arg24 Y A B W O h) arg1 arg4 arg5 arg6 arg7 arg8 arg9 arg10 arg11 arg12 arg13 arg14 arg15 arg16 arg17 arg18 Y W where
  y := Holds.head
  w3 := Holds.tail (Holds.tail (Holds.tail (Holds.head)))
  b3 := Holds.tail (Holds.tail (Holds.tail (Holds.tail (Holds.head))))
  u3 := Holds.tail (Holds.tail (Holds.tail (Holds.tail (Holds.tail (Holds.head)))))
  w4 := Holds.tail (Holds.tail (Holds.tail (Holds.tail (Holds.tail (Holds.tail (Holds.head))))))
  b4 := Holds.tail (Holds.tail (Holds.tail (Holds.tail (Holds.tail (Holds.tail (Holds.tail (Holds.head)))))))
  u4 := Holds.tail (Holds.tail (Holds.tail (Holds.tail (Holds.tail (Holds.tail (Holds.tail (Holds.tail (Holds.head))))))))
  w5 := Holds.tail (Holds.tail (Holds.tail (Holds.tail (Holds.tail (Holds.tail (Holds.tail (Holds.tail (Holds.tail (Holds.head)))))))))
  b5 := Holds.tail (Holds.tail (Holds.tail (Holds.tail (Holds.tail (Holds.tail (Holds.tail (Holds.tail (Holds.tail (Holds.tail (Holds.head))))))))))
  u5 := Holds.tail (Holds.tail (Holds.tail (Holds.tail (Holds.tail (Holds.tail (Holds.tail (Holds.tail (Holds.tail (Holds.tail (Holds.tail (Holds.head)))))))))))
  w6 := Holds.tail (Holds.tail (Holds.tail (Holds.tail (Holds.tail (Holds.tail (Holds.tail (Holds.tail (Holds.tail (Holds.tail (Holds.tail (Holds.tail (Holds.head))))))))))))
  b6 := Holds.tail (Holds.tail (Holds.tail (Holds.tail (Holds.tail (Holds.tail (Holds.tail (Holds.tail (Holds.tail (Holds.tail (Holds.tail (Holds.tail (Holds.tail (Holds.head)))))))))))))
  u6 := Holds.tail (Holds.tail (Holds.tail (Holds.tail (Holds.tail (Holds.tail (Holds.tail (Holds.tail (Holds.tail (Holds.tail (Holds.tail (Holds.tail (Holds.tail (Holds.tail (Holds.head))))))))))))))
  w7 := Holds.tail (Holds.tail (Holds.tail (Holds.tail (Holds.tail (Holds.tail (Holds.tail (Holds.tail (Holds.tail (Holds.tail (Holds.tail (Holds.tail (Holds.tail (Holds.tail (Holds.tail (Holds.head)))))))))))))))
  b7 := Holds.tail (Holds.tail (Holds.tail (Holds.tail (Holds.tail (Holds.tail (Holds.tail (Holds.tail (Holds.tail (Holds.tail (Holds.tail (Holds.tail (Holds.tail (Holds.tail (Holds.tail (Holds.tail (Holds.head))))))))))))))))
  u7 := Holds.tail (Holds.tail (Holds.tail (Holds.tail (Holds.tail (Holds.tail (Holds.tail (Holds.tail (Holds.tail (Holds.tail (Holds.tail (Holds.tail (Holds.tail (Holds.tail (Holds.tail (Holds.tail (Holds.tail (Holds.head)))))))))))))))))

theorem holdsD2 (O : FVec F S128x256 .f32) (h : Hid F) : Holds c (ResD c arg1 arg2 arg3 arg4 arg5 arg6 arg7 arg8 arg9 arg10 arg11 arg12 arg13 arg14 arg15 arg16 arg17 arg18 arg19 arg20 arg21 arg22 arg23 arg24 Y A B W O h) arg2 A :=
  Holds.tail (Holds.head)

theorem holdsD3 (O : FVec F S128x256 .f32) (h : Hid F) : Holds c (ResD c arg1 arg2 arg3 arg4 arg5 arg6 arg7 arg8 arg9 arg10 arg11 arg12 arg13 arg14 arg15 arg16 arg17 arg18 arg19 arg20 arg21 arg22 arg23 arg24 Y A B W O h) arg3 B :=
  Holds.tail (Holds.tail (Holds.head))

theorem holdsD19 (O : FVec F S128x256 .f32) (h : Hid F) : Holds c (ResD c arg1 arg2 arg3 arg4 arg5 arg6 arg7 arg8 arg9 arg10 arg11 arg12 arg13 arg14 arg15 arg16 arg17 arg18 arg19 arg20 arg21 arg22 arg23 arg24 Y A B W O h) arg19 O :=
  Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.head))))))))))))))))))

theorem swapsD19 (O O' : FVec F S128x256 .f32) (h : Hid F) : Swaps c (ResD c arg1 arg2 arg3 arg4 arg5 arg6 arg7 arg8 arg9 arg10 arg11 arg12 arg13 arg14 arg15 arg16 arg17 arg18 arg19 arg20 arg21 arg22 arg23 arg24 Y A B W O h) (ResD c arg1 arg2 arg3 arg4 arg5 arg6 arg7 arg8 arg9 arg10 arg11 arg12 arg13 arg14 arg15 arg16 arg17 arg18 arg19 arg20 arg21 arg22 arg23 arg24 Y A B W O' h) arg19 O O' :=
  Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.head))))))))))))))))))

theorem holdsD20 (O : FVec F S128x256 .f32) (h3 h4 : FVec F S16x256 .f32) (h5 h6 h7 : FVec F S64x256 .f32) : Holds c (ResD c arg1 arg2 arg3 arg4 arg5 arg6 arg7 arg8 arg9 arg10 arg11 arg12 arg13 arg14 arg15 arg16 arg17 arg18 arg19 arg20 arg21 arg22 arg23 arg24 Y A B W O (h3, h4, h5, h6, h7)) arg20 h3 :=
  Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.head)))))))))))))))))))

theorem swapsD20 (O : FVec F S128x256 .f32) (h3 h4 : FVec F S16x256 .f32) (h5 h6 h7 : FVec F S64x256 .f32) (h3' : FVec F S16x256 .f32) :
    Swaps c (ResD c arg1 arg2 arg3 arg4 arg5 arg6 arg7 arg8 arg9 arg10 arg11 arg12 arg13 arg14 arg15 arg16 arg17 arg18 arg19 arg20 arg21 arg22 arg23 arg24 Y A B W O (h3, h4, h5, h6, h7)) (ResD c arg1 arg2 arg3 arg4 arg5 arg6 arg7 arg8 arg9 arg10 arg11 arg12 arg13 arg14 arg15 arg16 arg17 arg18 arg19 arg20 arg21 arg22 arg23 arg24 Y A B W O (h3', h4, h5, h6, h7)) arg20 h3 (shapeCast S16x256 h3' shapeCasts_S16x256_S16x256) := by
  rw [shapeCast_same]
  exact Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.head)))))))))))))))))))

theorem holdsD21 (O : FVec F S128x256 .f32) (h3 h4 : FVec F S16x256 .f32) (h5 h6 h7 : FVec F S64x256 .f32) : Holds c (ResD c arg1 arg2 arg3 arg4 arg5 arg6 arg7 arg8 arg9 arg10 arg11 arg12 arg13 arg14 arg15 arg16 arg17 arg18 arg19 arg20 arg21 arg22 arg23 arg24 Y A B W O (h3, h4, h5, h6, h7)) arg21 h4 :=
  Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.head))))))))))))))))))))

theorem swapsD21 (O : FVec F S128x256 .f32) (h3 h4 : FVec F S16x256 .f32) (h5 h6 h7 : FVec F S64x256 .f32) (h4' : FVec F S16x256 .f32) :
    Swaps c (ResD c arg1 arg2 arg3 arg4 arg5 arg6 arg7 arg8 arg9 arg10 arg11 arg12 arg13 arg14 arg15 arg16 arg17 arg18 arg19 arg20 arg21 arg22 arg23 arg24 Y A B W O (h3, h4, h5, h6, h7)) (ResD c arg1 arg2 arg3 arg4 arg5 arg6 arg7 arg8 arg9 arg10 arg11 arg12 arg13 arg14 arg15 arg16 arg17 arg18 arg19 arg20 arg21 arg22 arg23 arg24 Y A B W O (h3, h4', h5, h6, h7)) arg21 h4 (shapeCast S16x256 h4' shapeCasts_S16x256_S16x256) := by
  rw [shapeCast_same]
  exact Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.head))))))))))))))))))))

theorem holdsD22 (O : FVec F S128x256 .f32) (h3 h4 : FVec F S16x256 .f32) (h5 h6 h7 : FVec F S64x256 .f32) : Holds c (ResD c arg1 arg2 arg3 arg4 arg5 arg6 arg7 arg8 arg9 arg10 arg11 arg12 arg13 arg14 arg15 arg16 arg17 arg18 arg19 arg20 arg21 arg22 arg23 arg24 Y A B W O (h3, h4, h5, h6, h7)) arg22 h5 :=
  Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.head)))))))))))))))))))))

theorem swapsD22 (O : FVec F S128x256 .f32) (h3 h4 : FVec F S16x256 .f32) (h5 h6 h7 : FVec F S64x256 .f32) (h5' : FVec F S64x256 .f32) :
    Swaps c (ResD c arg1 arg2 arg3 arg4 arg5 arg6 arg7 arg8 arg9 arg10 arg11 arg12 arg13 arg14 arg15 arg16 arg17 arg18 arg19 arg20 arg21 arg22 arg23 arg24 Y A B W O (h3, h4, h5, h6, h7)) (ResD c arg1 arg2 arg3 arg4 arg5 arg6 arg7 arg8 arg9 arg10 arg11 arg12 arg13 arg14 arg15 arg16 arg17 arg18 arg19 arg20 arg21 arg22 arg23 arg24 Y A B W O (h3, h4, h5', h6, h7)) arg22 h5 (shapeCast S64x256 h5' shapeCasts_S64x256_S64x256) := by
  rw [shapeCast_same]
  exact Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.head)))))))))))))))))))))

theorem holdsD23 (O : FVec F S128x256 .f32) (h3 h4 : FVec F S16x256 .f32) (h5 h6 h7 : FVec F S64x256 .f32) : Holds c (ResD c arg1 arg2 arg3 arg4 arg5 arg6 arg7 arg8 arg9 arg10 arg11 arg12 arg13 arg14 arg15 arg16 arg17 arg18 arg19 arg20 arg21 arg22 arg23 arg24 Y A B W O (h3, h4, h5, h6, h7)) arg23 h6 :=
  Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.head))))))))))))))))))))))

theorem swapsD23 (O : FVec F S128x256 .f32) (h3 h4 : FVec F S16x256 .f32) (h5 h6 h7 : FVec F S64x256 .f32) (h6' : FVec F S64x256 .f32) :
    Swaps c (ResD c arg1 arg2 arg3 arg4 arg5 arg6 arg7 arg8 arg9 arg10 arg11 arg12 arg13 arg14 arg15 arg16 arg17 arg18 arg19 arg20 arg21 arg22 arg23 arg24 Y A B W O (h3, h4, h5, h6, h7)) (ResD c arg1 arg2 arg3 arg4 arg5 arg6 arg7 arg8 arg9 arg10 arg11 arg12 arg13 arg14 arg15 arg16 arg17 arg18 arg19 arg20 arg21 arg22 arg23 arg24 Y A B W O (h3, h4, h5, h6', h7)) arg23 h6 (shapeCast S64x256 h6' shapeCasts_S64x256_S64x256) := by
  rw [shapeCast_same]
  exact Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.head))))))))))))))))))))))

theorem holdsD24 (O : FVec F S128x256 .f32) (h3 h4 : FVec F S16x256 .f32) (h5 h6 h7 : FVec F S64x256 .f32) : Holds c (ResD c arg1 arg2 arg3 arg4 arg5 arg6 arg7 arg8 arg9 arg10 arg11 arg12 arg13 arg14 arg15 arg16 arg17 arg18 arg19 arg20 arg21 arg22 arg23 arg24 Y A B W O (h3, h4, h5, h6, h7)) arg24 h7 :=
  Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.tail (Holds.last)))))))))))))))))))))))

theorem swapsD24 (O : FVec F S128x256 .f32) (h3 h4 : FVec F S16x256 .f32) (h5 h6 h7 : FVec F S64x256 .f32) (h7' : FVec F S64x256 .f32) :
    Swaps c (ResD c arg1 arg2 arg3 arg4 arg5 arg6 arg7 arg8 arg9 arg10 arg11 arg12 arg13 arg14 arg15 arg16 arg17 arg18 arg19 arg20 arg21 arg22 arg23 arg24 Y A B W O (h3, h4, h5, h6, h7)) (ResD c arg1 arg2 arg3 arg4 arg5 arg6 arg7 arg8 arg9 arg10 arg11 arg12 arg13 arg14 arg15 arg16 arg17 arg18 arg19 arg20 arg21 arg22 arg23 arg24 Y A B W O (h3, h4, h5, h6, h7')) arg24 h7 (shapeCast S64x256 h7' shapeCasts_S64x256_S64x256) := by
  rw [shapeCast_same]
  exact Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.tail (Swaps.last)))))))))))))))))))))))

theorem does_keepAll (O : FVec F S128x256 .f32) : ∀ (h h' : Hid F),
    Does c (ResD c arg1 arg2 arg3 arg4 arg5 arg6 arg7 arg8 arg9 arg10 arg11 arg12 arg13 arg14 arg15 arg16 arg17 arg18 arg19 arg20 arg21 arg22 arg23 arg24 Y A B W O h) (keepAll arg20 arg21 arg22 arg23 arg24 h') ⟨⟩ (ResD c arg1 arg2 arg3 arg4 arg5 arg6 arg7 arg8 arg9 arg10 arg11 arg12 arg13 arg14 arg15 arg16 arg17 arg18 arg19 arg20 arg21 arg22 arg23 arg24 Y A B W O h') :=
  fun (h3, h4, h5, h6, h7) (h3', h4', h5', h6', h7') =>
    (does_keep16 (holdsD20 O h3 h4 h5 h6 h7) (swapsD20 O h3 h4 h5 h6 h7 h3')).bind <| (does_keep16 (holdsD21 O h3' h4 h5 h6 h7) (swapsD21 O h3' h4 h5 h6 h7 h4')).bind <|
    (does_keep64 (holdsD22 O h3' h4' h5 h6 h7) (swapsD22 O h3' h4' h5 h6 h7 h5')).bind <| (does_keep64 (holdsD23 O h3' h4' h5' h6 h7) (swapsD23 O h3' h4' h5' h6 h7 h6')).bind <|
    does_keep64 (holdsD24 O h3' h4' h5' h6' h7) (swapsD24 O h3' h4' h5' h6' h7 h7')

theorem does_keptAll (O : FVec F S128x256 .f32) : ∀ (h : Hid F),
    Does c (ResD c arg1 arg2 arg3 arg4 arg5 arg6 arg7 arg8 arg9 arg10 arg11 arg12 arg13 arg14 arg15 arg16 arg17 arg18 arg19 arg20 arg21 arg22 arg23 arg24 Y A B W O h) (keptAll arg20 arg21 arg22 arg23 arg24) h (ResD c arg1 arg2 arg3 arg4 arg5 arg6 arg7 arg8 arg9 arg10 arg11 arg12 arg13 arg14 arg15 arg16 arg17 arg18 arg19 arg20 arg21 arg22 arg23 arg24 Y A B W O h) :=
  fun (h3, h4, h5, h6, h7) =>
    (does_kept16 (holdsD20 O h3 h4 h5 h6 h7)).bind <| (does_kept16 (holdsD21 O h3 h4 h5 h6 h7)).bind <| (does_kept64 (holdsD22 O h3 h4 h5 h6 h7)).bind <|
    (does_kept64 (holdsD23 O h3 h4 h5 h6 h7)).bind <| (does_kept64 (holdsD24 O h3 h4 h5 h6 h7)).bind <| Does.pure _

theorem does_putOut (O : FVec F S128x256 .f32) (h : Hid F) : ∀ (h' : Hid F),
    Does c (ResD c arg1 arg2 arg3 arg4 arg5 arg6 arg7 arg8 arg9 arg10 arg11 arg12 arg13 arg14 arg15 arg16 arg17 arg18 arg19 arg20 arg21 arg22 arg23 arg24 Y A B W O h) (putOut arg19 h') ⟨⟩ (ResD c arg1 arg2 arg3 arg4 arg5 arg6 arg7 arg8 arg9 arg10 arg11 arg12 arg13 arg14 arg15 arg16 arg17 arg18 arg19 arg20 arg21 arg22 arg23 arg24 Y A B W (outD h') h) :=
  fun (h3, h4, h5, h6, h7) => by
    refine (Does.load (holdsD19 O h)).bind <| (Does.store (swapsD19 _ _ h)).bind <| (Does.load (holdsD19 _ h)).bind ?_
    have hs := swapsD19 (c := c) (Y := Y) (A := A) (B := B) (W := W) (arg1 := arg1) (arg2 := arg2) (arg3 := arg3) (arg4 := arg4) (arg5 := arg5) (arg6 := arg6) (arg7 := arg7) (arg8 := arg8) (arg9 := arg9) (arg10 := arg10) (arg11 := arg11) (arg12 := arg12) (arg13 := arg13) (arg14 := arg14) (arg15 := arg15) (arg16 := arg16) (arg17 := arg17) (arg18 := arg18) (arg19 := arg19) (arg20 := arg20) (arg21 := arg21) (arg22 := arg22) (arg23 := arg23) (arg24 := arg24) (VecWindow.put O ![0, 0] S64x256.size h7)
      (VecWindow.put (VecWindow.put O ![0, 0] S64x256.size h7) ![64, 0] S64x256.size h6) h
    have hd := Does.store hs (hx := View.stores_vmem_bits_univ h_S64x256 rfl) (hm := .inl rfl) (inb := inb_S128x256_S64x256_64_0)
    rw [put_put_out O h7 h6 (fun _ => Scalar.ofBits .f32 0x00000000#32)] at hd
    exact hd

theorem takesD_first : TakesD (F := F) (updFrom 0#32 16#32 1#32) (updFrom 0#32 16#32 2#32) (updFrom 0#32 16#32 3#32) (updFrom 0#32 16#32 4#32) (updFrom 0#32 16#32 5#32) 0 where
  t3 := takes_updFrom 0 16 1 513 16 (by omega) (by decide)
  t4 := takes_updFrom 0 16 2 514 16 (by omega) (by decide)
  t5 := takes_updFrom 0 16 3 515 16 (by omega) (by decide)
  t6 := takes_updFrom 0 16 4 516 16 (by omega) (by decide)
  t7 := takes_updFrom 0 16 5 517 16 (by omega) (by decide)

theorem takesD_mid (b : ℕ) (h0 : 0 < b) (h1 : b < 32) : TakesD (F := F) updAll updAll updAll updAll updAll b where
  t3 := takes_updAll _ _ _ _ _ (by omega)
  t4 := takes_updAll _ _ _ _ _ (by omega)
  t5 := takes_updAll _ _ _ _ _ (by omega)
  t6 := takes_updAll _ _ _ _ _ (by omega)
  t7 := takes_updAll _ _ _ _ _ (by omega)

theorem takesD_last : TakesD (F := F) (updBefore 32#32 16#32 513#32) (updBefore 32#32 16#32 514#32) (updBefore 32#32 16#32 515#32) (updBefore 32#32 16#32 516#32) (updBefore 32#32 16#32 517#32) 32 where
  t3 := takes_updBefore 32 16 1 513 16 (by omega) (by decide)
  t4 := takes_updBefore 32 16 2 514 16 (by omega) (by decide)
  t5 := takes_updBefore 32 16 3 515 16 (by omega) (by decide)
  t6 := takes_updBefore 32 16 4 516 16 (by omega) (by decide)
  t7 := takes_updBefore 32 16 5 517 16 (by omega) (by decide)

/-- The condition of a block's being the first, the middle or the last one, of the block's number. -/
theorem cond1_first : ∀ b < 33, Scalar.cmpi .ne (Scalar.extui (Scalar.cmpi .eq (BitVec.ofNat 32 b) 0#32) : BitVec 32) 0#32 = BitVec.ofBool (decide (b = 0)) := by decide
theorem cond1_mid : ∀ b < 33, Scalar.cmpi .ne (Scalar.extui (Scalar.andi (Scalar.cmpi .sgt (BitVec.ofNat 32 b) 0#32) (Scalar.cmpi .slt (BitVec.ofNat 32 b) 32#32)) : BitVec 32) 0#32
    = BitVec.ofBool (decide (0 < b ∧ b < 32)) := by decide
theorem cond1_last (i : grid1.Coords) : k1_cond3 i = BitVec.ofBool (decide ((i 0).val = 32)) := by
  unfold k1_cond3
  generalize i 0 = b
  revert b
  show ∀ b : Fin 33, _
  decide

/-- The states of layers with sixty-four units at the start. -/
def zero64 : FVec F S64x256 .f32 := broadcast S64x256 (Scalar.ofBits .f32 0x00000000#32)

/-- The body at each place of the grid: from any kept states at the first place, and from the states before the block at the later ones, it keeps the
states after the block; the last place's output is made of them. -/
theorem does_decodeBody (i : grid1.Coords) {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole} {harg21 : arg21.IsWhole} {harg22 : arg22.IsWhole} {harg23 : arg23.IsWhole} {harg24 : arg24.IsWhole} (b : ℕ) (hb : (i 0).val = b)
    (hy : ∀ d hd, rowD Y d hd = y (16 * b + d)) (O : FVec F S128x256 .f32) (h : Hid F)
    (hh : 0 < b → h = histD W y (A, B, zero64, zero64, zero64) (16 * b)) :
    Does c (ResD c arg1 arg2 arg3 arg4 arg5 arg6 arg7 arg8 arg9 arg10 arg11 arg12 arg13 arg14 arg15 arg16 arg17 arg18 arg19 arg20 arg21 arg22 arg23 arg24 Y A B W O h)
      (decodeBody i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) ⟨⟩
      (ResD c arg1 arg2 arg3 arg4 arg5 arg6 arg7 arg8 arg9 arg10 arg11 arg12 arg13 arg14 arg15 arg16 arg17 arg18 arg19 arg20 arg21 arg22 arg23 arg24 Y A B W (if b = 32 then outD (histD W y (A, B, zero64, zero64, zero64) (16 * (b + 1))) else O)
        (histD W y (A, B, zero64, zero64, zero64) (16 * (b + 1)))) := by
  have hlt : b < 33 := hb ▸ (i 0).isLt
  unfold decodeBody
  rw [hb]
  dsimp only
  rcases Nat.eq_zero_or_pos b with h0 | hpos
  · subst h0
    have c1 : Scalar.cmpi .ne (Scalar.extui (Scalar.cmpi .eq (BitVec.ofNat 32 0) 0#32) : BitVec 32) 0#32 = 1#1 := by decide
    have c2 : ¬ Scalar.cmpi .ne (Scalar.extui (Scalar.andi (Scalar.cmpi .sgt (BitVec.ofNat 32 0) 0#32) (Scalar.cmpi .slt (BitVec.ofNat 32 0) 32#32)) : BitVec 32) 0#32 = 1#1 := by decide
    have c3 : ¬ k1_cond3 i = 1#1 := by rw [cond1_last, hb]; decide
    rw [dif_pos c1, if_neg (by decide)]
    refine (does_getH (holdsD2 _ _)).bind <| (does_getH (holdsD3 _ _)).bind ?_
    rw [shapeCast_same, shapeCast_same]
    refine (does_dblock (readsD O h) 0 takesD_first (h₀ := (A, B, zero64, zero64, zero64)) hy).bind <| (does_keepAll O h _).bind ?_
    rw [dif_neg c2, dif_neg c3]
    exact Does.pure _
  · obtain rfl := hh hpos
    have c1 : ¬ Scalar.cmpi .ne (Scalar.extui (Scalar.cmpi .eq (BitVec.ofNat 32 b) 0#32) : BitVec 32) 0#32 = 1#1 := by
      rw [cond1_first b hlt, decide_eq_false (by omega)]; decide
    rw [dif_neg c1]
    by_cases h32 : b < 32
    · have c2 : Scalar.cmpi .ne (Scalar.extui (Scalar.andi (Scalar.cmpi .sgt (BitVec.ofNat 32 b) 0#32) (Scalar.cmpi .slt (BitVec.ofNat 32 b) 32#32)) : BitVec 32) 0#32 = 1#1 := by
        rw [cond1_mid b hlt, decide_eq_true ⟨hpos, h32⟩]; rfl
      have c3 : ¬ k1_cond3 i = 1#1 := by rw [cond1_last, hb, decide_eq_false (by omega)]; decide
      rw [dif_pos c2, if_neg (by omega)]
      refine (does_keptAll O _).bind <| (does_dblock (readsD O _) b (takesD_mid b hpos h32) hy).bind <| (does_keepAll O _ _).bind ?_
      rw [dif_neg c3]
      exact Does.pure _
    · obtain rfl : b = 32 := by omega
      have c2 : ¬ Scalar.cmpi .ne (Scalar.extui (Scalar.andi (Scalar.cmpi .sgt (BitVec.ofNat 32 32) 0#32) (Scalar.cmpi .slt (BitVec.ofNat 32 32) 32#32)) : BitVec 32) 0#32 = 1#1 := by decide
      have c3 : k1_cond3 i = 1#1 := by rw [cond1_last, hb]; rfl
      rw [dif_neg c2, dif_pos c3, if_pos rfl]
      exact (does_keptAll O _).bind <| (does_dblock (readsD O _) 32 takesD_last hy).bind <| (does_keepAll O _ _).bind <| (does_putOut O _ _).bind <| Does.pure _

end Cert.KernelIdeal.Gru

end
-- ==== Proof.CompressRegion.lean ====
/- The compress kernel's region: its proof data from any contents of the buffers at its start, and what the body does at each point of the
grid in terms of them. -/
module

public import proofs.«01_k».proof.Proof.CompressBlock
public import proofs.«01_k».proof.Proof.Gen.KernelIdeal.Points
public import proofs.«01_k».proof.Proof.Gen.KernelIdeal.Regions
public import Idealize.ShloMosaic.Lib.Pipeline.RegionArraysS

@[expose] public section

set_option maxRecDepth 16384

noncomputable section

namespace Cert.KernelIdeal.Gru

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen (bigSep_W0 flush0_7 flush0_8 flush0_9)

variable {F : FTy → Type} [FloatOps F]

/-- The printed body of the compress kernel is the one written step by step. -/
def CompressIs (F : FTy → Type) [FloatOps F] : Prop :=
  ∀ (i : grid0.Coords) (arg1 : Memref sig .tc .vmem S32x256x300 .f32) (harg1 : arg1.IsWhole) (arg2 : Memref sig .tc .vmem S48x300 .bf16) (harg2 : arg2.IsWhole) (arg3 : Memref sig .tc .vmem S64x256 .f32) (harg3 : arg3.IsWhole) (arg4 : Memref sig .tc .vmem S48x16 .bf16) (harg4 : arg4.IsWhole) (arg5 : Memref sig .tc .vmem S48x16 .bf16) (harg5 : arg5.IsWhole) (arg6 : Memref sig .tc .vmem S64x256 .f32) (harg6 : arg6.IsWhole) (arg7 : Memref sig .tc .vmem S48x16 .bf16) (harg7 : arg7.IsWhole) (arg8 : Memref sig .tc .vmem S32x16x256 .bf16) (harg8 : arg8.IsWhole) (arg9 : Memref sig .tc .vmem S16x256 .f32) (harg9 : arg9.IsWhole) (arg10 : Memref sig .tc .vmem S16x256 .f32) (harg10 : arg10.IsWhole),
    (cc0_sentemb_compress1 i arg1 harg1 arg2 harg2 arg3 harg3 arg4 harg4 arg5 harg5 arg6 harg6 arg7 harg7 arg8 harg8 arg9 harg9 arg10 harg10 : KProg F PUnit)
      = compressBody i arg1 harg1 arg2 harg2 arg3 harg3 arg4 harg4 arg5 harg5 arg6 harg6 arg7 harg7 arg8 harg8 arg9 harg9 arg10 harg10

/-- The valuations of the unscoped buffers, by device. -/
abbrev Vals (F : FTy → Type) := Dev nD → Valuation τ sig (Elt F)

variable (V : Vals F) (c : Dev nD)

/-- Window `w`'s block at point `t`, from the array's contents. -/
def blk0 (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

theorem N0 : cfg0.N = 17 := Gen.N_0

/-- The first point. -/
def first0 : Fin cfg0.N := ⟨0, by rw [N0]; decide⟩

/-- The first two layers' weights and biases. -/
def W0 : W12 F where
  w1 := blk0 V c 1 first0
  b1 := blk0 V c 2 first0
  u1 := blk0 V c 3 first0
  w2 := blk0 V c 4 first0
  b2 := blk0 V c 5 first0
  u2 := blk0 V c 6 first0

/-- The inputs at time `n`. -/
def x0 (n : ℕ) : FVec F S1x256x300 .f32 :=
  rowX (blk0 V c 0 ⟨n / 32 % 17, by rw [N0]; omega⟩) (n % 32) (by omega)

theorem x0_eq (t : Fin cfg0.N) (d : ℕ) (hd : d < 32) : rowX (blk0 V c 0 t) d hd = x0 V c (32 * t.val + d) := by
  have ht : t.val < 17 := N0 ▸ t.isLt
  have h1 : (32 * t.val + d) / 32 % 17 = t.val := by omega
  have h2 : (32 * t.val + d) % 32 = d := by omega
  unfold x0
  have key : ∀ (a e : ℕ) (ha : a < cfg0.N) (he : e < 32), a = t.val → e = d → rowX (blk0 V c 0 ⟨a, ha⟩) e he = rowX (blk0 V c 0 t) d hd := by
    rintro a e ha he rfl rfl; rfl
  exact (key _ _ _ _ h1 h2).symm

/-- The states of the two layers before time `n`. -/
abbrev hist0 (n : ℕ) : FVec F S16x256 .f32 × FVec F S16x256 .f32 := hist (W0 V c) (x0 V c) n

/-- The proof data of the region. -/
def dat0 : Dat τ (Elt F) Unit ℕ (UR sig nD τ) ℕ cfg0 c where
  A w := V c (Proc.devRef .tc (Pipeline.arrRef spec0 w))
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blockY (W0 V c) (x0 V c) t.val
    | ⟨8, _⟩ => (hist0 V c (32 * (t.val + 1))).1
    | ⟨9, _⟩ => (hist0 V c (32 * (t.val + 1))).2
  Φ _ := Pipeline.scopedRest (Ix := Unit) (Name := ℕ) (U := UR sig nD τ) (Lvl := ℕ) (Val := Elt F) spec0 c
  q _ := fullShare
  owed _ := 0

theorem live0 (w : Fin cfg0.W) (i : cfg0.grid.Coords) : cfg0.idle w i = false := by
  have h : (!(k0_cond1 i == 1#1) && !(k0_cond2 i == 1#1) && !(k0_cond3 i == 1#1)) = false := by
    rw [cond0_first, cond0_mid, cond0_last]
    have hlt : (i 0).val < 17 := (i 0).isLt
    generalize (i 0).val = b at hlt ⊢
    revert b
    decide
  fin_cases w <;> first | rfl | exact h

theorem before0_in (w : Fin cfg0.W) (hw : (cfg0.win w).isOut = false) (t : Fin cfg0.N) (d : (cfg0.win w).block.Idx → Elt F (cfg0.win w).elt)
    (hclip : ∀ t t' : Fin cfg0.N, (cfg0.win w).index t = (cfg0.win w).index t' → (cfg0.win w).clip (cfg0.grid.coords t) = (cfg0.win w).clip (cfg0.grid.coords t'))
    (hkeep : ∀ t, (cfg0.win w).cut (cfg0.grid.coords t) ((dat0 V c).after w t) = (dat0 V c).blockOf w t) : (dat0 V c).before w t d = (dat0 V c).fetched w t d :=
  (dat0 V c).before_in_eq_fetched w hw (live0 w) hclip hkeep t d

theorem before0_8 (t : Fin cfg0.N) (ht : 0 < t.val) (d) : (dat0 V c).before 8 t d = (hist0 V c (32 * t.val)).1 := by
  have hN : t.val < 17 := N0 ▸ t.isLt
  rw [(dat0 V c).before_out_kept 8 rfl t (by omega)
    (Bool.eq_false_iff.mpr fun h => by have := (flush0_8 _).mp h; simp at this; omega) (live0 8) (fun _ _ => rfl) d]
  show (hist0 V c (32 * (t.val - 1 + 1))).1 = _
  rw [Nat.sub_add_cancel ht]

theorem before0_9 (t : Fin cfg0.N) (ht : 0 < t.val) (d) : (dat0 V c).before 9 t d = (hist0 V c (32 * t.val)).2 := by
  have hN : t.val < 17 := N0 ▸ t.isLt
  rw [(dat0 V c).before_out_kept 9 rfl t (by omega)
    (Bool.eq_false_iff.mpr fun h => by have := (flush0_9 _).mp h; simp at this; omega) (live0 9) (fun _ _ => rfl) d]
  show (hist0 V c (32 * (t.val - 1 + 1))).2 = _
  rw [Nat.sub_add_cancel ht]

theorem coords0 (t : Fin cfg0.N) : ((grid0.coords t) 0).val = t.val := by
  revert t
  show ∀ t : Fin grid0.N, ((grid0.coords t) 0).val = t.val
  decide

set_option pp.maxSteps 60 in
/-- The body's work at each point. -/
theorem body0 (heq : CompressIs F) : BodyObligation (dat0 V c) (defs₀ (F := F)) Variants.none () Set.univ := fun t => by
  rw [bigSep_W0, bigSep_W0, show (dat0 V c).owesAt () t.succ = (dat0 V c).owesAt () t.castSucc from rfl, show (dat0 V c).Φ t.succ = (dat0 V c).Φ t.castSucc from rfl]
  dsimp only
  rw [show idle0 7 (grid0.coords t) = false from live0 7 _]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e0 : (dat0 V c).before 0 t d0 = blk0 V c 0 t := before0_in V c 0 rfl t d0 (fun _ _ _ => rfl) (fun _ => rfl)
  have e1 : (dat0 V c).before 1 t d1 = (W0 V c).w1 := (before0_in V c 1 rfl t d1 (fun _ _ _ => rfl) (fun _ => rfl)).trans rfl
  have e2 : (dat0 V c).before 2 t d2 = (W0 V c).b1 := (before0_in V c 2 rfl t d2 (fun _ _ _ => rfl) (fun _ => rfl)).trans rfl
  have e3 : (dat0 V c).before 3 t d3 = (W0 V c).u1 := (before0_in V c 3 rfl t d3 (fun _ _ _ => rfl) (fun _ => rfl)).trans rfl
  have e4 : (dat0 V c).before 4 t d4 = (W0 V c).w2 := (before0_in V c 4 rfl t d4 (fun _ _ _ => rfl) (fun _ => rfl)).trans rfl
  have e5 : (dat0 V c).before 5 t d5 = (W0 V c).b2 := (before0_in V c 5 rfl t d5 (fun _ _ _ => rfl) (fun _ => rfl)).trans rfl
  have e6 : (dat0 V c).before 6 t d6 = (W0 V c).u2 := (before0_in V c 6 rfl t d6 (fun _ _ _ => rfl) (fun _ => rfl)).trans rfl
  rw [e0, e1, e2, e3, e4, e5, e6]
  have hb := does_compressBody (c := c) (W := W0 V c) (x := x0 V c) (grid0.coords t) (harg1 := Gen.facts₀.hstage0_0 (cfg0.slots t 0)) (harg2 := Gen.facts₀.hstage0_1 (cfg0.slots t 1)) (harg3 := Gen.facts₀.hstage0_2 (cfg0.slots t 2))
    (harg4 := Gen.facts₀.hstage0_3 (cfg0.slots t 3)) (harg5 := Gen.facts₀.hstage0_4 (cfg0.slots t 4)) (harg6 := Gen.facts₀.hstage0_5 (cfg0.slots t 5)) (harg7 := Gen.facts₀.hstage0_6 (cfg0.slots t 6)) (harg8 := Gen.facts₀.hstage0_7 (cfg0.slots t 7))
    (harg9 := Gen.facts₀.hstage0_8 (cfg0.slots t 8)) (harg10 := Gen.facts₀.hstage0_9 (cfg0.slots t 9)) t.val (coords0 t) (x0_eq V c t) ((dat0 V c).before 7 t d7) ((dat0 V c).before 8 t d8) ((dat0 V c).before 9 t d9)
    (fun h => before0_8 V c t h d8) (fun h => before0_9 V c t h d9)
  rw [← heq] at hb
  iapply (hb _)
  unfold Res12
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro ⟨H0, H1, H2, H3, H4, H5, H6, H7, H8, H9⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Cert.KernelIdeal.Gru

end
-- ==== Proof.DecodeRegion.lean ====
/- The decode kernel's region: its proof data from any contents of the buffers at its start, and what the body does at each point of the
grid in terms of them. -/
module

public import proofs.«01_k».proof.Proof.DecodeBlock
public import proofs.«01_k».proof.Proof.CompressRegion

@[expose] public section

set_option maxRecDepth 16384

noncomputable section

namespace Cert.KernelIdeal.Gru

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen (bigSep_W1 flush1_18 scopedRest1_eq)

variable {F : FTy → Type} [FloatOps F]

/-- The printed body of the decode kernel is the one written step by step. -/
def DecodeIs (F : FTy → Type) [FloatOps F] : Prop :=
  ∀ (i : grid1.Coords) (arg1 : Memref sig .tc .vmem S16x16x256 .bf16) (harg1 : arg1.IsWhole) (arg2 : Memref sig .tc .vmem S16x256 .f32) (harg2 : arg2.IsWhole) (arg3 : Memref sig .tc .vmem S16x256 .f32) (harg3 : arg3.IsWhole) (arg4 : Memref sig .tc .vmem S48x16 .bf16) (harg4 : arg4.IsWhole) (arg5 : Memref sig .tc .vmem S64x256 .f32) (harg5 : arg5.IsWhole) (arg6 : Memref sig .tc .vmem S48x16 .bf16) (harg6 : arg6.IsWhole) (arg7 : Memref sig .tc .vmem S48x16 .bf16) (harg7 : arg7.IsWhole) (arg8 : Memref sig .tc .vmem S64x256 .f32) (harg8 : arg8.IsWhole) (arg9 : Memref sig .tc .vmem S48x16 .bf16) (harg9 : arg9.IsWhole) (arg10 : Memref sig .tc .vmem S192x16 .bf16) (harg10 : arg10.IsWhole) (arg11 : Memref sig .tc .vmem S256x256 .f32) (harg11 : arg11.IsWhole) (arg12 : Memref sig .tc .vmem S192x64 .bf16) (harg12 : arg12.IsWhole) (arg13 : Memref sig .tc .vmem S192x64 .bf16) (harg13 : arg13.IsWhole) (arg14 : Memref sig .tc .vmem S256x256 .f32) (harg14 : arg14.IsWhole) (arg15 : Memref sig .tc .vmem S192x64 .bf16) (harg15 : arg15.IsWhole) (arg16 : Memref sig .tc .vmem S192x64 .bf16) (harg16 : arg16.IsWhole) (arg17 : Memref sig .tc .vmem S256x256 .f32) (harg17 : arg17.IsWhole) (arg18 : Memref sig .tc .vmem S192x64 .bf16) (harg18 : arg18.IsWhole) (arg19 : Memref sig .tc .vmem S128x256 .f32) (harg19 : arg19.IsWhole) (arg20 : Memref sig .tc .vmem S16x256 .f32) (harg20 : arg20.IsWhole) (arg21 : Memref sig .tc .vmem S16x256 .f32) (harg21 : arg21.IsWhole) (arg22 : Memref sig .tc .vmem S64x256 .f32) (harg22 : arg22.IsWhole) (arg23 : Memref sig .tc .vmem S64x256 .f32) (harg23 : arg23.IsWhole) (arg24 : Memref sig .tc .vmem S64x256 .f32) (harg24 : arg24.IsWhole),
    (cc1_sentemb_decode i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 : KProg F PUnit)
      = decodeBody i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24

variable (V : Vals F) (c : Dev nD)

/-- Window `w`'s block at point `t`, from the array's contents. -/
def blk1 (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem N1 : cfg1.N = 33 := Gen.N_1

/-- The first point. -/
def first1 : Fin cfg1.N := ⟨0, by rw [N1]; decide⟩

/-- The five layers' weights and biases. -/
def W1 : WD F where
  w3 := blk1 V c 3 first1
  b3 := blk1 V c 4 first1
  u3 := blk1 V c 5 first1
  w4 := blk1 V c 6 first1
  b4 := blk1 V c 7 first1
  u4 := blk1 V c 8 first1
  w5 := blk1 V c 9 first1
  b5 := blk1 V c 10 first1
  u5 := blk1 V c 11 first1
  w6 := blk1 V c 12 first1
  b6 := blk1 V c 13 first1
  u6 := blk1 V c 14 first1
  w7 := blk1 V c 15 first1
  b7 := blk1 V c 16 first1
  u7 := blk1 V c 17 first1

/-- The third layer's input at time `n`. -/
def y1 (n : ℕ) : FVec F S1x16x256 .bf16 :=
  rowD (blk1 V c 0 ⟨n / 16 % 33, by rw [N1]; omega⟩) (n % 16) (by omega)

theorem y1_eq (t : Fin cfg1.N) (d : ℕ) (hd : d < 16) : rowD (blk1 V c 0 t) d hd = y1 V c (16 * t.val + d) := by
  have ht : t.val < 33 := N1 ▸ t.isLt
  have h1 : (16 * t.val + d) / 16 % 33 = t.val := by omega
  have h2 : (16 * t.val + d) % 16 = d := by omega
  unfold y1
  have key : ∀ (a e : ℕ) (ha : a < cfg1.N) (he : e < 16), a = t.val → e = d → rowD (blk1 V c 0 ⟨a, ha⟩) e he = rowD (blk1 V c 0 t) d hd := by
    rintro a e ha he rfl rfl; rfl
  exact (key _ _ _ _ h1 h2).symm

/-- The states of the five layers at the start: the first two from the compress kernel's, the others zero. -/
def start1 : Hid F := (blk1 V c 1 first1, blk1 V c 2 first1, zero64, zero64, zero64)

/-- The states of the five layers before time `n`. -/
abbrev hist1 (n : ℕ) : Hid F := histD (W1 V c) (y1 V c) (start1 V c) n

/-- The other kernel's staging buffers, each whole at some contents. -/
def Others : SProp F :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg9_0), ((c : Thread nD τ).loc cc0_stg9_0) ↦{fullShare} f))

/-- The kernel's five state buffers, whole at `h`. -/
def States (h : Hid F) : SProp F :=
  iprop(owns (c : Thread nD τ) (Memref.whole cc1_scratch0) fullShare h.1 ∗ owns (c : Thread nD τ) (Memref.whole cc1_scratch1) fullShare h.2.1 ∗ owns (c : Thread nD τ) (Memref.whole cc1_scratch2) fullShare h.2.2.1 ∗ owns (c : Thread nD τ) (Memref.whole cc1_scratch3) fullShare h.2.2.2.1 ∗ owns (c : Thread nD τ) (Memref.whole cc1_scratch4) fullShare h.2.2.2.2)

/-- What holds between the points: the state buffers at the states before the point's first time (at the first point, at anything), and the
other kernel's staging buffers. -/
def Between (n : ℕ) : SProp F :=
  iprop(∃ h : Hid F, ⌜0 < n → h = hist1 V c (16 * n)⌝ ∗ States c h ∗ Others c)

theorem between_of_rest : (Pipeline.scopedRest (Ix := Unit) (Name := ℕ) (U := UR sig nD τ) (Lvl := ℕ) (Val := Elt F) spec1 c : SProp F) ⊢ Between V c 0 := by
  rw [scopedRest1_eq]
  unfold Between States Others
  simp only [owns_whole_eq]
  iintro ⟨H0, H1, H2, H3, H4, H5, H6, H7, H8, H9, H10, H11, ⟨%f0, G0⟩, ⟨%f1, G1⟩, ⟨%f2, G2⟩, ⟨%f3, G3⟩, ⟨%f4, G4⟩⟩
  iexists (f0, f1, f2, f3, f4)
  isplitr; · ipureintro; exact fun h => absurd h (Nat.lt_irrefl 0)
  isplitl [G0 G1 G2 G3 G4]
  · isplitl [G0]; · iexists f0; isplitr; (· ipureintro; rfl); iexact G0
    isplitl [G1]; · iexists f1; isplitr; (· ipureintro; rfl); iexact G1
    isplitl [G2]; · iexists f2; isplitr; (· ipureintro; rfl); iexact G2
    isplitl [G3]; · iexists f3; isplitr; (· ipureintro; rfl); iexact G3
    iexists f4; isplitr; (· ipureintro; rfl); iexact G4
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem rest_of_between (n : ℕ) : Between V c n ⊢ (Pipeline.scopedRest (Ix := Unit) (Name := ℕ) (U := UR sig nD τ) (Lvl := ℕ) (Val := Elt F) spec1 c : SProp F) := by
  rw [scopedRest1_eq]
  unfold Between States Others
  simp only [owns_whole_eq]
  iintro ⟨%h, -, ⟨⟨%f0, -, G0⟩, ⟨%f1, -, G1⟩, ⟨%f2, -, G2⟩, ⟨%f3, -, G3⟩, ⟨%f4, -, G4⟩⟩, H0, H1, H2, H3, H4, H5, H6, H7, H8, H9, H10, H11⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [G0]; · iexists f0; iexact G0
  isplitl [G1]; · iexists f1; iexact G1
  isplitl [G2]; · iexists f2; iexact G2
  isplitl [G3]; · iexists f3; iexact G3
  iexists f4; iexact G4

/-- The proof data of the region. -/
def dat1 : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => blk1 V c 12 t
    | ⟨13, _⟩ => blk1 V c 13 t
    | ⟨14, _⟩ => blk1 V c 14 t
    | ⟨15, _⟩ => blk1 V c 15 t
    | ⟨16, _⟩ => blk1 V c 16 t
    | ⟨17, _⟩ => blk1 V c 17 t
    | ⟨18, _⟩ => outD (hist1 V c (16 * (t.val + 1)))
    | ⟨n + 19, h⟩ => absurd h (by show ¬ n + 19 < 19; omega)
  Φ t := Between V c t.val
  q _ := fullShare
  owed _ := 0

theorem coords1 (t : Fin cfg1.N) : ((grid1.coords t) 0).val = t.val := by
  revert t
  show ∀ t : Fin grid1.N, ((grid1.coords t) 0).val = t.val
  decide

/-- Every window but the result's is used at every point. -/
theorem live1 (w : Fin cfg1.W) (hw : w.val < 18) (i : cfg1.grid.Coords) : cfg1.idle w i = false := by
  fin_cases w <;> first | rfl | exact absurd hw (by decide)

theorem before1_in (w : Fin cfg1.W) (h18 : w.val < 18) (hw : (cfg1.win w).isOut = false) (t : Fin cfg1.N) (d : (cfg1.win w).block.Idx → Elt F (cfg1.win w).elt)
    (hclip : ∀ t t' : Fin cfg1.N, (cfg1.win w).index t = (cfg1.win w).index t' → (cfg1.win w).clip (cfg1.grid.coords t) = (cfg1.win w).clip (cfg1.grid.coords t'))
    (hkeep : ∀ t, (cfg1.win w).cut (cfg1.grid.coords t) ((dat1 V c).after w t) = (dat1 V c).blockOf w t) : (dat1 V c).before w t d = (dat1 V c).fetched w t d :=
  (dat1 V c).before_in_eq_fetched w hw (live1 w h18) hclip hkeep t d

/-- The result's window is used at the last point only. -/
theorem idle1_18 (t : Fin cfg1.N) : idle1 18 (grid1.coords t) = decide (t.val ≠ 32) := by
  show (!(k1_cond3 (grid1.coords t) == 1#1)) = _
  rw [cond1_last, coords1]
  by_cases h : t.val = 32 <;> simp [h]

theorem flush1_not (t : Fin cfg1.N) (h : t.val ≠ 32) : (win1 18).flush t = false :=
  Bool.eq_false_iff.mpr fun e => by
    have hN : t.val < 33 := N1 ▸ t.isLt
    have := (flush1_18 t).mp e
    omega

set_option maxHeartbeats 4000000 in
set_option pp.maxSteps 60 in
/-- The body's work at each point. -/
theorem body1 (heq : DecodeIs F) : BodyObligation (dat1 V c) (defs₀ (F := F)) Variants.none () Set.univ := fun t => by
  rw [bigSep_W1, bigSep_W1, show (dat1 V c).owesAt () t.succ = (dat1 V c).owesAt () t.castSucc from rfl,
    show (dat1 V c).Φ t.succ = Between V c (t.val + 1) from rfl, show (dat1 V c).Φ t.castSucc = Between V c t.val from rfl]
  dsimp only
  unfold Between
  iintro ⟨⟨%h, %hh, HS, HO⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  have e0 : (dat1 V c).before 0 t d0 = blk1 V c 0 t := before1_in V c 0 (by decide) rfl t d0 (fun _ _ _ => rfl) (fun _ => rfl)
  have e1 : (dat1 V c).before 1 t d1 = blk1 V c 1 first1 := (before1_in V c 1 (by decide) rfl t d1 (fun _ _ _ => rfl) (fun _ => rfl)).trans rfl
  have e2 : (dat1 V c).before 2 t d2 = blk1 V c 2 first1 := (before1_in V c 2 (by decide) rfl t d2 (fun _ _ _ => rfl) (fun _ => rfl)).trans rfl
  have e3 : (dat1 V c).before 3 t d3 = (W1 V c).w3 := (before1_in V c 3 (by decide) rfl t d3 (fun _ _ _ => rfl) (fun _ => rfl)).trans rfl
  have e4 : (dat1 V c).before 4 t d4 = (W1 V c).b3 := (before1_in V c 4 (by decide) rfl t d4 (fun _ _ _ => rfl) (fun _ => rfl)).trans rfl
  have e5 : (dat1 V c).before 5 t d5 = (W1 V c).u3 := (before1_in V c 5 (by decide) rfl t d5 (fun _ _ _ => rfl) (fun _ => rfl)).trans rfl
  have e6 : (dat1 V c).before 6 t d6 = (W1 V c).w4 := (before1_in V c 6 (by decide) rfl t d6 (fun _ _ _ => rfl) (fun _ => rfl)).trans rfl
  have e7 : (dat1 V c).before 7 t d7 = (W1 V c).b4 := (before1_in V c 7 (by decide) rfl t d7 (fun _ _ _ => rfl) (fun _ => rfl)).trans rfl
  have e8 : (dat1 V c).before 8 t d8 = (W1 V c).u4 := (before1_in V c 8 (by decide) rfl t d8 (fun _ _ _ => rfl) (fun _ => rfl)).trans rfl
  have e9 : (dat1 V c).before 9 t d9 = (W1 V c).w5 := (before1_in V c 9 (by decide) rfl t d9 (fun _ _ _ => rfl) (fun _ => rfl)).trans rfl
  have e10 : (dat1 V c).before 10 t d10 = (W1 V c).b5 := (before1_in V c 10 (by decide) rfl t d10 (fun _ _ _ => rfl) (fun _ => rfl)).trans rfl
  have e11 : (dat1 V c).before 11 t d11 = (W1 V c).u5 := (before1_in V c 11 (by decide) rfl t d11 (fun _ _ _ => rfl) (fun _ => rfl)).trans rfl
  have e12 : (dat1 V c).before 12 t d12 = (W1 V c).w6 := (before1_in V c 12 (by decide) rfl t d12 (fun _ _ _ => rfl) (fun _ => rfl)).trans rfl
  have e13 : (dat1 V c).before 13 t d13 = (W1 V c).b6 := (before1_in V c 13 (by decide) rfl t d13 (fun _ _ _ => rfl) (fun _ => rfl)).trans rfl
  have e14 : (dat1 V c).before 14 t d14 = (W1 V c).u6 := (before1_in V c 14 (by decide) rfl t d14 (fun _ _ _ => rfl) (fun _ => rfl)).trans rfl
  have e15 : (dat1 V c).before 15 t d15 = (W1 V c).w7 := (before1_in V c 15 (by decide) rfl t d15 (fun _ _ _ => rfl) (fun _ => rfl)).trans rfl
  have e16 : (dat1 V c).before 16 t d16 = (W1 V c).b7 := (before1_in V c 16 (by decide) rfl t d16 (fun _ _ _ => rfl) (fun _ => rfl)).trans rfl
  have e17 : (dat1 V c).before 17 t d17 = (W1 V c).u7 := (before1_in V c 17 (by decide) rfl t d17 (fun _ _ _ => rfl) (fun _ => rfl)).trans rfl
  rw [e0, e1, e2, e3, e4, e5, e6, e7, e8, e9, e10, e11, e12, e13, e14, e15, e16, e17]
  have hb := does_decodeBody (c := c) (W := W1 V c) (y := y1 V c) (A := blk1 V c 1 first1) (B := blk1 V c 2 first1) (grid1.coords t)
    (harg1 := Gen.facts₀.hstage1_0 (cfg1.slots t 0)) (harg2 := Gen.facts₀.hstage1_1 (cfg1.slots t 1)) (harg3 := Gen.facts₀.hstage1_2 (cfg1.slots t 2)) (harg4 := Gen.facts₀.hstage1_3 (cfg1.slots t 3)) (harg5 := Gen.facts₀.hstage1_4 (cfg1.slots t 4)) (harg6 := Gen.facts₀.hstage1_5 (cfg1.slots t 5)) (harg7 := Gen.facts₀.hstage1_6 (cfg1.slots t 6)) (harg8 := Gen.facts₀.hstage1_7 (cfg1.slots t 7)) (harg9 := Gen.facts₀.hstage1_8 (cfg1.slots t 8)) (harg10 := Gen.facts₀.hstage1_9 (cfg1.slots t 9)) (harg11 := Gen.facts₀.hstage1_10 (cfg1.slots t 10)) (harg12 := Gen.facts₀.hstage1_11 (cfg1.slots t 11)) (harg13 := Gen.facts₀.hstage1_12 (cfg1.slots t 12)) (harg14 := Gen.facts₀.hstage1_13 (cfg1.slots t 13)) (harg15 := Gen.facts₀.hstage1_14 (cfg1.slots t 14)) (harg16 := Gen.facts₀.hstage1_15 (cfg1.slots t 15)) (harg17 := Gen.facts₀.hstage1_16 (cfg1.slots t 16)) (harg18 := Gen.facts₀.hstage1_17 (cfg1.slots t 17)) (harg19 := Gen.facts₀.hstage1_18 (cfg1.slots t 18))
    (harg20 := Memref.isWhole_whole cc1_scratch0) (harg21 := Memref.isWhole_whole cc1_scratch1) (harg22 := Memref.isWhole_whole cc1_scratch2) (harg23 := Memref.isWhole_whole cc1_scratch3) (harg24 := Memref.isWhole_whole cc1_scratch4)
    t.val (coords1 t) (y1_eq V c t) ((dat1 V c).before 18 t d18) h hh
  rw [← heq] at hb
  iapply (hb _)
  unfold ResD States
  icases HS with ⟨S0, S1, S2, S3, S4⟩
  isplitl [H0 H1 H2 H3 H4 H5 H6 H7 H8 H9 H10 H11 H12 H13 H14 H15 H16 H17 H18 S0 S1 S2 S3 S4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S0]; · iexact S0
    isplitl [S1]; · iexact S1
    isplitl [S2]; · iexact S2
    isplitl [S3]; · iexact S3
    iexact S4
  iintro ⟨H0, H1, H2, H3, H4, H5, H6, H7, H8, H9, H10, H11, H12, H13, H14, H15, H16, H17, H18, S0, S1, S2, S3, S4⟩
  isplitl [HO S0 S1 S2 S3 S4]
  · iexists hist1 V c (16 * (t.val + 1))
    isplitr; · ipureintro; exact fun _ => rfl
    isplitr [HO]
    · isplitl [S0]; · iexact S0
      isplitl [S1]; · iexact S1
      isplitl [S2]; · iexact S2
      isplitl [S3]; · iexact S3
      iexact S4
    iexact HO
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  rw [idle1_18]
  by_cases h32 : t.val = 32
  · rw [if_pos h32, decide_eq_false (not_not.mpr h32)]
    iexact H18
  · rw [if_neg h32, decide_eq_true h32, flush1_not t h32]
    iexists d18
    iexact H18

end Cert.KernelIdeal.Gru

end
-- ==== Proof.Run.lean ====
/- The whole program's run: the two regions' records between the host stretches, and what every unscoped buffer holds at the end. -/
module

public import proofs.«01_k».proof.Proof.DecodeRegion

@[expose] public section

set_option maxRecDepth 16384

noncomputable section

namespace Cert.KernelIdeal.Gru

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg Seg)
open Cert.KernelIdeal.Gen (V0 V1 V2 V3 V4 V5 adm segs seg0 seg2 seg4 hostOps0 hostOps1 hostOps2 main_chain launch0 launch1 cellOf_inj regions_no_unscoped)

variable {F : FTy → Type} [FloatOps F]

/-- No core owes another anything; the transfers' counters are the cores' own. -/
def lvl (g : GSem nD τ sig) : Finset Unit := by
  classical exact if g.1.2 = .tc then {()} else ∅

theorem lvl_off (g : GSem nD τ sig) (h : g.1.2 ≠ .tc) : lvl g = ∅ := by
  unfold lvl; rw [if_neg h]

theorem lvl_on (c : Dev nD) (s : SemLoc sig) : () ∈ lvl ((c : Thread nD τ), s) := by
  unfold lvl; rw [if_pos rfl]; exact Finset.mem_singleton_self _

/-- What rides beside the buffers between two items: the core owing nothing. -/
def rest (_ : Fin 3) (c : Dev nD) : SProp F :=
  iprop(∃ W, owes (c : Thread nD τ) (0 : CellTallies nD τ sig Unit) W)

variable (m : (ℓ : Loc nD τ sig) → Buf (Elt F) ℓ)

/-- What the compress region leaves in a buffer. -/
def leaves0 (r : Ref sig .tc) (c : Dev nD) : Buf (Elt F) ((c : Thread nD τ).loc r) :=
  Pipeline.afterRegion (dat0 (V1 m) c) (V1 m c) (Proc.devRef .tc r)

/-- The unscoped buffers before the decode region. -/
def mid (c : Dev nD) : Valuation τ sig (Elt F) := V3 m (fun _ r c => leaves0 m r c) c

/-- What the decode region leaves in a buffer. -/
def leaves1 (r : Ref sig .tc) (c : Dev nD) : Buf (Elt F) ((c : Thread nD τ).loc r) :=
  Pipeline.afterRegion (dat1 (mid m) c) (mid m c) (Proc.devRef .tc r)

/-- What the regions leave. -/
def outs : Gen.Outs (F := F) := fun k r c => if k = 4 then leaves1 m r c else leaves0 m r c

/-- The regions' proof data. -/
def pdats : (p : Fin 2) → (c : Dev nD) → Dat τ (Elt F) Unit ℕ (UR sig nD τ) ℕ (cfgs p) c
  | ⟨0, _⟩ => fun c => dat0 (V1 m) c
  | ⟨1, _⟩ => fun c => dat1 (mid m) c

theorem enter0 (c : Dev nD) : iprop(Pipeline.scopedRest (Ix := Unit) (Name := ℕ) (U := UR sig nD τ) (Lvl := ℕ) (Val := Elt F) spec0 c ∗ (BI.emp : SProp F))
    ⊢ (Pipeline.scopedRest (Ix := Unit) (Name := ℕ) (U := UR sig nD τ) (Lvl := ℕ) (Val := Elt F) spec0 c : SProp F) := by
  iintro ⟨H, -⟩; iexact H

theorem leave0 (c : Dev nD) : (Pipeline.scopedRest (Ix := Unit) (Name := ℕ) (U := UR sig nD τ) (Lvl := ℕ) (Val := Elt F) spec0 c : SProp F)
    ⊢ iprop(Pipeline.scopedRest (Ix := Unit) (Name := ℕ) (U := UR sig nD τ) (Lvl := ℕ) (Val := Elt F) spec0 c ∗ (BI.emp : SProp F)) := by
  iintro H; isplitl [H]; (· iexact H); iempintro

theorem enter1 (V : Vals F) (c : Dev nD) : iprop(Pipeline.scopedRest (Ix := Unit) (Name := ℕ) (U := UR sig nD τ) (Lvl := ℕ) (Val := Elt F) spec1 c ∗ (BI.emp : SProp F))
    ⊢ Between V c 0 := by
  iintro ⟨H, -⟩; iapply (between_of_rest V c); iexact H

theorem leave1 (V : Vals F) (c : Dev nD) (n : ℕ) : Between V c n
    ⊢ iprop(Pipeline.scopedRest (Ix := Unit) (Name := ℕ) (U := UR sig nD τ) (Lvl := ℕ) (Val := Elt F) spec1 c ∗ (BI.emp : SProp F)) := by
  iintro H; isplitl [H]; (· iapply (rest_of_between V c n); iexact H); iempintro

/-- The compress region's record. -/
def reg0 (heq : CompressIs F) : RegionSeg (pcfgs (F := F)) adm (pdats m) () defs₀ Variants.none lvl (fun _ _ => 0) 0 :=
  RegionSeg.ofHeldIn (pcfgs (F := F)) adm (pdats m) () defs₀ Variants.none lvl (fun _ _ => 0) 0 (fun _ => 0) (Pipeline.ucRefs τ sig)
    (fun _ => BI.emp) (fun _ => BI.emp) launch0.toP rfl (fun c => (body0 (V1 m) c heq).loose) (fun _ _ => rfl) (fun _ => rfl)
    (fun c => (dat0 (V1 m) c).share_full fun _ => rfl)
    (fun c => enter0 c) (fun c => leave0 c)
    (fun _ => 0) ⟨fun c w s => lvl_on c _, fun _ _ _ => le_rfl, fun _ _ _ h => absurd h (lt_irrefl _)⟩ (fun _ => BI.emp) (fun c => V1 m c) (fun _ _ => rfl)

/-- The decode region's record. -/
def reg1 (heq : DecodeIs F) : RegionSeg (pcfgs (F := F)) adm (pdats m) () defs₀ Variants.none lvl (fun _ _ => 0) 1 :=
  RegionSeg.ofHeldIn (pcfgs (F := F)) adm (pdats m) () defs₀ Variants.none lvl (fun _ _ => 0) 1 (fun _ => 0) (Pipeline.ucRefs τ sig)
    (fun _ => BI.emp) (fun _ => BI.emp) launch1.toP rfl (fun c => (body1 (mid m) c heq).loose) (fun _ _ => rfl) (fun _ => rfl)
    (fun c => (dat1 (mid m) c).share_full fun _ => rfl)
    (fun c => enter1 (mid m) c) (fun c => leave1 (mid m) c _)
    (fun _ => 0) ⟨fun c w s => lvl_on c _, fun _ _ _ => le_rfl, fun _ _ _ h => absurd h (lt_irrefl _)⟩ (fun _ => BI.emp) (fun c => mid m c) (fun _ _ => rfl)

theorem arr0 : Function.Injective (Pipeline.arrRef (cfg0).spec) := launch0.win.arr_inj
theorem arr1 : Function.Injective (Pipeline.arrRef (cfg1).spec) := launch1.win.arr_inj

/-- A buffer no output window of the compress region covers is as before it. -/
theorem leaves0_of (r : Ref sig .tc) (c : Dev nD) (h : ∀ w, Pipeline.arrRef cfg0.spec w = r → (cfg0.win w).isOut = false) :
    leaves0 m r c = V1 m c (Proc.devRef .tc r) :=
  Pipeline.afterRegion_keeps (dat0 (V1 m) c) (V1 m c) arr0 (fun _ => rfl) r h

theorem leaves1_of (r : Ref sig .tc) (c : Dev nD) (h : ∀ w, Pipeline.arrRef cfg1.spec w = r → (cfg1.win w).isOut = false) :
    leaves1 m r c = mid m c (Proc.devRef .tc r) :=
  Pipeline.afterRegion_keeps (dat1 (mid m) c) (mid m c) arr1 (fun _ => rfl) r h

theorem outside0 (r : Ref sig .tc) (h0 : r ≠ main_v20_0) (h1 : r ≠ main_v20_1) (h2 : r ≠ main_v20_2) :
    ∀ w, Pipeline.arrRef cfg0.spec w = r → (cfg0.win w).isOut = false := by
  intro w e
  fin_cases w <;> first | rfl | exact absurd e.symm h0 | exact absurd e.symm h1 | exact absurd e.symm h2

theorem outside1 (r : Ref sig .tc) (h : r ≠ main_v71) :
    ∀ w, Pipeline.arrRef cfg1.spec w = r → (cfg1.win w).isOut = false := by
  intro w e
  fin_cases w <;> first | rfl | exact absurd e.symm h

/-- After the compress region the buffers are at the run's valuation. -/
theorem after0 (c : Dev nD) : StableHlo.held (c : Thread nD τ) (Pipeline.ucRefs τ sig) (Pipeline.afterRegion (dat0 (V1 m) c) (V1 m c))
    = (StableHlo.held (c : Thread nD τ) (Pipeline.ucRefs τ sig) (V2 m (outs m) c) : SProp F) := by
  refine StableHlo.held_congr _ fun b hb => ?_
  obtain ⟨r, -, rfl⟩ := Finset.mem_map.mp (Finset.mem_filter.mp hb).1
  show leaves0 m r c = V2 m (outs m) c (Proc.devRef .tc r)
  by_cases h2 : r = main_v20_2
  · subst h2
    exact (Function.update_self (β := fun b : DevRef τ sig => b.ty.Contents (Elt F)) (Proc.devRef .tc main_v20_2 : DevRef τ sig) (outs m 2 main_v20_2 c) _).symm
  by_cases h1 : r = main_v20_1
  · subst h1
    exact ((Function.update_of_ne (β := fun b : DevRef τ sig => b.ty.Contents (Elt F)) (StableHlo.devRef_ne_of_ne h2 : (Proc.devRef .tc main_v20_1 : DevRef τ sig) ≠ _) (outs m 2 main_v20_2 c) _).trans
      (Function.update_self (β := fun b : DevRef τ sig => b.ty.Contents (Elt F)) (Proc.devRef .tc main_v20_1 : DevRef τ sig) (outs m 2 main_v20_1 c) _)).symm
  by_cases h0 : r = main_v20_0
  · subst h0
    exact ((Function.update_of_ne (β := fun b : DevRef τ sig => b.ty.Contents (Elt F)) (StableHlo.devRef_ne_of_ne h2 : (Proc.devRef .tc main_v20_0 : DevRef τ sig) ≠ _) (outs m 2 main_v20_2 c) _).trans
      ((Function.update_of_ne (β := fun b : DevRef τ sig => b.ty.Contents (Elt F)) (StableHlo.devRef_ne_of_ne h1 : (Proc.devRef .tc main_v20_0 : DevRef τ sig) ≠ _) (outs m 2 main_v20_1 c) _).trans
        (Function.update_self (β := fun b : DevRef τ sig => b.ty.Contents (Elt F)) (Proc.devRef .tc main_v20_0 : DevRef τ sig) (outs m 2 main_v20_0 c) _))).symm
  rw [leaves0_of m r c (outside0 r h0 h1 h2)]
  exact (Gen.V2_of m (outs m) c r (by simp [h0, h1, h2])).symm

/-- Every array of the compress region is an unscoped buffer. -/
theorem sub0 : Pipeline.arrRefs (pcfgs (F := F) 0).spec ⊆ Pipeline.ucRefs τ sig := Pipeline.arrRefs_sub_ucRefs _ fun w => by fin_cases w <;> rfl
theorem sub1 : Pipeline.arrRefs (pcfgs (F := F) 1).spec ⊆ Pipeline.ucRefs τ sig := Pipeline.arrRefs_sub_ucRefs _ fun w => by fin_cases w <;> rfl

theorem mid_eq (c : Dev nD) : V3 m (outs m) c = mid m c := rfl

/-- After the decode region the buffers are at the run's valuation. -/
theorem after1 (c : Dev nD) : StableHlo.held (c : Thread nD τ) (Pipeline.ucRefs τ sig) (Pipeline.afterRegion (dat1 (mid m) c) (mid m c))
    = (StableHlo.held (c : Thread nD τ) (Pipeline.ucRefs τ sig) (V4 m (outs m) c) : SProp F) := by
  refine StableHlo.held_congr _ fun b hb => ?_
  obtain ⟨r, -, rfl⟩ := Finset.mem_map.mp (Finset.mem_filter.mp hb).1
  show leaves1 m r c = V4 m (outs m) c (Proc.devRef .tc r)
  by_cases h : r = main_v71
  · subst h
    exact (Function.update_self (β := fun b : DevRef τ sig => b.ty.Contents (Elt F)) (Proc.devRef .tc main_v71 : DevRef τ sig) (outs m 4 main_v71 c) _).symm
  rw [leaves1_of m r c (outside1 r h)]
  exact (Gen.V4_of m (outs m) c r (by simp [h])).symm

theorem pre0 (heq : CompressIs F) (c : Dev nD) : iprop(StableHlo.held (c : Thread nD τ) (Pipeline.ucRefs τ sig) (V1 m c) ∗ rest 0 c) ⊢ (reg0 m heq).pre c := by
  refine .trans ?_ (RegionSeg.ofHeldIn_pre sub0 c)
  unfold rest
  iintro ⟨Hh, HO⟩
  isplitl [Hh]; · iexact Hh
  isplitl [HO]; · iexact HO
  isplitr <;> iempintro

theorem post0 (heq : CompressIs F) (c : Dev nD) : (reg0 m heq).post c ⊢ iprop(StableHlo.held (c : Thread nD τ) (Pipeline.ucRefs τ sig) (V2 m (outs m) c) ∗ rest 1 c) := by
  refine (RegionSeg.ofHeldIn_post sub0 c).trans ?_
  unfold rest
  iintro ⟨Hh, HO, -, -⟩
  isplitl [Hh]; · iapply (Entails.of_eq (after0 m c)); iexact Hh
  iexact HO

theorem pre1 (heq : DecodeIs F) (c : Dev nD) : iprop(StableHlo.held (c : Thread nD τ) (Pipeline.ucRefs τ sig) (V3 m (outs m) c) ∗ rest 1 c) ⊢ (reg1 m heq).pre c := by
  refine .trans ?_ (RegionSeg.ofHeldIn_pre sub1 c)
  unfold rest
  iintro ⟨Hh, HO⟩
  isplitl [Hh]; · iexact Hh
  isplitl [HO]; · iexact HO
  isplitr <;> iempintro

theorem post1 (heq : DecodeIs F) (c : Dev nD) : (reg1 m heq).post c ⊢ iprop(StableHlo.held (c : Thread nD τ) (Pipeline.ucRefs τ sig) (V4 m (outs m) c) ∗ rest 2 c) := by
  refine (RegionSeg.ofHeldIn_post sub1 c).trans ?_
  unfold rest
  iintro ⟨Hh, HO, -, -⟩
  isplitl [Hh]; · iapply (Entails.of_eq (after1 m c)); iexact Hh
  iexact HO

/-- What the launch gives a core: its unscoped buffers, and owing nothing. -/
theorem start (ρ : Dev nD → PrngReg) (c : Dev nD) :
    (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) : SProp F)
    ⊢ iprop(StableHlo.held (c : Thread nD τ) (Pipeline.ucRefs τ sig) (V0 m c) ∗ rest 0 c) := by
  rw [← Pipeline.unscopedBufs_held (Ix := Unit) (Name := ℕ) (U := UR sig nD τ) (Lvl := ℕ) c (V0 m c)]
  unfold rest
  iintro ⟨Hb, -, HO, -, -, -⟩
  isplitl [Hb]; · iexact Hb
  iexists ∅; iexact HO

set_option backward.isDefEq.respectTransparency.types false in
/-- Every fair execution terminates with each unscoped buffer at the last valuation and every semaphore counter at zero. -/
theorem run (heq0 : CompressIs F) (heq1 : DecodeIs F) (ρ : Dev nD → PrngReg) :
    θ_run defs (onTc (τ := τ) (main (F := F))) ⟨m, fun _ => 0, ρ⟩ (fun r =>
      (∀ c : Dev nD, ∀ b ∈ Pipeline.ucRefs τ sig, r.2.mem (((c : Thread nD τ)).1, b) = V5 m (outs m) c b) ∧ r.2.sem = fun _ => 0) := by
  refine Pipeline.θ_run_regions_kit_dev_sems (pcfgs (F := F)) adm (pdats m) () cellOf_inj emb₁ defs₀ Variants.none lvl (fun _ _ => 0) m ρ main
    (segs m (outs m) Variants.none lvl (fun _ _ => 0) rest () (pdats m) (reg0 m heq0) (reg1 m heq1))
    (fun c Q => by
      rewrite [main_chain c, Seg.run_eq_chain,
        show (segs m (outs m) Variants.none lvl (fun _ _ => 0) rest () (pdats m) (reg0 m heq0) (reg1 m heq1) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) lvl_off (fun _ => BI.emp)
    (initOf (Pipeline.cells cfgs cellOf_inj) (Pipeline.launchToks cfgs cellOf_inj))
    (by
      iintro Hu; imodintro
      isplitl [Hu]; · iapply (show (ownU _ : SProp F) ⊢ BI.own (emb₁ (initOf (Pipeline.cells cfgs cellOf_inj) (Pipeline.launchToks cfgs cellOf_inj))) from .rfl); iexact Hu
      iapply (show (BI.emp : SProp F) ⊢ bigSep Finset.univ (fun _ : Dev nD => (BI.emp : SProp F)) from by rw [BI.bigSep_emp_const])
      iempintro)
    (T₀ := fun c => iprop(StableHlo.held (c : Thread nD τ) (Pipeline.ucRefs τ sig) (V0 m c) ∗ rest 0 c))
    (Tₙ := fun c => StableHlo.held (c : Thread nD τ) (Pipeline.ucRefs τ sig) (V5 m (outs m) c))
    (hch := fun c => ⟨.rfl, pre0 m heq0 c, post0 m heq0 c, pre1 m heq1 c, post1 m heq1 c, sep_mono .rfl .rfl⟩)
    (hinit := ?_) (QY := fun c s => ∀ b ∈ Pipeline.ucRefs τ sig, s.mem (((c : Thread nD τ)).1, b) = V5 m (outs m) c b)
    (hfin := fun c s' => ?_) (hQ := fun _ h hz => ⟨h, funext fun g => hz g (.inr (regions_no_unscoped g.2))⟩)
  · have hsplit : (bigSep Finset.univ fun c : Dev nD => (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ BI.emp) : SProp F))
        ⊢ (bigSep Finset.univ fun c : Dev nD => (iprop(StableHlo.held (c : Thread nD τ) (Pipeline.ucRefs τ sig) (V0 m c) ∗ rest 0 c) : SProp F)) :=
      bigSep_mono fun c _ => start m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact h
    · iexact HSI

end Cert.KernelIdeal.Gru

end
-- ==== Proof.CompressEq.lean ====
module

public import proofs.«01_k».proof.Proof.CompressText
public import Idealize.ShloMosaic.Lib.Tactic.ProgEq
public import Idealize.ShloMosaic.PureOps.Ideal

/-! The printed body of the compress kernel is the one written step by step. -/

@[expose] public section

set_option maxRecDepth 65536
set_option maxHeartbeats 0

noncomputable section

namespace Cert.KernelIdeal.Gru

open Idealize.ShloMosaic Idealize.SL.Sem
open scoped Idealize.ShloMosaic.ProgEq

prog_eq Cert.KernelIdeal.Gru.compress_eq : Cert.KernelIdeal.cc0_sentemb_compress1 Cert.KernelIdeal.Gru.compressBody
  from Cert.KernelIdeal.Gru to Cert.KernelIdeal.Gru at Ideal inferInstance by (intros; rfl)

end Cert.KernelIdeal.Gru

end
-- ==== Proof.DecodeEq.lean ====
module

public import proofs.«01_k».proof.Proof.DecodeText
public import Idealize.ShloMosaic.Lib.Tactic.ProgEq
public import Idealize.ShloMosaic.PureOps.Ideal

/-! The printed body of the decode kernel is the one written step by step. -/

@[expose] public section

set_option maxRecDepth 65536
set_option maxHeartbeats 0

noncomputable section

namespace Cert.KernelIdeal.Gru

open Idealize.ShloMosaic Idealize.SL.Sem
open scoped Idealize.ShloMosaic.ProgEq

prog_eq Cert.KernelIdeal.Gru.decode_eq : Cert.KernelIdeal.cc1_sentemb_decode Cert.KernelIdeal.Gru.decodeBody
  from Cert.KernelIdeal.Gru to Cert.KernelIdeal.Gru at Ideal inferInstance by (intros; rfl)

end Cert.KernelIdeal.Gru

end
-- ==== Proof.Frames.lean ====
/- From every start the kernel's program ends with its arguments unchanged. -/
module

public import proofs.«01_k».proof.Defs
public import proofs.«01_k».proof.Proof.Run
public import Idealize.ShloMosaic.Lib.StableHlo.RunHlo
public import proofs.«01_k».proof.Proof.CompressEq
public import proofs.«01_k».proof.Proof.DecodeEq

@[expose] public section

set_option maxRecDepth 16384

noncomputable section

namespace Cert.KernelIdeal.Gru

open Idealize.ShloMosaic Idealize.ShloMosaic.TcCoe Idealize.SL.Sem
open Cert.KernelIdeal.Gen (V5)

variable {F : FTy → Type} [FloatOps F]
variable (m : (ℓ : Loc nD τ sig) → Buf (Elt F) ℓ)

/-- A buffer of the main program that is no scratch of a kernel is among those the run speaks of. -/
theorem uc (b : Ref sig .tc) (h : (Proc.devRef (τ := τ) .tc b : DevRef τ sig).isScoped = false) :
    (Proc.devRef (τ := τ) .tc b : DevRef τ sig) ∈ Pipeline.ucRefs τ sig :=
  Finset.mem_filter.mpr ⟨StableHlo.devRef_mem_tcRefs b, by rw [h]; exact Bool.false_ne_true⟩

/-- The twenty-nine arguments end as they began. -/
theorem kept {s : (ℓ : Loc nD τ sig) → Buf (Elt F) ℓ}
    (h : ∀ c : Dev nD, ∀ b ∈ Pipeline.ucRefs τ sig, s (((c : Thread nD τ)).1, b) = V5 m (outs m) c b) (c : Dev nD) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9)
      ∧ s ((c.tc : Thread nD τ).loc main_arg10) = m ((c.tc : Thread nD τ).loc main_arg10)
      ∧ s ((c.tc : Thread nD τ).loc main_arg11) = m ((c.tc : Thread nD τ).loc main_arg11)
      ∧ s ((c.tc : Thread nD τ).loc main_arg12) = m ((c.tc : Thread nD τ).loc main_arg12)
      ∧ s ((c.tc : Thread nD τ).loc main_arg13) = m ((c.tc : Thread nD τ).loc main_arg13)
      ∧ s ((c.tc : Thread nD τ).loc main_arg14) = m ((c.tc : Thread nD τ).loc main_arg14)
      ∧ s ((c.tc : Thread nD τ).loc main_arg15) = m ((c.tc : Thread nD τ).loc main_arg15)
      ∧ s ((c.tc : Thread nD τ).loc main_arg16) = m ((c.tc : Thread nD τ).loc main_arg16)
      ∧ s ((c.tc : Thread nD τ).loc main_arg17) = m ((c.tc : Thread nD τ).loc main_arg17)
      ∧ s ((c.tc : Thread nD τ).loc main_arg18) = m ((c.tc : Thread nD τ).loc main_arg18)
      ∧ s ((c.tc : Thread nD τ).loc main_arg19) = m ((c.tc : Thread nD τ).loc main_arg19)
      ∧ s ((c.tc : Thread nD τ).loc main_arg20) = m ((c.tc : Thread nD τ).loc main_arg20)
      ∧ s ((c.tc : Thread nD τ).loc main_arg21) = m ((c.tc : Thread nD τ).loc main_arg21)
      ∧ s ((c.tc : Thread nD τ).loc main_arg22) = m ((c.tc : Thread nD τ).loc main_arg22)
      ∧ s ((c.tc : Thread nD τ).loc main_arg23) = m ((c.tc : Thread nD τ).loc main_arg23)
      ∧ s ((c.tc : Thread nD τ).loc main_arg24) = m ((c.tc : Thread nD τ).loc main_arg24)
      ∧ s ((c.tc : Thread nD τ).loc main_arg25) = m ((c.tc : Thread nD τ).loc main_arg25)
      ∧ s ((c.tc : Thread nD τ).loc main_arg26) = m ((c.tc : Thread nD τ).loc main_arg26)
      ∧ s ((c.tc : Thread nD τ).loc main_arg27) = m ((c.tc : Thread nD τ).loc main_arg27)
      ∧ s ((c.tc : Thread nD τ).loc main_arg28) = m ((c.tc : Thread nD τ).loc main_arg28) :=
  ⟨(h c _ (uc main_arg0 rfl)).trans (Gen.V5_main_arg0 m (outs m) c),
    (h c _ (uc main_arg1 rfl)).trans (Gen.V5_main_arg1 m (outs m) c),
    (h c _ (uc main_arg2 rfl)).trans (Gen.V5_main_arg2 m (outs m) c),
    (h c _ (uc main_arg3 rfl)).trans (Gen.V5_main_arg3 m (outs m) c),
    (h c _ (uc main_arg4 rfl)).trans (Gen.V5_main_arg4 m (outs m) c),
    (h c _ (uc main_arg5 rfl)).trans (Gen.V5_main_arg5 m (outs m) c),
    (h c _ (uc main_arg6 rfl)).trans (Gen.V5_main_arg6 m (outs m) c),
    (h c _ (uc main_arg7 rfl)).trans (Gen.V5_main_arg7 m (outs m) c),
    (h c _ (uc main_arg8 rfl)).trans (Gen.V5_main_arg8 m (outs m) c),
    (h c _ (uc main_arg9 rfl)).trans (Gen.V5_main_arg9 m (outs m) c),
    (h c _ (uc main_arg10 rfl)).trans (Gen.V5_main_arg10 m (outs m) c),
    (h c _ (uc main_arg11 rfl)).trans (Gen.V5_main_arg11 m (outs m) c),
    (h c _ (uc main_arg12 rfl)).trans (Gen.V5_main_arg12 m (outs m) c),
    (h c _ (uc main_arg13 rfl)).trans (Gen.V5_main_arg13 m (outs m) c),
    (h c _ (uc main_arg14 rfl)).trans (Gen.V5_main_arg14 m (outs m) c),
    (h c _ (uc main_arg15 rfl)).trans (Gen.V5_main_arg15 m (outs m) c),
    (h c _ (uc main_arg16 rfl)).trans (Gen.V5_main_arg16 m (outs m) c),
    (h c _ (uc main_arg17 rfl)).trans (Gen.V5_main_arg17 m (outs m) c),
    (h c _ (uc main_arg18 rfl)).trans (Gen.V5_main_arg18 m (outs m) c),
    (h c _ (uc main_arg19 rfl)).trans (Gen.V5_main_arg19 m (outs m) c),
    (h c _ (uc main_arg20 rfl)).trans (Gen.V5_main_arg20 m (outs m) c),
    (h c _ (uc main_arg21 rfl)).trans (Gen.V5_main_arg21 m (outs m) c),
    (h c _ (uc main_arg22 rfl)).trans (Gen.V5_main_arg22 m (outs m) c),
    (h c _ (uc main_arg23 rfl)).trans (Gen.V5_main_arg23 m (outs m) c),
    (h c _ (uc main_arg24 rfl)).trans (Gen.V5_main_arg24 m (outs m) c),
    (h c _ (uc main_arg25 rfl)).trans (Gen.V5_main_arg25 m (outs m) c),
    (h c _ (uc main_arg26 rfl)).trans (Gen.V5_main_arg26 m (outs m) c),
    (h c _ (uc main_arg27 rfl)).trans (Gen.V5_main_arg27 m (outs m) c),
    (h c _ (uc main_arg28 rfl)).trans (Gen.V5_main_arg28 m (outs m) c)⟩

/-- Where the two kernels' printed bodies are the written ones, the program ends with its arguments unchanged and every counter at zero. -/
theorem frame_of (heq0 : CompressIs F) (heq1 : DecodeIs F) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) ∧ r.2.sem = fun _ => 0) :=
  θ_run_mono (run m heq0 heq1 ρ) fun _ h => ⟨kept m h.1, h.2⟩

/-- The idealized kernel's frame. -/
theorem frame_ideal : quiescent_KernelIdeal (hKernelIdeal := Gen.facts) :=
  fun m ρ _ => frame_of m (fun i => compress_eq i) (fun i => decode_eq i) ρ

end Cert.KernelIdeal.Gru

end
-- ==== Proof.CompressBits.lean ====
module

public import proofs.«01_k».proof.Proof.CompressText
public import Idealize.ShloMosaic.Lib.Tactic.ProgEq
public import Idealize.ShloMosaic.PureOps.BitExact

/-! The printed body of the compress kernel, on words of bits, is the one written step by step. -/

@[expose] public section

set_option maxRecDepth 65536
set_option maxHeartbeats 0

noncomputable section

namespace Cert.KernelIdeal.Gru

open Idealize.ShloMosaic Idealize.SL.Sem
open scoped Idealize.ShloMosaic.ProgEq

prog_eq Cert.KernelIdeal.Gru.compress_bits : Cert.KernelIdeal.cc0_sentemb_compress1 Cert.KernelIdeal.Gru.compressBody
  from Cert.KernelIdeal.Gru to Cert.KernelIdeal.Gru at Bits inferInstance by (intros; rfl)

end Cert.KernelIdeal.Gru

end
-- ==== Proof.DecodeBits.lean ====
module

public import proofs.«01_k».proof.Proof.DecodeText
public import Idealize.ShloMosaic.Lib.Tactic.ProgEq
public import Idealize.ShloMosaic.PureOps.BitExact

/-! The printed body of the decode kernel, on words of bits, is the one written step by step. -/

@[expose] public section

set_option maxRecDepth 65536
set_option maxHeartbeats 0

noncomputable section

namespace Cert.KernelIdeal.Gru

open Idealize.ShloMosaic Idealize.SL.Sem
open scoped Idealize.ShloMosaic.ProgEq

prog_eq Cert.KernelIdeal.Gru.decode_bits : Cert.KernelIdeal.cc1_sentemb_decode Cert.KernelIdeal.Gru.decodeBody
  from Cert.KernelIdeal.Gru to Cert.KernelIdeal.Gru at Bits inferInstance by (intros; rfl)

end Cert.KernelIdeal.Gru

end
-- ==== Proof.FrameBits.lean ====
/- The kernel as printed, on words of bits, ends with its arguments unchanged: the run of the idealized text, which is the same text. -/
module

public import proofs.«01_k».proof.Proof.Same
public import proofs.«01_k».proof.Proof.SameDefs
public import proofs.«01_k».proof.Proof.Frames
public import proofs.«01_k».proof.Proof.CompressBits
public import proofs.«01_k».proof.Proof.DecodeBits

@[expose] public section

set_option maxRecDepth 16384

noncomputable section

namespace Cert.Same

open Idealize.ShloMosaic Idealize.ShloMosaic.TcCoe Idealize.SL.Sem

set_option maxHeartbeats 8000000 in
/-- The kernel's frame. -/
theorem frame_kernel : quiescent_Kernel (hKernel := Cert.Kernel.Gen.facts) := fun m ρ _ => by
  have h := Cert.KernelIdeal.Gru.frame_of (F := Bits) m (fun i => Cert.KernelIdeal.Gru.compress_bits i)
    (fun i => Cert.KernelIdeal.Gru.decode_bits i) ρ
  rw [defs_same, main_same]
  exact h

end Cert.Same

end
-- ==== Proof.RefOps.lean ====
/- The reference's scan, written once for any width: the operations one scan step runs, and those before a scan. -/
module

public import proofs.«01_k».proof.ReferenceIdeal
public import proofs.«01_k».proof.Proof.Gen.ReferenceIdeal
public import Idealize.ShloMosaic.Lib.StableHlo.RunLoop
public import Idealize.ShloMosaic.Lib.StableHlo.RunRead

@[expose] public section

set_option maxRecDepth 16384

noncomputable section

namespace Cert.ReferenceIdeal.Scan

open Idealize.ShloMosaic Idealize.ShloMosaic.TcCoe Idealize.SL.Sem
open Idealize.ShloMosaic.StableHlo (TRef)

variable {F : FTy → Type} [FloatOps F]

/-- A shape of no axes. -/
abbrev S : Shape := ⟨0, ![]⟩
/-- A shape of one axis. -/
abbrev Sh1 (a : ℕ) : Shape := ⟨1, ![a]⟩
/-- A shape of two axes. -/
abbrev Sh2 (a b : ℕ) : Shape := ⟨2, ![a, b]⟩
/-- A shape of three axes. -/
abbrev Sh3 (a b c : ℕ) : Shape := ⟨3, ![a, b, c]⟩

/-- What a step's layout operations ask of the state's width `h` and the gates' width `g`. -/
class Fits (h g : ℕ) : Prop where
  cut : (Sh3 512 256 g).Slices (fun _ => 0) (Sh3 1 256 g)
  flat : (Sh3 1 256 g).ShapeCasts (Sh2 256 g)
  turn : (Sh2 g h).Transposes [1, 0] (Sh2 h g)
  dot : DotDims.WF (Sh2 256 h) (Sh2 h g) (Sh2 256 g) [1] [0] [0] [1] [] []
  row : (Sh1 g).BroadcastsInDim (Sh2 1 g) (![1] : Fin 1 → Fin (Sh2 1 g).rank)
  rows : (Sh2 1 g).BroadcastsInDim (Sh2 256 g) (![0, 1] : Fin 2 → Fin (Sh2 256 g).rank)
  gate0 : (Sh2 256 g).Slices ![0, 0] (Sh2 256 h)
  gate1 : (Sh2 256 g).Slices ![0, h] (Sh2 256 h)
  gate2 : (Sh2 256 g).Slices ![0, 2 * h] (Sh2 256 h)
  fill : S.BroadcastsInDim (Sh2 256 h) (![] : Fin 0 → Fin (Sh2 256 h).rank)
  lift : (Sh2 256 h).BroadcastsInDim (Sh3 1 256 h) (![1, 2] : Fin 2 → Fin (Sh3 1 256 h).rank)
  put : (Sh3 512 256 h).Slices (fun _ => 0) (Sh3 1 256 h)
  bias : (Sh1 g).BroadcastsInDim (Sh3 1 1 g) (![2] : Fin 1 → Fin (Sh3 1 1 g).rank)
  biases : (Sh3 1 1 g).BroadcastsInDim (Sh3 512 256 g) (![0, 1, 2] : Fin 3 → Fin (Sh3 512 256 g).rank)
  fills : S.BroadcastsInDim (Sh3 512 256 h) (![] : Fin 0 → Fin (Sh3 512 256 h).rank)

theorem one : 0 < S.numel := Gen.facts.h_S_

/-- The state's product with its weights. -/
def dotU (h g : ℕ) [Fits h g] : DotDims (Sh2 256 h) (Sh2 h g) (Sh2 256 g) where
  lhsContracting := [1]
  rhsContracting := [0]
  lhsNonContracting := [0]
  rhsNonContracting := [1]
  lhsBatch := []
  rhsBatch := []
  wf := Fits.dot

/-- The input's product with its weights. -/
def dotX (k g : ℕ) (wf : DotDims.WF (Sh3 512 256 k) (Sh2 g k) (Sh3 512 256 g) [2] [1] [0, 1] [0] [] []) :
    DotDims (Sh3 512 256 k) (Sh2 g k) (Sh3 512 256 g) where
  lhsContracting := [2]
  rhsContracting := [1]
  lhsNonContracting := [0, 1]
  rhsNonContracting := [0]
  lhsBatch := []
  rhsBatch := []
  wf := wf

/-- The buffers of one scan: what it carries, a step's values, and its test's. -/
structure Bufs (h g : ℕ) where
  xp : TRef sig ⟨Sh3 512 256 g, .f32⟩
  u : TRef sig ⟨Sh2 g h, .f32⟩
  b : TRef sig ⟨Sh1 g, .f32⟩
  i : TRef sig ⟨S, .i32⟩
  s : TRef sig ⟨Sh2 256 h, .f32⟩
  ys : TRef sig ⟨Sh3 512 256 h, .f32⟩
  c0 : TRef sig ⟨S, .i32⟩
  c1 : TRef sig ⟨S, .i32⟩
  x0 : TRef sig ⟨Sh3 1 256 g, .f32⟩
  x : TRef sig ⟨Sh2 256 g, .f32⟩
  ut : TRef sig ⟨Sh2 h g, .f32⟩
  hu : TRef sig ⟨Sh2 256 g, .f32⟩
  b0 : TRef sig ⟨Sh2 1 g, .f32⟩
  b1 : TRef sig ⟨Sh2 256 g, .f32⟩
  hp : TRef sig ⟨Sh2 256 g, .f32⟩
  xr : TRef sig ⟨Sh2 256 h, .f32⟩
  xz : TRef sig ⟨Sh2 256 h, .f32⟩
  xn : TRef sig ⟨Sh2 256 h, .f32⟩
  hr : TRef sig ⟨Sh2 256 h, .f32⟩
  hz : TRef sig ⟨Sh2 256 h, .f32⟩
  hn : TRef sig ⟨Sh2 256 h, .f32⟩
  ra : TRef sig ⟨Sh2 256 h, .f32⟩
  rb : TRef sig ⟨Sh2 256 h, .f32⟩
  rc : TRef sig ⟨Sh2 256 h, .f32⟩
  one0 : TRef sig ⟨S, .f32⟩
  rd : TRef sig ⟨Sh2 256 h, .f32⟩
  re : TRef sig ⟨Sh2 256 h, .f32⟩
  one1 : TRef sig ⟨S, .f32⟩
  rf : TRef sig ⟨Sh2 256 h, .f32⟩
  r : TRef sig ⟨Sh2 256 h, .f32⟩
  za : TRef sig ⟨Sh2 256 h, .f32⟩
  zb : TRef sig ⟨Sh2 256 h, .f32⟩
  zc : TRef sig ⟨Sh2 256 h, .f32⟩
  one2 : TRef sig ⟨S, .f32⟩
  zd : TRef sig ⟨Sh2 256 h, .f32⟩
  ze : TRef sig ⟨Sh2 256 h, .f32⟩
  one3 : TRef sig ⟨S, .f32⟩
  zf : TRef sig ⟨Sh2 256 h, .f32⟩
  z : TRef sig ⟨Sh2 256 h, .f32⟩
  na : TRef sig ⟨Sh2 256 h, .f32⟩
  nb : TRef sig ⟨Sh2 256 h, .f32⟩
  n : TRef sig ⟨Sh2 256 h, .f32⟩
  one4 : TRef sig ⟨S, .f32⟩
  wa : TRef sig ⟨Sh2 256 h, .f32⟩
  wb : TRef sig ⟨Sh2 256 h, .f32⟩
  wc : TRef sig ⟨Sh2 256 h, .f32⟩
  wd : TRef sig ⟨Sh2 256 h, .f32⟩
  new : TRef sig ⟨Sh2 256 h, .f32⟩
  y0 : TRef sig ⟨Sh3 1 256 h, .f32⟩
  c2 : TRef sig ⟨S, .i32⟩
  c3 : TRef sig ⟨S, .i32⟩
  y : TRef sig ⟨Sh3 512 256 h, .f32⟩
  c4 : TRef sig ⟨S, .i32⟩
  i1 : TRef sig ⟨S, .i32⟩
  lim : TRef sig ⟨S, .i32⟩
  p : TRef sig ⟨S, .i1⟩

variable {h g : ℕ} [Fits h g]

/-- One step of a scan, operation by operation. -/
def stepOps (φ : Bufs h g) : List (HloOp τ sig (Elt F)) :=
  [TRef.nullary φ.c0 (constantI S 32 0#32),
   TRef.nullary φ.c1 (constantI S 32 0#32),
   TRef.unaryIndexed φ.xp ![φ.i, φ.c0, φ.c1] φ.x0 (fun x i => Host.dynamicSlice (Sh3 1 256 g) x (fun k => (i k (Shape.Idx.first one)).toInt) (Fits.cut h)),
   TRef.reshape φ.x0 φ.x (rfl : (.f32 : EltTy) = .f32) (Fits.flat h),
   TRef.unary φ.u φ.ut (transpose (Sh2 h g) [1, 0] · Fits.turn),
   TRef.binary φ.s φ.ut φ.hu (fun l r => Host.dotGeneral (dotU h g) none l r),
   TRef.unary φ.b φ.b0 (broadcastInDim (Sh2 1 g) ![1] (Fits.row h)),
   TRef.unary φ.b0 φ.b1 (broadcastInDim (Sh2 256 g) ![0, 1] (Fits.rows h)),
   TRef.binary φ.hu φ.b1 φ.hp addf,
   TRef.unary φ.x φ.xr (extractStridedSlice (Sh2 256 h) ![0, 0] · Fits.gate0),
   TRef.unary φ.x φ.xz (extractStridedSlice (Sh2 256 h) ![0, h] · Fits.gate1),
   TRef.unary φ.x φ.xn (extractStridedSlice (Sh2 256 h) ![0, 2 * h] · Fits.gate2),
   TRef.unary φ.hp φ.hr (extractStridedSlice (Sh2 256 h) ![0, 0] · Fits.gate0),
   TRef.unary φ.hp φ.hz (extractStridedSlice (Sh2 256 h) ![0, h] · Fits.gate1),
   TRef.unary φ.hp φ.hn (extractStridedSlice (Sh2 256 h) ![0, 2 * h] · Fits.gate2),
   TRef.binary φ.xr φ.hr φ.ra addf,
   TRef.unary φ.ra φ.rb (Host.negf),
   TRef.unary φ.rb φ.rc (Host.exp),
   TRef.nullary φ.one0 (constant S .f32 0x3F800000#32),
   TRef.unary φ.one0 φ.rd (broadcastInDim (Sh2 256 h) ![] (Fits.fill g)),
   TRef.binary φ.rd φ.rc φ.re addf,
   TRef.nullary φ.one1 (constant S .f32 0x3F800000#32),
   TRef.unary φ.one1 φ.rf (broadcastInDim (Sh2 256 h) ![] (Fits.fill g)),
   TRef.binary φ.rf φ.re φ.r (Host.divf),
   TRef.binary φ.xz φ.hz φ.za addf,
   TRef.unary φ.za φ.zb (Host.negf),
   TRef.unary φ.zb φ.zc (Host.exp),
   TRef.nullary φ.one2 (constant S .f32 0x3F800000#32),
   TRef.unary φ.one2 φ.zd (broadcastInDim (Sh2 256 h) ![] (Fits.fill g)),
   TRef.binary φ.zd φ.zc φ.ze addf,
   TRef.nullary φ.one3 (constant S .f32 0x3F800000#32),
   TRef.unary φ.one3 φ.zf (broadcastInDim (Sh2 256 h) ![] (Fits.fill g)),
   TRef.binary φ.zf φ.ze φ.z (Host.divf),
   TRef.binary φ.r φ.hn φ.na mulf,
   TRef.binary φ.xn φ.na φ.nb addf,
   TRef.unary φ.nb φ.n (Host.tanh),
   TRef.nullary φ.one4 (constant S .f32 0x3F800000#32),
   TRef.unary φ.one4 φ.wa (broadcastInDim (Sh2 256 h) ![] (Fits.fill g)),
   TRef.binary φ.wa φ.z φ.wb subf,
   TRef.binary φ.wb φ.n φ.wc mulf,
   TRef.binary φ.z φ.s φ.wd mulf,
   TRef.binary φ.wc φ.wd φ.new addf,
   TRef.unary φ.new φ.y0 (broadcastInDim (Sh3 1 256 h) ![1, 2] (Fits.lift g)),
   TRef.nullary φ.c2 (constantI S 32 0#32),
   TRef.nullary φ.c3 (constantI S 32 0#32),
   TRef.binaryIndexed φ.ys φ.y0 ![φ.i, φ.c2, φ.c3] φ.y (fun x u i => Host.dynamicUpdateSlice x u (fun k => (i k (Shape.Idx.first one)).toInt) (Fits.put g)),
   TRef.nullary φ.c4 (constantI S 32 1#32),
   TRef.binary φ.i φ.c4 φ.i1 addi,
   TRef.unary φ.i1 φ.i id,
   TRef.unary φ.new φ.s id,
   TRef.unary φ.y φ.ys id]

/-- The buffers a step writes, in order. -/
def stepWrites (φ : Bufs h g) : List (Ref sig .tc) :=
  [φ.c0.ref, φ.c1.ref, φ.x0.ref, φ.x.ref, φ.ut.ref, φ.hu.ref, φ.b0.ref, φ.b1.ref, φ.hp.ref, φ.xr.ref, φ.xz.ref, φ.xn.ref, φ.hr.ref, φ.hz.ref, φ.hn.ref, φ.ra.ref, φ.rb.ref, φ.rc.ref, φ.one0.ref, φ.rd.ref, φ.re.ref, φ.one1.ref, φ.rf.ref, φ.r.ref, φ.za.ref, φ.zb.ref, φ.zc.ref, φ.one2.ref, φ.zd.ref, φ.ze.ref, φ.one3.ref, φ.zf.ref, φ.z.ref, φ.na.ref, φ.nb.ref, φ.n.ref, φ.one4.ref, φ.wa.ref, φ.wb.ref, φ.wc.ref, φ.wd.ref, φ.new.ref, φ.y0.ref, φ.c2.ref, φ.c3.ref, φ.y.ref, φ.c4.ref, φ.i1.ref, φ.i.ref, φ.s.ref, φ.ys.ref]

/-- The operations of a scan's test: the counter against the length. -/
def testOps (φ : Bufs h g) : List (HloOp τ sig (Elt F)) :=
  [TRef.nullary φ.lim (constantI S 32 512#32), TRef.binary φ.i φ.lim φ.p (cmpi .slt)]

/-- The buffers of a layer before its scan: the layer's input and weights, the values made of them. -/
structure Heads (k h g : ℕ) where
  src : TRef sig ⟨Sh3 512 256 k, .f32⟩
  w : TRef sig ⟨Sh2 g k, .f32⟩
  u : TRef sig ⟨Sh2 g h, .f32⟩
  bw : TRef sig ⟨Sh1 g, .f32⟩
  bu : TRef sig ⟨Sh1 g, .f32⟩
  s0 : TRef sig ⟨Sh2 256 h, .f32⟩
  xw : TRef sig ⟨Sh3 512 256 g, .f32⟩
  b0 : TRef sig ⟨Sh3 1 1 g, .f32⟩
  b1 : TRef sig ⟨Sh3 512 256 g, .f32⟩
  xp : TRef sig ⟨Sh3 512 256 g, .f32⟩
  nought : TRef sig ⟨S, .f32⟩
  ys : TRef sig ⟨Sh3 512 256 h, .f32⟩
  i : TRef sig ⟨S, .i32⟩

/-- The operations of a layer before its scan: the input's product with its weights plus the bias, and the scan's start. -/
def headOps {k : ℕ} (wf : DotDims.WF (Sh3 512 256 k) (Sh2 g k) (Sh3 512 256 g) [2] [1] [0, 1] [0] [] []) (η : Heads k h g) (φ : Bufs h g) :
    List (HloOp τ sig (Elt F)) :=
  [TRef.binary η.src η.w η.xw (fun l r => Host.dotGeneral (dotX k g wf) none l r),
   TRef.unary η.bw η.b0 (broadcastInDim (Sh3 1 1 g) ![2] (Fits.bias h)),
   TRef.unary η.b0 η.b1 (broadcastInDim (Sh3 512 256 g) ![0, 1, 2] (Fits.biases h)),
   TRef.binary η.xw η.b1 η.xp addf,
   TRef.nullary η.nought (constant S .f32 0x00000000#32),
   TRef.unary η.nought η.ys (broadcastInDim (Sh3 512 256 h) ![] (Fits.fills g)),
   TRef.nullary η.i (constantI S 32 0#32),
   TRef.unary η.xp φ.xp id, TRef.unary η.u φ.u id, TRef.unary η.bu φ.b id, TRef.unary η.i φ.i id, TRef.unary η.s0 φ.s id,
   TRef.unary η.ys φ.ys id]

/-- The buffers the operations before a scan write, in order. -/
def headWrites {k : ℕ} (η : Heads k h g) (φ : Bufs h g) : List (Ref sig .tc) :=
  [η.xw.ref, η.b0.ref, η.b1.ref, η.xp.ref, η.nought.ref, η.ys.ref, η.i.ref, φ.xp.ref, φ.u.ref, φ.b.ref, φ.i.ref, φ.s.ref, φ.ys.ref]

omit [FloatOps F] in
/-- A list whose operations each write the named buffer keeps every other buffer. -/
theorem keeps {ops : List (HloOp τ sig (Elt F))} (W : List (Ref sig .tc))
    (hW : ops.map HloOp.writes = W.map fun w => {Proc.devRef (τ := τ) .tc w}) {r : Ref sig .tc} (hr : r ∉ W) (V : Valuation τ sig (Elt F)) :
    StableHlo.after ops V (Proc.devRef .tc r) = V (Proc.devRef .tc r) := StableHlo.after_unwritten W hW hr V

theorem step_writes (φ : Bufs h g) : (stepOps (F := F) φ).map HloOp.writes = (stepWrites φ).map fun w => {Proc.devRef (τ := τ) .tc w} := rfl

theorem test_writes (φ : Bufs h g) : (testOps (F := F) φ).map HloOp.writes = [φ.lim.ref, φ.p.ref].map fun w => {Proc.devRef (τ := τ) .tc w} := rfl

theorem head_writes {k : ℕ} (wf) (η : Heads k h g) (φ : Bufs h g) :
    (headOps (F := F) wf η φ).map HloOp.writes = (headWrites η φ).map fun w => {Proc.devRef (τ := τ) .tc w} := rfl

instance : Fits 16 48 where
  cut := Gen.facts.sliceFits_S512x256x48_S1x256x48
  flat := Gen.facts.shapeCasts_S1x256x48_S256x48
  turn := Gen.facts.transposes_S48x16_S16x48_1_0
  dot := Gen.facts.dot_S256x16_S16x48_S256x48_1_0_0_1_n_n_wf
  row := Gen.facts.bcast_S48_S1x48_1
  rows := Gen.facts.bcast_S1x48_S256x48_0_1
  gate0 := Gen.facts.slices_S256x48_S256x16_0_0
  gate1 := Gen.facts.slices_S256x48_S256x16_0_16
  gate2 := Gen.facts.slices_S256x48_S256x16_0_32
  fill := Gen.facts.bcast_S_S256x16
  lift := Gen.facts.bcast_S256x16_S1x256x16_1_2
  put := Gen.facts.updateFits_S512x256x16_S1x256x16
  bias := Gen.facts.bcast_S48_S1x1x48_2
  biases := Gen.facts.bcast_S1x1x48_S512x256x48_0_1_2
  fills := Gen.facts.bcast_S_S512x256x16

instance : Fits 64 192 where
  cut := Gen.facts.sliceFits_S512x256x192_S1x256x192
  flat := Gen.facts.shapeCasts_S1x256x192_S256x192
  turn := Gen.facts.transposes_S192x64_S64x192_1_0
  dot := Gen.facts.dot_S256x64_S64x192_S256x192_1_0_0_1_n_n_wf
  row := Gen.facts.bcast_S192_S1x192_1
  rows := Gen.facts.bcast_S1x192_S256x192_0_1
  gate0 := Gen.facts.slices_S256x192_S256x64_0_0
  gate1 := Gen.facts.slices_S256x192_S256x64_0_64
  gate2 := Gen.facts.slices_S256x192_S256x64_0_128
  fill := Gen.facts.bcast_S_S256x64
  lift := Gen.facts.bcast_S256x64_S1x256x64_1_2
  put := Gen.facts.updateFits_S512x256x64_S1x256x64
  bias := Gen.facts.bcast_S192_S1x1x192_2
  biases := Gen.facts.bcast_S1x1x192_S512x256x192_0_1_2
  fills := Gen.facts.bcast_S_S512x256x64

/-- The buffers of scan 0. -/
def bufs0 : Bufs 16 48 :=
  ⟨.of main_v7_0, .of main_v7_1, .of main_v7_2, .of main_v7_3, .of main_v7_4, .of main_v7_5, .of main_while0b_call0_c, .of main_while0b_call0_c_0, .of main_while0b_call0_v0, .of main_while0b_v45, .of main_while0b_v46, .of main_while0b_v47, .of main_while0b_v48, .of main_while0b_v49, .of main_while0b_v50, .of main_while0b_v51, .of main_while0b_v52, .of main_while0b_v53, .of main_while0b_v54, .of main_while0b_v55, .of main_while0b_v56, .of main_while0b_v57, .of main_while0b_v58, .of main_while0b_v59, .of main_while0b_cst_19, .of main_while0b_v60, .of main_while0b_v61, .of main_while0b_cst_20, .of main_while0b_v62, .of main_while0b_v63, .of main_while0b_v64, .of main_while0b_v65, .of main_while0b_v66, .of main_while0b_cst_21, .of main_while0b_v67, .of main_while0b_v68, .of main_while0b_cst_22, .of main_while0b_v69, .of main_while0b_v70, .of main_while0b_v71, .of main_while0b_v72, .of main_while0b_v73, .of main_while0b_cst_23, .of main_while0b_v74, .of main_while0b_v75, .of main_while0b_v76, .of main_while0b_v77, .of main_while0b_v78, .of main_while0b_call1_v0, .of main_while0b_call1_c, .of main_while0b_call1_c_0, .of main_while0b_v79, .of main_while0b_c_24, .of main_while0b_v80, .of main_while0c_c_19, .of main_while0c_v45⟩

/-- The buffers of scan 1. -/
def bufs1 : Bufs 16 48 :=
  ⟨.of main_v13_0, .of main_v13_1, .of main_v13_2, .of main_v13_3, .of main_v13_4, .of main_v13_5, .of main_while1b_call2_c, .of main_while1b_call2_c_0, .of main_while1b_call2_v0, .of main_while1b_v45, .of main_while1b_v46, .of main_while1b_v47, .of main_while1b_v48, .of main_while1b_v49, .of main_while1b_v50, .of main_while1b_v51, .of main_while1b_v52, .of main_while1b_v53, .of main_while1b_v54, .of main_while1b_v55, .of main_while1b_v56, .of main_while1b_v57, .of main_while1b_v58, .of main_while1b_v59, .of main_while1b_cst_19, .of main_while1b_v60, .of main_while1b_v61, .of main_while1b_cst_20, .of main_while1b_v62, .of main_while1b_v63, .of main_while1b_v64, .of main_while1b_v65, .of main_while1b_v66, .of main_while1b_cst_21, .of main_while1b_v67, .of main_while1b_v68, .of main_while1b_cst_22, .of main_while1b_v69, .of main_while1b_v70, .of main_while1b_v71, .of main_while1b_v72, .of main_while1b_v73, .of main_while1b_cst_23, .of main_while1b_v74, .of main_while1b_v75, .of main_while1b_v76, .of main_while1b_v77, .of main_while1b_v78, .of main_while1b_call3_v0, .of main_while1b_call3_c, .of main_while1b_call3_c_0, .of main_while1b_v79, .of main_while1b_c_24, .of main_while1b_v80, .of main_while1c_c_19, .of main_while1c_v45⟩

/-- The buffers of scan 2. -/
def bufs2 : Bufs 16 48 :=
  ⟨.of main_v19_0, .of main_v19_1, .of main_v19_2, .of main_v19_3, .of main_v19_4, .of main_v19_5, .of main_while2b_call4_c, .of main_while2b_call4_c_0, .of main_while2b_call4_v0, .of main_while2b_v45, .of main_while2b_v46, .of main_while2b_v47, .of main_while2b_v48, .of main_while2b_v49, .of main_while2b_v50, .of main_while2b_v51, .of main_while2b_v52, .of main_while2b_v53, .of main_while2b_v54, .of main_while2b_v55, .of main_while2b_v56, .of main_while2b_v57, .of main_while2b_v58, .of main_while2b_v59, .of main_while2b_cst_19, .of main_while2b_v60, .of main_while2b_v61, .of main_while2b_cst_20, .of main_while2b_v62, .of main_while2b_v63, .of main_while2b_v64, .of main_while2b_v65, .of main_while2b_v66, .of main_while2b_cst_21, .of main_while2b_v67, .of main_while2b_v68, .of main_while2b_cst_22, .of main_while2b_v69, .of main_while2b_v70, .of main_while2b_v71, .of main_while2b_v72, .of main_while2b_v73, .of main_while2b_cst_23, .of main_while2b_v74, .of main_while2b_v75, .of main_while2b_v76, .of main_while2b_v77, .of main_while2b_v78, .of main_while2b_call5_v0, .of main_while2b_call5_c, .of main_while2b_call5_c_0, .of main_while2b_v79, .of main_while2b_c_24, .of main_while2b_v80, .of main_while2c_c_19, .of main_while2c_v45⟩

/-- The buffers of scan 3. -/
def bufs3 : Bufs 16 48 :=
  ⟨.of main_v25_0, .of main_v25_1, .of main_v25_2, .of main_v25_3, .of main_v25_4, .of main_v25_5, .of main_while3b_call6_c, .of main_while3b_call6_c_0, .of main_while3b_call6_v0, .of main_while3b_v45, .of main_while3b_v46, .of main_while3b_v47, .of main_while3b_v48, .of main_while3b_v49, .of main_while3b_v50, .of main_while3b_v51, .of main_while3b_v52, .of main_while3b_v53, .of main_while3b_v54, .of main_while3b_v55, .of main_while3b_v56, .of main_while3b_v57, .of main_while3b_v58, .of main_while3b_v59, .of main_while3b_cst_19, .of main_while3b_v60, .of main_while3b_v61, .of main_while3b_cst_20, .of main_while3b_v62, .of main_while3b_v63, .of main_while3b_v64, .of main_while3b_v65, .of main_while3b_v66, .of main_while3b_cst_21, .of main_while3b_v67, .of main_while3b_v68, .of main_while3b_cst_22, .of main_while3b_v69, .of main_while3b_v70, .of main_while3b_v71, .of main_while3b_v72, .of main_while3b_v73, .of main_while3b_cst_23, .of main_while3b_v74, .of main_while3b_v75, .of main_while3b_v76, .of main_while3b_v77, .of main_while3b_v78, .of main_while3b_call7_v0, .of main_while3b_call7_c, .of main_while3b_call7_c_0, .of main_while3b_v79, .of main_while3b_c_24, .of main_while3b_v80, .of main_while3c_c_19, .of main_while3c_v45⟩

/-- The buffers of scan 4. -/
def bufs4 : Bufs 64 192 :=
  ⟨.of main_v31_0, .of main_v31_1, .of main_v31_2, .of main_v31_3, .of main_v31_4, .of main_v31_5, .of main_while4b_call8_c, .of main_while4b_call8_c_0, .of main_while4b_call8_v0, .of main_while4b_v45, .of main_while4b_v46, .of main_while4b_v47, .of main_while4b_v48, .of main_while4b_v49, .of main_while4b_v50, .of main_while4b_v51, .of main_while4b_v52, .of main_while4b_v53, .of main_while4b_v54, .of main_while4b_v55, .of main_while4b_v56, .of main_while4b_v57, .of main_while4b_v58, .of main_while4b_v59, .of main_while4b_cst_19, .of main_while4b_v60, .of main_while4b_v61, .of main_while4b_cst_20, .of main_while4b_v62, .of main_while4b_v63, .of main_while4b_v64, .of main_while4b_v65, .of main_while4b_v66, .of main_while4b_cst_21, .of main_while4b_v67, .of main_while4b_v68, .of main_while4b_cst_22, .of main_while4b_v69, .of main_while4b_v70, .of main_while4b_v71, .of main_while4b_v72, .of main_while4b_v73, .of main_while4b_cst_23, .of main_while4b_v74, .of main_while4b_v75, .of main_while4b_v76, .of main_while4b_v77, .of main_while4b_v78, .of main_while4b_call9_v0, .of main_while4b_call9_c, .of main_while4b_call9_c_0, .of main_while4b_v79, .of main_while4b_c_24, .of main_while4b_v80, .of main_while4c_c_19, .of main_while4c_v45⟩

/-- The buffers of scan 5. -/
def bufs5 : Bufs 64 192 :=
  ⟨.of main_v37_0, .of main_v37_1, .of main_v37_2, .of main_v37_3, .of main_v37_4, .of main_v37_5, .of main_while5b_call10_c, .of main_while5b_call10_c_0, .of main_while5b_call10_v0, .of main_while5b_v45, .of main_while5b_v46, .of main_while5b_v47, .of main_while5b_v48, .of main_while5b_v49, .of main_while5b_v50, .of main_while5b_v51, .of main_while5b_v52, .of main_while5b_v53, .of main_while5b_v54, .of main_while5b_v55, .of main_while5b_v56, .of main_while5b_v57, .of main_while5b_v58, .of main_while5b_v59, .of main_while5b_cst_19, .of main_while5b_v60, .of main_while5b_v61, .of main_while5b_cst_20, .of main_while5b_v62, .of main_while5b_v63, .of main_while5b_v64, .of main_while5b_v65, .of main_while5b_v66, .of main_while5b_cst_21, .of main_while5b_v67, .of main_while5b_v68, .of main_while5b_cst_22, .of main_while5b_v69, .of main_while5b_v70, .of main_while5b_v71, .of main_while5b_v72, .of main_while5b_v73, .of main_while5b_cst_23, .of main_while5b_v74, .of main_while5b_v75, .of main_while5b_v76, .of main_while5b_v77, .of main_while5b_v78, .of main_while5b_call11_v0, .of main_while5b_call11_c, .of main_while5b_call11_c_0, .of main_while5b_v79, .of main_while5b_c_24, .of main_while5b_v80, .of main_while5c_c_19, .of main_while5c_v45⟩

/-- The buffers of scan 6. -/
def bufs6 : Bufs 64 192 :=
  ⟨.of main_v43_0, .of main_v43_1, .of main_v43_2, .of main_v43_3, .of main_v43_4, .of main_v43_5, .of main_while6b_call12_c, .of main_while6b_call12_c_0, .of main_while6b_call12_v0, .of main_while6b_v45, .of main_while6b_v46, .of main_while6b_v47, .of main_while6b_v48, .of main_while6b_v49, .of main_while6b_v50, .of main_while6b_v51, .of main_while6b_v52, .of main_while6b_v53, .of main_while6b_v54, .of main_while6b_v55, .of main_while6b_v56, .of main_while6b_v57, .of main_while6b_v58, .of main_while6b_v59, .of main_while6b_cst_19, .of main_while6b_v60, .of main_while6b_v61, .of main_while6b_cst_20, .of main_while6b_v62, .of main_while6b_v63, .of main_while6b_v64, .of main_while6b_v65, .of main_while6b_v66, .of main_while6b_cst_21, .of main_while6b_v67, .of main_while6b_v68, .of main_while6b_cst_22, .of main_while6b_v69, .of main_while6b_v70, .of main_while6b_v71, .of main_while6b_v72, .of main_while6b_v73, .of main_while6b_cst_23, .of main_while6b_v74, .of main_while6b_v75, .of main_while6b_v76, .of main_while6b_v77, .of main_while6b_v78, .of main_while6b_call13_v0, .of main_while6b_call13_c, .of main_while6b_call13_c_0, .of main_while6b_v79, .of main_while6b_c_24, .of main_while6b_v80, .of main_while6c_c_19, .of main_while6c_v45⟩

/-- The buffers before scan 0. -/
def heads0 : Heads 300 16 48 :=
  ⟨.of main_arg0, .of main_arg1, .of main_arg2, .of main_arg3, .of main_arg4, .of main_v0, .of main_v2, .of main_v3, .of main_v4, .of main_v5, .of main_cst_1, .of main_v6, .of main_c⟩

/-- The buffers before scan 1. -/
def heads1 : Heads 16 16 48 :=
  ⟨.of main_v7_5, .of main_arg5, .of main_arg6, .of main_arg7, .of main_arg8, .of main_v0, .of main_v8, .of main_v9, .of main_v10, .of main_v11, .of main_cst_2, .of main_v12, .of main_c_3⟩

/-- The buffers before scan 2. -/
def heads2 : Heads 16 16 48 :=
  ⟨.of main_v13_5, .of main_arg9, .of main_arg10, .of main_arg11, .of main_arg12, .of main_v7_4, .of main_v14, .of main_v15, .of main_v16, .of main_v17, .of main_cst_4, .of main_v18, .of main_c_5⟩

/-- The buffers before scan 3. -/
def heads3 : Heads 16 16 48 :=
  ⟨.of main_v19_5, .of main_arg13, .of main_arg14, .of main_arg15, .of main_arg16, .of main_v13_4, .of main_v20, .of main_v21, .of main_v22, .of main_v23, .of main_cst_6, .of main_v24, .of main_c_7⟩

/-- The buffers before scan 4. -/
def heads4 : Heads 16 64 192 :=
  ⟨.of main_v25_5, .of main_arg17, .of main_arg18, .of main_arg19, .of main_arg20, .of main_v1, .of main_v26, .of main_v27, .of main_v28, .of main_v29, .of main_cst_8, .of main_v30, .of main_c_9⟩

/-- The buffers before scan 5. -/
def heads5 : Heads 64 64 192 :=
  ⟨.of main_v31_5, .of main_arg21, .of main_arg22, .of main_arg23, .of main_arg24, .of main_v1, .of main_v32, .of main_v33, .of main_v34, .of main_v35, .of main_cst_10, .of main_v36, .of main_c_11⟩

/-- The buffers before scan 6. -/
def heads6 : Heads 64 64 192 :=
  ⟨.of main_v37_5, .of main_arg25, .of main_arg26, .of main_arg27, .of main_arg28, .of main_v1, .of main_v38, .of main_v39, .of main_v40, .of main_v41, .of main_cst_12, .of main_v42, .of main_c_13⟩

end Cert.ReferenceIdeal.Scan

end
-- ==== Proof.RefSound.lean ====
/- What a scan's step leaves in the buffers the scan carries. -/
module

public import proofs.«01_k».proof.Proof.RefOps
public import Idealize.ShloMosaic.Lib.Pipeline.Frame

@[expose] public section

set_option maxRecDepth 16384

noncomputable section

namespace Cert.ReferenceIdeal.Scan

open Idealize.ShloMosaic Idealize.ShloMosaic.TcCoe Idealize.SL.Sem
open Idealize.ShloMosaic.StableHlo (TRef)

variable {F : FTy → Type} [FloatOps F] {h g : ℕ} [Fits h g]

/-- A typed buffer's contents in a valuation. -/
def rd {T : BufTy} (r : TRef sig T) (V : Valuation τ sig (Elt F)) : T.Contents (Elt F) := r.ofBuf (V (Proc.devRef .tc r.ref))

/-- The logistic of a gate, as the reference writes it. -/
def gateV (a b : (⟨Sh2 256 h, .f32⟩ : BufTy).Contents (Elt F)) (hf : S.BroadcastsInDim (Sh2 256 h) (![] : Fin 0 → Fin (Sh2 256 h).rank)) :
    (⟨Sh2 256 h, .f32⟩ : BufTy).Contents (Elt F) :=
  Host.divf (broadcastInDim (Sh2 256 h) ![] hf (constant S .f32 0x3F800000#32))
    (addf (broadcastInDim (Sh2 256 h) ![] hf (constant S .f32 0x3F800000#32)) (Host.exp (Host.negf (addf a b))))

/-- A step's row of gate inputs. -/
def rowV (h : ℕ) {g : ℕ} [Fits h g] (xp : (⟨Sh3 512 256 g, .f32⟩ : BufTy).Contents (Elt F)) (i : (⟨S, .i32⟩ : BufTy).Contents (Elt F)) :
    (⟨Sh2 256 g, .f32⟩ : BufTy).Contents (Elt F) :=
  shapeCast (Sh2 256 g) (Host.dynamicSlice (Sh3 1 256 g) xp
    (fun k => ((![i, constantI S 32 0#32, constantI S 32 0#32] : Fin 3 → (⟨S, .i32⟩ : BufTy).Contents (Elt F)) k (Shape.Idx.first one)).toInt) (Fits.cut h)) (Fits.flat h)

/-- The state's product with its weights plus the bias. -/
def accV (u : (⟨Sh2 g h, .f32⟩ : BufTy).Contents (Elt F)) (b : (⟨Sh1 g, .f32⟩ : BufTy).Contents (Elt F)) (s : (⟨Sh2 256 h, .f32⟩ : BufTy).Contents (Elt F)) :
    (⟨Sh2 256 g, .f32⟩ : BufTy).Contents (Elt F) :=
  addf (Host.dotGeneral (dotU h g) none s (transpose (Sh2 h g) [1, 0] u Fits.turn))
    (broadcastInDim (Sh2 256 g) ![0, 1] (Fits.rows h) (broadcastInDim (Sh2 1 g) ![1] (Fits.row h) b))

/-- The new state from the row, the product and the old state. -/
def mixV (x hp : (⟨Sh2 256 g, .f32⟩ : BufTy).Contents (Elt F)) (s : (⟨Sh2 256 h, .f32⟩ : BufTy).Contents (Elt F)) :
    (⟨Sh2 256 h, .f32⟩ : BufTy).Contents (Elt F) :=
  let r := gateV (extractStridedSlice (Sh2 256 h) ![0, 0] x Fits.gate0) (extractStridedSlice (Sh2 256 h) ![0, 0] hp Fits.gate0) (Fits.fill g)
  let z := gateV (extractStridedSlice (Sh2 256 h) ![0, h] x Fits.gate1) (extractStridedSlice (Sh2 256 h) ![0, h] hp Fits.gate1) (Fits.fill g)
  let n := Host.tanh (addf (extractStridedSlice (Sh2 256 h) ![0, 2 * h] x Fits.gate2) (mulf r (extractStridedSlice (Sh2 256 h) ![0, 2 * h] hp Fits.gate2)))
  addf (mulf (subf (broadcastInDim (Sh2 256 h) ![] (Fits.fill g) (constant S .f32 0x3F800000#32)) z) n) (mulf z s)

/-- A step's new state. -/
def stepV (xp : (⟨Sh3 512 256 g, .f32⟩ : BufTy).Contents (Elt F)) (u : (⟨Sh2 g h, .f32⟩ : BufTy).Contents (Elt F)) (b : (⟨Sh1 g, .f32⟩ : BufTy).Contents (Elt F))
    (i : (⟨S, .i32⟩ : BufTy).Contents (Elt F)) (s : (⟨Sh2 256 h, .f32⟩ : BufTy).Contents (Elt F)) : (⟨Sh2 256 h, .f32⟩ : BufTy).Contents (Elt F) :=
  mixV (rowV h xp i) (accV u b s) s

/-- The outputs with a state put in at the counter. -/
def putV (g : ℕ) {h : ℕ} [Fits h g] (ys : (⟨Sh3 512 256 h, .f32⟩ : BufTy).Contents (Elt F)) (s : (⟨Sh2 256 h, .f32⟩ : BufTy).Contents (Elt F)) (i : (⟨S, .i32⟩ : BufTy).Contents (Elt F)) :
    (⟨Sh3 512 256 h, .f32⟩ : BufTy).Contents (Elt F) :=
  Host.dynamicUpdateSlice ys (broadcastInDim (Sh3 1 256 h) ![1, 2] (Fits.lift g) s)
    (fun k => ((![i, constantI S 32 0#32, constantI S 32 0#32] : Fin 3 → (⟨S, .i32⟩ : BufTy).Contents (Elt F)) k (Shape.Idx.first one)).toInt) (Fits.put g)

/-! ## Operations that each write a buffer once -/

/-- The operations write, in order, the buffers of `R` from the `n`-th on, all buffers of `R` being distinct. -/
structure Once (ops : List (HloOp τ sig (Elt F))) (R : List (Ref sig .tc)) (n : ℕ) : Prop where
  writes : ops.map HloOp.writes = (R.drop n).map fun w => {Proc.devRef (τ := τ) .tc w}
  distinct : R.Nodup

omit [FloatOps F] in
/-- A member of a list of distinct elements is in no later part of it. -/
theorem not_later {α : Type} {l : List α} (hl : l.Nodup) {a k : ℕ} {x : α} (hx : l[a]? = some x) (h : a < k) : x ∉ l.drop k := by
  intro hm
  obtain ⟨ha, rfl⟩ := List.getElem?_eq_some_iff.mp hx
  obtain ⟨j, hj, he⟩ := List.mem_iff_getElem.mp hm
  rw [List.getElem_drop] at he
  have := (List.Nodup.getElem_inj_iff hl).mp he
  omega

namespace Once

variable {ops : List (HloOp τ sig (Elt F))} {R : List (Ref sig .tc)} {n : ℕ} {T₀ T₁ T₂ T : BufTy}

omit [FloatOps F] in
theorem later (S : Once ops R n) (k : ℕ) : (ops.drop k).map HloOp.writes = (R.drop (n + k)).map fun w => {Proc.devRef (τ := τ) .tc w} := by
  rw [List.map_drop, S.writes, ← List.map_drop, List.drop_drop]

omit [FloatOps F] in
/-- A buffer written before the `k`-th operation keeps its contents from then on. -/
theorem use (S : Once ops R n) (k : ℕ) {x : TRef sig T} {a : ℕ} (hx : R[a]? = some x.ref) (h : a < n + k) (V : Valuation τ sig (Elt F)) :
    rd x (StableHlo.upto ops V k) = rd x (StableHlo.after ops V) := by
  have h1 : StableHlo.after ops V = StableHlo.after (ops.drop k) (StableHlo.upto ops V k) := by
    unfold StableHlo.upto
    rw [← StableHlo.after_append, List.take_append_drop]
  unfold rd
  rw [h1, StableHlo.after_unwritten (R.drop (n + k)) (S.later k) (not_later S.distinct hx h)]

omit [FloatOps F] in
/-- A buffer written before the list keeps its contents. -/
theorem old (S : Once ops R n) (a : ℕ) {x : TRef sig T} (hx : R[a]? = some x.ref) (h : a < n) (V : Valuation τ sig (Elt F)) :
    rd x (StableHlo.after ops V) = rd x V := (S.use 0 hx h V).symm

omit [FloatOps F] in
/-- What the `k`-th operation leaves stays. -/
theorem at_op (S : Once ops R n) (k : ℕ) {op : HloOp τ sig (Elt F)} {rest : List (HloOp τ sig (Elt F))} (hk : ops.drop k = op :: rest)
    {y : TRef sig T} (hy : R[n + k]? = some y.ref) (V : Valuation τ sig (Elt F)) :
    rd y (StableHlo.after ops V) = rd y (op.result (StableHlo.upto ops V k)) := by
  have h1 : rest = ops.drop (k + 1) := by rw [← List.drop_drop, hk]; rfl
  unfold rd
  rw [StableHlo.after_last_write (R.drop (n + (k + 1))) hk (by rw [h1]; exact S.later (k + 1)) (not_later S.distinct hy (by omega))]

omit [FloatOps F] in
theorem nul (S : Once ops R n) (k : ℕ) {y : TRef sig T} {v : T.Contents (Elt F)} {rest : List (HloOp τ sig (Elt F))}
    (hk : ops.drop k = TRef.nullary y v :: rest) (hy : R[n + k]? = some y.ref) (V : Valuation τ sig (Elt F)) :
    rd y (StableHlo.after ops V) = v := by
  rw [S.at_op k hk hy]
  unfold rd
  rw [StableHlo.nullary_result]
  exact cast_cast _ _ _

omit [FloatOps F] in
theorem un (S : Once ops R n) (k a : ℕ) {x : TRef sig T₀} {y : TRef sig T} {f : T₀.Contents (Elt F) → T.Contents (Elt F)} {rest : List (HloOp τ sig (Elt F))}
    (hk : ops.drop k = TRef.unary x y f :: rest) (hy : R[n + k]? = some y.ref) (hx : R[a]? = some x.ref) (h : a < n + k) (V : Valuation τ sig (Elt F)) :
    rd y (StableHlo.after ops V) = f (rd x (StableHlo.after ops V)) := by
  rw [S.at_op k hk hy, ← S.use k hx h]
  unfold rd
  rw [StableHlo.unary_result]
  exact cast_cast _ _ _

omit [FloatOps F] in
theorem bi (S : Once ops R n) (k i j : ℕ) {a : TRef sig T₀} {b : TRef sig T₁} {y : TRef sig T} {f : T₀.Contents (Elt F) → T₁.Contents (Elt F) → T.Contents (Elt F)}
    {rest : List (HloOp τ sig (Elt F))} (hk : ops.drop k = TRef.binary a b y f :: rest) (hy : R[n + k]? = some y.ref)
    (ha : R[i]? = some a.ref) (hb : R[j]? = some b.ref) (hi : i < n + k) (hj : j < n + k) (V : Valuation τ sig (Elt F)) :
    rd y (StableHlo.after ops V) = f (rd a (StableHlo.after ops V)) (rd b (StableHlo.after ops V)) := by
  rw [S.at_op k hk hy, ← S.use k ha hi, ← S.use k hb hj]
  unfold rd
  rw [StableHlo.binary_result]
  exact cast_cast _ _ _

omit [FloatOps F] in
theorem flat (S : Once ops R n) (k a : ℕ) {s t : Shape} {e : EltTy} {x : TRef sig ⟨s, e⟩} {y : TRef sig ⟨t, e⟩} {hn : s.ShapeCasts t} {rest : List (HloOp τ sig (Elt F))}
    (hk : ops.drop k = TRef.reshape x y rfl hn :: rest) (hy : R[n + k]? = some y.ref) (hx : R[a]? = some x.ref) (h : a < n + k) (V : Valuation τ sig (Elt F)) :
    rd y (StableHlo.after ops V) = shapeCast t (rd x (StableHlo.after ops V)) hn := by
  rw [S.at_op k hk hy, ← S.use k hx h]
  have key : ∀ {Tx Ty : BufTy} (x : TRef sig Tx) (y : TRef sig Ty) (he : Tx.elt = Ty.elt) (hn : Tx.shape.ShapeCasts Ty.shape) (W : Valuation τ sig (Elt F)),
      rd y ((TRef.reshape x y he hn).result W) = fun i => he ▸ shapeCast Ty.shape (rd x W) hn i := by
    intro Tx Ty x y he hn W
    rcases x with ⟨x, rfl, hx1, hx2⟩
    rcases y with ⟨y, rfl, hy1, hy2⟩
    exact StableHlo.reshape_result x y _ _ _ _ W
  exact key x y rfl hn _

omit [FloatOps F] in
theorem cutAt (S : Once ops R n) (k i : ℕ) {q : ℕ} {a : TRef sig T₀} {ix : Fin q → TRef sig T₁} {y : TRef sig T} {b : Fin q → ℕ}
    {f : T₀.Contents (Elt F) → (Fin q → T₁.Contents (Elt F)) → T.Contents (Elt F)}
    {rest : List (HloOp τ sig (Elt F))} (hk : ops.drop k = TRef.unaryIndexed a ix y f :: rest) (hy : R[n + k]? = some y.ref)
    (ha : R[i]? = some a.ref) (hb : ∀ j, R[b j]? = some (ix j).ref) (hi : i < n + k) (hj : ∀ j, b j < n + k) (V : Valuation τ sig (Elt F)) :
    rd y (StableHlo.after ops V) = f (rd a (StableHlo.after ops V)) (fun j => rd (ix j) (StableHlo.after ops V)) := by
  rw [S.at_op k hk hy, ← S.use k ha hi, show (fun j => rd (ix j) (StableHlo.after ops V)) = fun j => rd (ix j) (StableHlo.upto ops V k) from
    funext fun j => (S.use k (hb j) (hj j) V).symm]
  unfold rd
  rw [StableHlo.unaryIndexed_result]
  exact cast_cast _ _ _

omit [FloatOps F] in
theorem putAt (S : Once ops R n) (k i l : ℕ) {q : ℕ} {a : TRef sig T₀} {b : TRef sig T₂} {ix : Fin q → TRef sig T₁} {y : TRef sig T} {c : Fin q → ℕ}
    {f : T₀.Contents (Elt F) → T₂.Contents (Elt F) → (Fin q → T₁.Contents (Elt F)) → T.Contents (Elt F)}
    {rest : List (HloOp τ sig (Elt F))} (hk : ops.drop k = TRef.binaryIndexed a b ix y f :: rest) (hy : R[n + k]? = some y.ref)
    (ha : R[i]? = some a.ref) (hb : R[l]? = some b.ref) (hc : ∀ j, R[c j]? = some (ix j).ref) (hi : i < n + k) (hl : l < n + k) (hj : ∀ j, c j < n + k)
    (V : Valuation τ sig (Elt F)) :
    rd y (StableHlo.after ops V) = f (rd a (StableHlo.after ops V)) (rd b (StableHlo.after ops V)) (fun j => rd (ix j) (StableHlo.after ops V)) := by
  rw [S.at_op k hk hy, ← S.use k ha hi, ← S.use k hb hl, show (fun j => rd (ix j) (StableHlo.after ops V)) = fun j => rd (ix j) (StableHlo.upto ops V k) from
    funext fun j => (S.use k (hc j) (hj j) V).symm]
  unfold rd
  rw [StableHlo.binaryIndexed_result]
  exact cast_cast _ _ _

end Once

/-- A scan's buffers but its test's, in the order they are written. -/
def refs (φ : Bufs h g) : List (Ref sig .tc) :=
  [φ.xp.ref, φ.u.ref, φ.b.ref, φ.i.ref, φ.s.ref, φ.ys.ref, φ.c0.ref, φ.c1.ref, φ.x0.ref, φ.x.ref, φ.ut.ref, φ.hu.ref, φ.b0.ref, φ.b1.ref, φ.hp.ref, φ.xr.ref, φ.xz.ref, φ.xn.ref, φ.hr.ref, φ.hz.ref, φ.hn.ref, φ.ra.ref, φ.rb.ref, φ.rc.ref, φ.one0.ref, φ.rd.ref, φ.re.ref, φ.one1.ref, φ.rf.ref, φ.r.ref, φ.za.ref, φ.zb.ref, φ.zc.ref, φ.one2.ref, φ.zd.ref, φ.ze.ref, φ.one3.ref, φ.zf.ref, φ.z.ref, φ.na.ref, φ.nb.ref, φ.n.ref, φ.one4.ref, φ.wa.ref, φ.wb.ref, φ.wc.ref, φ.wd.ref, φ.new.ref, φ.y0.ref, φ.c2.ref, φ.c3.ref, φ.y.ref, φ.c4.ref, φ.i1.ref]

/-- The step's operations before the new values are carried on. -/
def mainOps (φ : Bufs h g) : List (HloOp τ sig (Elt F)) := (stepOps φ).take 48

theorem main_once {φ : Bufs h g} (hN : (refs φ).Nodup) : Once (F := F) (mainOps φ) (refs φ) 6 := ⟨rfl, hN⟩

theorem step_split (φ : Bufs h g) (V : Valuation τ sig (Elt F)) :
    StableHlo.after (stepOps φ) V
      = StableHlo.after [TRef.unary φ.i1 φ.i id, TRef.unary φ.new φ.s id, TRef.unary φ.y φ.ys id] (StableHlo.after (mainOps φ) V) := rfl

/-- What a step's operations leave: the new state, the outputs and the counter. -/
theorem main_leaves {φ : Bufs h g} (hN : (refs φ).Nodup) (V : Valuation τ sig (Elt F)) :
    rd φ.new (StableHlo.after (mainOps φ) V) = stepV (rd φ.xp V) (rd φ.u V) (rd φ.b V) (rd φ.i V) (rd φ.s V)
      ∧ rd φ.y (StableHlo.after (mainOps φ) V) = putV g (rd φ.ys V) (stepV (rd φ.xp V) (rd φ.u V) (rd φ.b V) (rd φ.i V) (rd φ.s V)) (rd φ.i V)
      ∧ rd φ.i1 (StableHlo.after (mainOps φ) V) = addi (rd φ.i V) (constantI S 32 1#32) := by
  have O := main_once (F := F) hN
  have k0 := O.old 0 (x := φ.xp) rfl (by decide) V
  have k1 := O.old 1 (x := φ.u) rfl (by decide) V
  have k2 := O.old 2 (x := φ.b) rfl (by decide) V
  have k3 := O.old 3 (x := φ.i) rfl (by decide) V
  have k4 := O.old 4 (x := φ.s) rfl (by decide) V
  have k5 := O.old 5 (x := φ.ys) rfl (by decide) V
  have e0 := O.nul 0 (y := φ.c0) rfl rfl V
  have e1 := O.nul 1 (y := φ.c1) rfl rfl V
  have e2 := O.cutAt 2 0 (a := φ.xp) (y := φ.x0) (ix := ![φ.i, φ.c0, φ.c1]) (b := ![3, 6, 7]) rfl rfl rfl (fun j => match j with | 0 => rfl | 1 => rfl | 2 => rfl) (by decide) (by decide) V
  have e3 := O.flat 3 8 (x := φ.x0) (y := φ.x) rfl rfl rfl (by decide) V
  have e4 := O.un 4 1 (x := φ.u) (y := φ.ut) rfl rfl rfl (by decide) V
  have e5 := O.bi 5 4 10 (a := φ.s) (b := φ.ut) (y := φ.hu) rfl rfl rfl rfl (by decide) (by decide) V
  have e6 := O.un 6 2 (x := φ.b) (y := φ.b0) rfl rfl rfl (by decide) V
  have e7 := O.un 7 12 (x := φ.b0) (y := φ.b1) rfl rfl rfl (by decide) V
  have e8 := O.bi 8 11 13 (a := φ.hu) (b := φ.b1) (y := φ.hp) rfl rfl rfl rfl (by decide) (by decide) V
  have e9 := O.un 9 9 (x := φ.x) (y := φ.xr) rfl rfl rfl (by decide) V
  have e10 := O.un 10 9 (x := φ.x) (y := φ.xz) rfl rfl rfl (by decide) V
  have e11 := O.un 11 9 (x := φ.x) (y := φ.xn) rfl rfl rfl (by decide) V
  have e12 := O.un 12 14 (x := φ.hp) (y := φ.hr) rfl rfl rfl (by decide) V
  have e13 := O.un 13 14 (x := φ.hp) (y := φ.hz) rfl rfl rfl (by decide) V
  have e14 := O.un 14 14 (x := φ.hp) (y := φ.hn) rfl rfl rfl (by decide) V
  have e15 := O.bi 15 15 18 (a := φ.xr) (b := φ.hr) (y := φ.ra) rfl rfl rfl rfl (by decide) (by decide) V
  have e16 := O.un 16 21 (x := φ.ra) (y := φ.rb) rfl rfl rfl (by decide) V
  have e17 := O.un 17 22 (x := φ.rb) (y := φ.rc) rfl rfl rfl (by decide) V
  have e18 := O.nul 18 (y := φ.one0) rfl rfl V
  have e19 := O.un 19 24 (x := φ.one0) (y := φ.rd) rfl rfl rfl (by decide) V
  have e20 := O.bi 20 25 23 (a := φ.rd) (b := φ.rc) (y := φ.re) rfl rfl rfl rfl (by decide) (by decide) V
  have e21 := O.nul 21 (y := φ.one1) rfl rfl V
  have e22 := O.un 22 27 (x := φ.one1) (y := φ.rf) rfl rfl rfl (by decide) V
  have e23 := O.bi 23 28 26 (a := φ.rf) (b := φ.re) (y := φ.r) rfl rfl rfl rfl (by decide) (by decide) V
  have e24 := O.bi 24 16 19 (a := φ.xz) (b := φ.hz) (y := φ.za) rfl rfl rfl rfl (by decide) (by decide) V
  have e25 := O.un 25 30 (x := φ.za) (y := φ.zb) rfl rfl rfl (by decide) V
  have e26 := O.un 26 31 (x := φ.zb) (y := φ.zc) rfl rfl rfl (by decide) V
  have e27 := O.nul 27 (y := φ.one2) rfl rfl V
  have e28 := O.un 28 33 (x := φ.one2) (y := φ.zd) rfl rfl rfl (by decide) V
  have e29 := O.bi 29 34 32 (a := φ.zd) (b := φ.zc) (y := φ.ze) rfl rfl rfl rfl (by decide) (by decide) V
  have e30 := O.nul 30 (y := φ.one3) rfl rfl V
  have e31 := O.un 31 36 (x := φ.one3) (y := φ.zf) rfl rfl rfl (by decide) V
  have e32 := O.bi 32 37 35 (a := φ.zf) (b := φ.ze) (y := φ.z) rfl rfl rfl rfl (by decide) (by decide) V
  have e33 := O.bi 33 29 20 (a := φ.r) (b := φ.hn) (y := φ.na) rfl rfl rfl rfl (by decide) (by decide) V
  have e34 := O.bi 34 17 39 (a := φ.xn) (b := φ.na) (y := φ.nb) rfl rfl rfl rfl (by decide) (by decide) V
  have e35 := O.un 35 40 (x := φ.nb) (y := φ.n) rfl rfl rfl (by decide) V
  have e36 := O.nul 36 (y := φ.one4) rfl rfl V
  have e37 := O.un 37 42 (x := φ.one4) (y := φ.wa) rfl rfl rfl (by decide) V
  have e38 := O.bi 38 43 38 (a := φ.wa) (b := φ.z) (y := φ.wb) rfl rfl rfl rfl (by decide) (by decide) V
  have e39 := O.bi 39 44 41 (a := φ.wb) (b := φ.n) (y := φ.wc) rfl rfl rfl rfl (by decide) (by decide) V
  have e40 := O.bi 40 38 4 (a := φ.z) (b := φ.s) (y := φ.wd) rfl rfl rfl rfl (by decide) (by decide) V
  have e41 := O.bi 41 45 46 (a := φ.wc) (b := φ.wd) (y := φ.new) rfl rfl rfl rfl (by decide) (by decide) V
  have e42 := O.un 42 47 (x := φ.new) (y := φ.y0) rfl rfl rfl (by decide) V
  have e43 := O.nul 43 (y := φ.c2) rfl rfl V
  have e44 := O.nul 44 (y := φ.c3) rfl rfl V
  have e45 := O.putAt 45 5 48 (a := φ.ys) (b := φ.y0) (y := φ.y) (ix := ![φ.i, φ.c2, φ.c3]) (c := ![3, 49, 50]) rfl rfl rfl rfl (fun j => match j with | 0 => rfl | 1 => rfl | 2 => rfl) (by decide) (by decide) (by decide) V
  have e46 := O.nul 46 (y := φ.c4) rfl rfl V
  have e47 := O.bi 47 3 52 (a := φ.i) (b := φ.c4) (y := φ.i1) rfl rfl rfl rfl (by decide) (by decide) V
  have g0 : (fun j => rd ((![φ.i, φ.c0, φ.c1] : Fin 3 → TRef sig ⟨S, .i32⟩) j) (StableHlo.after (mainOps φ) V)) = ![rd φ.i V, constantI S 32 0#32, constantI S 32 0#32] := by
    funext j
    match j with
    | 0 => exact k3
    | 1 => exact e0
    | 2 => exact e1
  have g1 : (fun j => rd ((![φ.i, φ.c2, φ.c3] : Fin 3 → TRef sig ⟨S, .i32⟩) j) (StableHlo.after (mainOps φ) V)) = ![rd φ.i V, constantI S 32 0#32, constantI S 32 0#32] := by
    funext j
    match j with
    | 0 => exact k3
    | 1 => exact e43
    | 2 => exact e44
  rw [g0] at e2
  rw [g1] at e45
  have hnew : rd φ.new (StableHlo.after (mainOps φ) V) = stepV (rd φ.xp V) (rd φ.u V) (rd φ.b V) (rd φ.i V) (rd φ.s V) := by
    simp only [e41, e40, e39, e38, e37, e36, e35, e34, e33, e32, e31, e30, e29, e28, e27, e26, e25, e24, e23, e22, e21, e20, e19, e18, e17, e16, e15, e14, e13, e12, e11, e10, e9, e8, e7, e6, e5, e4, e3, e2, k4, k2, k1, k0]
    rfl
  refine ⟨hnew, ?_, ?_⟩
  · rw [e45, e42, hnew, k5]
    rfl
  · rw [e47, e46, k3]

/-- What a step leaves in the carried buffers. -/
structure Steps (F : FTy → Type) [FloatOps F] (φ : Bufs h g) : Prop where
  i : ∀ V : Valuation τ sig (Elt F), rd φ.i (StableHlo.after (stepOps φ) V) = addi (rd φ.i V) (constantI S 32 1#32)
  s : ∀ V : Valuation τ sig (Elt F), rd φ.s (StableHlo.after (stepOps φ) V) = stepV (rd φ.xp V) (rd φ.u V) (rd φ.b V) (rd φ.i V) (rd φ.s V)
  ys : ∀ V : Valuation τ sig (Elt F), rd φ.ys (StableHlo.after (stepOps φ) V)
    = putV g (rd φ.ys V) (stepV (rd φ.xp V) (rd φ.u V) (rd φ.b V) (rd φ.i V) (rd φ.s V)) (rd φ.i V)

/-- Three copies between buffers all distinct. -/
theorem copies {T₀ T₁ T₂ : BufTy} {a : TRef sig T₀} {b : TRef sig T₁} {c : TRef sig T₂} {x : TRef sig T₀} {y : TRef sig T₁} {z : TRef sig T₂}
    (hN : [a.ref, b.ref, c.ref, x.ref, y.ref, z.ref].Nodup) (V : Valuation τ sig (Elt F)) :
    rd a (StableHlo.after [TRef.unary x a id, TRef.unary y b id, TRef.unary z c id] V) = rd x V
      ∧ rd b (StableHlo.after [TRef.unary x a id, TRef.unary y b id, TRef.unary z c id] V) = rd y V
      ∧ rd c (StableHlo.after [TRef.unary x a id, TRef.unary y b id, TRef.unary z c id] V) = rd z V := by
  have S : Once (F := F) [TRef.unary x a id, TRef.unary y b id, TRef.unary z c id] [x.ref, y.ref, z.ref, a.ref, b.ref, c.ref] 3 :=
    ⟨rfl, (List.perm_append_comm (l₁ := [a.ref, b.ref, c.ref]) (l₂ := [x.ref, y.ref, z.ref])).nodup_iff.mp hN⟩
  exact ⟨(S.un 0 0 (x := x) (y := a) rfl rfl rfl (by decide) V).trans (S.old 0 (x := x) rfl (by decide) V),
    (S.un 1 1 (x := y) (y := b) rfl rfl rfl (by decide) V).trans (S.old 1 (x := y) rfl (by decide) V),
    (S.un 2 2 (x := z) (y := c) rfl rfl rfl (by decide) V).trans (S.old 2 (x := z) rfl (by decide) V)⟩

theorem steps {φ : Bufs h g} (hN : (refs φ).Nodup) : Steps F φ := by
  have hsub : [φ.i.ref, φ.s.ref, φ.ys.ref, φ.new.ref, φ.y.ref, φ.i1.ref].Sublist (refs φ) := by
    unfold refs
    repeat (first | exact List.Sublist.slnil | exact List.nil_sublist _ | apply List.Sublist.cons₂ | apply List.Sublist.cons)
  have hN' : [φ.i.ref, φ.s.ref, φ.ys.ref, φ.i1.ref, φ.new.ref, φ.y.ref].Nodup := by
    have h0 := hsub.nodup hN
    refine List.Perm.nodup_iff (List.Perm.append_left [φ.i.ref, φ.s.ref, φ.ys.ref] ?_) |>.mp h0
    exact List.perm_append_comm (l₁ := [φ.new.ref, φ.y.ref]) (l₂ := [φ.i1.ref])
  constructor <;> intro V <;> rw [step_split] <;> have h0 := copies hN' (StableHlo.after (mainOps φ) V) <;> have h1 := main_leaves hN V
  · exact h0.1.trans h1.2.2
  · exact h0.2.1.trans h1.1
  · exact h0.2.2.trans h1.2.1

/-! ## Before a scan -/

/-- The inputs' part of the gates, all steps at once. -/
def inV (h : ℕ) {k g : ℕ} [Fits h g] (wf : DotDims.WF (Sh3 512 256 k) (Sh2 g k) (Sh3 512 256 g) [2] [1] [0, 1] [0] [] [])
    (x : (⟨Sh3 512 256 k, .f32⟩ : BufTy).Contents (Elt F)) (w : (⟨Sh2 g k, .f32⟩ : BufTy).Contents (Elt F)) (b : (⟨Sh1 g, .f32⟩ : BufTy).Contents (Elt F)) :
    (⟨Sh3 512 256 g, .f32⟩ : BufTy).Contents (Elt F) :=
  addf (Host.dotGeneral (dotX k g wf) none x w)
    (broadcastInDim (Sh3 512 256 g) ![0, 1, 2] (Fits.biases h) (broadcastInDim (Sh3 1 1 g) ![2] (Fits.bias h) b))

/-- The buffers the operations before a scan read, then those they write. -/
def headRefs {k : ℕ} (η : Heads k h g) (φ : Bufs h g) : List (Ref sig .tc) :=
  [η.src.ref, η.w.ref, η.u.ref, η.bw.ref, η.bu.ref, η.s0.ref] ++ headWrites η φ

/-- What the operations before a scan leave in the carried buffers. -/
theorem head_leaves {k : ℕ} (wf) {η : Heads k h g} {φ : Bufs h g} (hN : (headRefs η φ).Nodup) (V : Valuation τ sig (Elt F)) :
    rd φ.xp (StableHlo.after (headOps wf η φ) V) = inV h wf (rd η.src V) (rd η.w V) (rd η.bw V)
      ∧ rd φ.u (StableHlo.after (headOps wf η φ) V) = rd η.u V
      ∧ rd φ.b (StableHlo.after (headOps wf η φ) V) = rd η.bu V
      ∧ rd φ.i (StableHlo.after (headOps wf η φ) V) = constantI S 32 0#32
      ∧ rd φ.s (StableHlo.after (headOps wf η φ) V) = rd η.s0 V := by
  have O : Once (F := F) (headOps wf η φ) (headRefs η φ) 6 := ⟨rfl, hN⟩
  have k0 := O.old 0 (x := η.src) rfl (by decide) V
  have k1 := O.old 1 (x := η.w) rfl (by decide) V
  have k2 := O.old 2 (x := η.u) rfl (by decide) V
  have k3 := O.old 3 (x := η.bw) rfl (by decide) V
  have k4 := O.old 4 (x := η.bu) rfl (by decide) V
  have k5 := O.old 5 (x := η.s0) rfl (by decide) V
  have e0 := O.bi 0 0 1 (a := η.src) (b := η.w) (y := η.xw) rfl rfl rfl rfl (by decide) (by decide) V
  have e1 := O.un 1 3 (x := η.bw) (y := η.b0) rfl rfl rfl (by decide) V
  have e2 := O.un 2 7 (x := η.b0) (y := η.b1) rfl rfl rfl (by decide) V
  have e3 := O.bi 3 6 8 (a := η.xw) (b := η.b1) (y := η.xp) rfl rfl rfl rfl (by decide) (by decide) V
  have e6 := O.nul 6 (y := η.i) rfl rfl V
  refine ⟨?_, ?_, ?_, ?_, ?_⟩
  · rw [O.un 7 9 (x := η.xp) (y := φ.xp) rfl rfl rfl (by decide) V, id, e3, e2, e1, e0, k0, k1, k3]
    rfl
  · rw [O.un 8 2 (x := η.u) (y := φ.u) rfl rfl rfl (by decide) V, id, k2]
  · rw [O.un 9 4 (x := η.bu) (y := φ.b) rfl rfl rfl (by decide) V, id, k4]
  · rw [O.un 10 12 (x := η.i) (y := φ.i) rfl rfl rfl (by decide) V, id, e6]
  · rw [O.un 11 5 (x := η.s0) (y := φ.s) rfl rfl rfl (by decide) V, id, k5]

end Cert.ReferenceIdeal.Scan

end
-- ==== Proof.RefText.lean ====
/- The reference's program as stretches of operations and scans. -/
module

public import proofs.«01_k».proof.Proof.RefOps

@[expose] public section

set_option maxRecDepth 16384

noncomputable section

namespace Cert.ReferenceIdeal.Scan

open Idealize.ShloMosaic Idealize.ShloMosaic.TcCoe Idealize.SL.Sem
open Idealize.ShloMosaic.StableHlo (TRef)

variable {F : FTy → Type} [FloatOps F]

/-- The first operations: the two widths' zero states. -/
def zeroOps : List (HloOp τ sig (Elt F)) :=
  [StableHlo.nullary main_cst (constant S_ .f32 0x00000000#32),
   StableHlo.unary main_cst main_v0 (broadcastInDim S256x16 ![] Facts₀.bcast_S_S256x16 : (⟨S_, .f32⟩ : BufTy).Contents (Elt F) → (⟨S256x16, .f32⟩ : BufTy).Contents (Elt F)),
   StableHlo.nullary main_cst_0 (constant S_ .f32 0x00000000#32),
   StableHlo.unary main_cst_0 main_v1 (broadcastInDim S256x64 ![] Facts₀.bcast_S_S256x64 : (⟨S_, .f32⟩ : BufTy).Contents (Elt F) → (⟨S256x64, .f32⟩ : BufTy).Contents (Elt F))]

/-- The last operation: the two states side by side. -/
def joinOps : List (HloOp τ sig (Elt F)) :=
  [StableHlo.binary main_v43_4 main_v37_4 main_v44 ((fun a b => concatenate S256x128 1 [⟨S256x64, a⟩, ⟨S256x64, b⟩] Facts₀.concatenates_S256x64_S256x64_S256x128_d1) : (⟨S256x64, .f32⟩ : BufTy).Contents (Elt F) → (⟨S256x64, .f32⟩ : BufTy).Contents (Elt F) → (⟨S256x128, .f32⟩ : BufTy).Contents (Elt F))]

/-- A host program of the reference. -/
abbrev RProg (F : FTy → Type) [FloatOps F] (A : Type) := Prog (TpuEff nD τ sig (Elt F) (HostLoop.Sig (Pipeline.Sig Λ₀ (Fin 0) fun p => (pcfgs (F := F) p).Adm) 7) .tc) A

/-- A scan's test: the counter against the length. -/
def condProg {h g : ℕ} (φ : Bufs h g) : RProg F (Elt F .i1) :=
  (hlo rfl (TRef.nullary φ.lim (constantI S 32 512#32)) (fun _ => .ret ⟨⟩) : RProg F PUnit) >>= fun _ =>
    hlo rfl (TRef.binary φ.i φ.lim φ.p (cmpi .slt)) (fun w => .ret (φ.p.ofBuf (w ⟨Proc.devRef .tc φ.p.ref, Finset.mem_singleton_self _⟩) HostLoop.idx0))

/-- The operations before scan 0. -/
abbrev head0 : List (HloOp τ sig (Elt F)) := headOps Gen.facts.dot_S512x256x300_S48x300_S512x256x48_2_1_01_0_n_n_wf heads0 bufs0

theorem body0 : (main_while0_body : RProg F PUnit) = Pipeline.chain [StableHlo.seq (stepOps bufs0)] := by
  rewrite [StableHlo.chain_seq_cons]
  chain_rfl

theorem cond0 : (main_while0_cond : RProg F (Elt F .i1)) = condProg bufs0 := by
  chain_rfl

/-- The operations before scan 1. -/
abbrev head1 : List (HloOp τ sig (Elt F)) := headOps Gen.facts.dot_S512x256x16_S48x16_S512x256x48_2_1_01_0_n_n_wf heads1 bufs1

theorem body1 : (main_while1_body : RProg F PUnit) = Pipeline.chain [StableHlo.seq (stepOps bufs1)] := by
  rewrite [StableHlo.chain_seq_cons]
  chain_rfl

theorem cond1 : (main_while1_cond : RProg F (Elt F .i1)) = condProg bufs1 := by
  chain_rfl

/-- The operations before scan 2. -/
abbrev head2 : List (HloOp τ sig (Elt F)) := headOps Gen.facts.dot_S512x256x16_S48x16_S512x256x48_2_1_01_0_n_n_wf heads2 bufs2

theorem body2 : (main_while2_body : RProg F PUnit) = Pipeline.chain [StableHlo.seq (stepOps bufs2)] := by
  rewrite [StableHlo.chain_seq_cons]
  chain_rfl

theorem cond2 : (main_while2_cond : RProg F (Elt F .i1)) = condProg bufs2 := by
  chain_rfl

/-- The operations before scan 3. -/
abbrev head3 : List (HloOp τ sig (Elt F)) := headOps Gen.facts.dot_S512x256x16_S48x16_S512x256x48_2_1_01_0_n_n_wf heads3 bufs3

theorem body3 : (main_while3_body : RProg F PUnit) = Pipeline.chain [StableHlo.seq (stepOps bufs3)] := by
  rewrite [StableHlo.chain_seq_cons]
  chain_rfl

theorem cond3 : (main_while3_cond : RProg F (Elt F .i1)) = condProg bufs3 := by
  chain_rfl

/-- The operations before scan 4. -/
abbrev head4 : List (HloOp τ sig (Elt F)) := headOps Gen.facts.dot_S512x256x16_S192x16_S512x256x192_2_1_01_0_n_n_wf heads4 bufs4

theorem body4 : (main_while4_body : RProg F PUnit) = Pipeline.chain [StableHlo.seq (stepOps bufs4)] := by
  rewrite [StableHlo.chain_seq_cons]
  chain_rfl

theorem cond4 : (main_while4_cond : RProg F (Elt F .i1)) = condProg bufs4 := by
  chain_rfl

/-- The operations before scan 5. -/
abbrev head5 : List (HloOp τ sig (Elt F)) := headOps Gen.facts.dot_S512x256x64_S192x64_S512x256x192_2_1_01_0_n_n_wf heads5 bufs5

theorem body5 : (main_while5_body : RProg F PUnit) = Pipeline.chain [StableHlo.seq (stepOps bufs5)] := by
  rewrite [StableHlo.chain_seq_cons]
  chain_rfl

theorem cond5 : (main_while5_cond : RProg F (Elt F .i1)) = condProg bufs5 := by
  chain_rfl

/-- The operations before scan 6. -/
abbrev head6 : List (HloOp τ sig (Elt F)) := headOps Gen.facts.dot_S512x256x64_S192x64_S512x256x192_2_1_01_0_n_n_wf heads6 bufs6

theorem body6 : (main_while6_body : RProg F PUnit) = Pipeline.chain [StableHlo.seq (stepOps bufs6)] := by
  rewrite [StableHlo.chain_seq_cons]
  chain_rfl

theorem cond6 : (main_while6_cond : RProg F (Elt F .i1)) = condProg bufs6 := by
  chain_rfl

theorem part0 (c : Dev nD) : (main_part0 c : RProg F PUnit) = Pipeline.chainK
    [StableHlo.seq zeroOps, StableHlo.seq head0, HostLoop.enter 0, StableHlo.seq head1, HostLoop.enter 1, StableHlo.seq head2, HostLoop.enter 2,
     StableHlo.seq head3] (HostLoop.enter 3) := by
  rewrite [StableHlo.chainK_seq_cons, StableHlo.chainK_seq_cons, Pipeline.chainK_cons, StableHlo.chainK_seq_cons, Pipeline.chainK_cons,
    StableHlo.chainK_seq_cons, Pipeline.chainK_cons, StableHlo.chainK_seq_cons]
  chain_rfl

theorem part1 (c : Dev nD) : (main_part1 c : RProg F PUnit) = Pipeline.chain
    [StableHlo.seq head4, HostLoop.enter 4, StableHlo.seq head5, HostLoop.enter 5, StableHlo.seq head6, HostLoop.enter 6, StableHlo.seq joinOps] := by
  rewrite [StableHlo.chain_seq_cons, Pipeline.chain_cons, StableHlo.chain_seq_cons, Pipeline.chain_cons, StableHlo.chain_seq_cons, Pipeline.chain_cons,
    StableHlo.chain_seq_cons]
  chain_rfl

/-- The reference's program: the zero states, then each layer's stretch and scan, then the join. -/
theorem main_items (c : Dev nD) : (main c : RProg F PUnit) = Pipeline.chain
    ([StableHlo.seq zeroOps, StableHlo.seq head0, HostLoop.enter 0, StableHlo.seq head1, HostLoop.enter 1, StableHlo.seq head2, HostLoop.enter 2,
     StableHlo.seq head3] ++ HostLoop.enter 3 ::
     [StableHlo.seq head4, HostLoop.enter 4, StableHlo.seq head5, HostLoop.enter 5, StableHlo.seq head6, HostLoop.enter 6, StableHlo.seq joinOps]) :=
  Pipeline.chain_of_window (part0 c) (part1 c)

end Cert.ReferenceIdeal.Scan

end
-- ==== Proof.RefLoop.lean ====
/- One scan of the reference: its counter, its test, and the scan as a piece of the program. -/
module

public import proofs.«01_k».proof.Proof.RefSound
public import proofs.«01_k».proof.Proof.RefText

@[expose] public section

set_option maxRecDepth 16384

noncomputable section

namespace Cert.ReferenceIdeal.Scan

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.StableHlo (TRef)
open Idealize.ShloMosaic.Pipeline (CSeg)

variable {F : FTy → Type} [FloatOps F] {h g : ℕ} [Fits h g]

/-- A scan's buffers are all distinct. -/
def Distinct (φ : Bufs h g) : Prop := (refs φ ++ [φ.lim.ref, φ.p.ref]).Nodup

theorem Distinct.steps {φ : Bufs h g} (hN : Distinct φ) : Steps F φ := Scan.steps (List.Nodup.of_append_left hN)

/-- The test leaves a buffer of the step alone. -/
theorem test_keeps {φ : Bufs h g} (hN : Distinct φ) {T : BufTy} {r : TRef sig T} (hr : r.ref ∈ refs φ) (V : Valuation τ sig (Elt F)) :
    rd r (StableHlo.after (testOps φ) V) = rd r V := by
  unfold rd
  rw [keeps (F := F) [φ.lim.ref, φ.p.ref] (test_writes φ) (fun hm => (List.nodup_append.mp hN).2.2 _ hr _ hm rfl)]

/-- The buffers before the `k`-th trip. -/
abbrev trip (φ : Bufs h g) (W : Dev nD → Valuation τ sig (Elt F)) (k : ℕ) (c : Dev nD) : Valuation τ sig (Elt F) :=
  StableHlo.atTrip (testOps φ) [stepOps φ] W k c

theorem mem_refs (φ : Bufs h g) : φ.xp.ref ∈ refs φ ∧ φ.u.ref ∈ refs φ ∧ φ.b.ref ∈ refs φ ∧ φ.i.ref ∈ refs φ ∧ φ.s.ref ∈ refs φ ∧ φ.ys.ref ∈ refs φ := by
  refine ⟨?_, ?_, ?_, ?_, ?_, ?_⟩ <;> simp [refs]

theorem trip_succ (φ : Bufs h g) (W : Dev nD → Valuation τ sig (Elt F)) (k : ℕ) (c : Dev nD) :
    trip φ W (k + 1) c = StableHlo.after (stepOps φ) (StableHlo.after (testOps φ) (trip φ W k c)) := rfl

/-- Before the `k`-th trip the counter is `k`. -/
theorem count {φ : Bufs h g} (hN : Distinct φ) (W : Dev nD → Valuation τ sig (Elt F)) (h0 : ∀ c, rd φ.i (W c) = constantI S 32 0#32) (k : ℕ) (c : Dev nD) :
    rd φ.i (trip φ W k c) = constantI S 32 (BitVec.ofNat 32 k) := by
  induction k with
  | zero => exact h0 c
  | succ k ih =>
    rw [trip_succ, hN.steps.i, test_keeps hN (mem_refs φ).2.2.2.1, ih]
    funext j
    exact (BitVec.ofNat_add k 1).symm

omit [FloatOps F] in
/-- What an operation answers for a buffer it writes is what it leaves there. -/
theorem result_at (op : HloOp τ sig (Elt F)) (V : Valuation τ sig (Elt F)) {b : DevRef τ sig} (hb : b ∈ op.writes) :
    op.fn (fun b => V b.1) ⟨b, hb⟩ = op.result V b := by
  unfold HloOp.result
  rw [dif_pos hb]

/-- What the test leaves for its answer. -/
theorem test_value {φ : Bufs h g} (hN : Distinct φ) (V : Valuation τ sig (Elt F)) :
    rd φ.p ((TRef.binary φ.i φ.lim φ.p (cmpi .slt)).result ((TRef.nullary φ.lim (constantI S 32 512#32)).result V))
      = cmpi .slt (rd φ.i V) (constantI S 32 512#32) := by
  have hN' : [φ.i.ref, φ.lim.ref, φ.p.ref].Nodup :=
    List.nodup_append.mpr ⟨List.nodup_singleton _, (List.nodup_append.mp hN).2.1, fun a ha b hb => by
      rw [List.mem_singleton.mp ha]; exact (List.nodup_append.mp hN).2.2 _ (mem_refs φ).2.2.2.1 _ hb⟩
  have O : Once (F := F) (testOps φ) [φ.i.ref, φ.lim.ref, φ.p.ref] 1 := ⟨rfl, hN'⟩
  have e0 := O.nul 0 (y := φ.lim) rfl rfl V
  have e1 := O.bi 1 0 1 (a := φ.i) (b := φ.lim) (y := φ.p) rfl rfl rfl rfl (by decide) (by decide) V
  rw [e0, O.old 0 (x := φ.i) rfl (by decide) V] at e1
  exact e1

/-- The test's answer. -/
theorem test_answer {φ : Bufs h g} (hN : Distinct φ) (V : Valuation τ sig (Elt F))
    (hb : Proc.devRef .tc φ.p.ref ∈ (TRef.binary (τ := τ) (Val := Elt F) φ.i φ.lim φ.p (cmpi .slt)).writes) :
    φ.p.ofBuf ((TRef.binary φ.i φ.lim φ.p (cmpi .slt)).fn (fun b => (TRef.nullary φ.lim (constantI S 32 512#32)).result V b.1) ⟨Proc.devRef .tc φ.p.ref, hb⟩)
      = cmpi .slt (rd φ.i V) (constantI S 32 512#32) := by
  refine Eq.trans ?_ (test_value hN V)
  rw [result_at]
  rfl

theorem test_iff : ∀ k : Fin 513, Iff (IntOp.cmpi .slt (BitVec.ofNat 32 k.val) 512#32 = 1#1) (k.val < 512) := by decide +kernel

section Segments

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

local notation "𝕄" => MT nD τ sig Unit (Elt F) ℕ (Option PUnit) ℕ

/-- What goes along beside the buffers: nothing owed. -/
abbrev Rw (c : Dev nD) : sProp 𝕄 := iprop(∃ W, owes (c : Thread nD τ) (0 : CellTallies nD τ sig Unit) W)

/-- A scan's test, run before trip `k`: it answers whether `k < 512`. -/
theorem test_does {φ : Bufs h g} (hN : Distinct φ) (W : Dev nD → Valuation τ sig (Elt F)) (h0 : ∀ c, rd φ.i (W c) = constantI S 32 0#32)
    {cond : RProg F (Elt F .i1)} (hc : cond = condProg φ) :
    StableHlo.LoopCond (pcfgs (F := F)) defs₀ Variants.none loops (U := Option PUnit) (Name := ℕ) (Lvl := ℕ) (Ix := Unit) Rw cond (testOps φ) [stepOps φ] W 512 := by
  intro k hk c bd
  have hctr := count hN W h0 k c
  subst hc
  unfold condProg
  rw [wp_bind]
  iintro ⟨Hb, Hh, HR⟩
  iapply (StableHlo.wp_hlo_within (Variants.lift Variants.none) (c : Thread nD τ) bd Set.univ (Pipeline.sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (Pipeline.sub_ucRefs _ (StableHlo.binary_bufs_sub ..))) $$ [Hb Hh]
  · isplitl [Hb]; · iexact Hb
    iexact Hh
  iintro ⟨Hb, Hh⟩
  rw [wp_ret]; imodintro
  isplitr
  · ipureintro
    have e := congrFun (test_answer hN (trip φ W k c) (Finset.mem_singleton_self _)) HostLoop.idx0
    rw [hctr] at e
    refine Iff.trans (Iff.of_eq (congrArg (fun v => v = (1#1 : BitVec 1)) e)) ?_
    exact test_iff ⟨k, by omega⟩
  isplitl [Hb]; · iexact Hb
  isplitl [Hh]; · iexact Hh
  iexact HR

end Segments

end Cert.ReferenceIdeal.Scan

end
-- ==== Proof.RefRun.lean ====
/- The reference's run: every layer's stretch and scan in turn, and what the buffers hold at the end. -/
module

public import proofs.«01_k».proof.Proof.RefLoop
public import Idealize.ShloMosaic.Lib.Pipeline.RegionsLoop

@[expose] public section

set_option maxRecDepth 16384

noncomputable section

namespace Cert.ReferenceIdeal.Scan

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.TcCoe
open Idealize.ShloMosaic.StableHlo (TRef)
open Idealize.ShloMosaic.Pipeline (CSeg)

variable {F : FTy → Type} [FloatOps F]

/-- A layer of the reference: its buffers, and that its scan is this loop of the program. -/
structure Layer (F : FTy → Type) [FloatOps F] where
  k : ℕ
  h : ℕ
  g : ℕ
  fits : Fits h g
  bufs : Bufs h g
  heads : Heads k h g
  wf : DotDims.WF (Sh3 512 256 k) (Sh2 g k) (Sh3 512 256 g) [2] [1] [0, 1] [0] [] []
  l : Fin 7
  cond : RProg F (Elt F .i1)
  body : RProg F PUnit
  loop : loops (F := F) l = HostLoop.step l cond body
  tests : cond = condProg bufs
  steps : body = Pipeline.chain [StableHlo.seq (stepOps bufs)]
  distinct : Distinct bufs
  apart : (headRefs heads bufs).Nodup

instance (y : Layer F) : Fits y.h y.g := y.fits

namespace Layer

variable (y : Layer F)

/-- The operations before the layer's scan. -/
def head : List (HloOp τ sig (Elt F)) := headOps y.wf y.heads y.bufs

/-- The buffers where the scan begins. -/
def entry (W : Dev nD → Valuation τ sig (Elt F)) (c : Dev nD) : Valuation τ sig (Elt F) := StableHlo.after y.head (W c)

/-- The buffers where the layer ends. -/
def exit (W : Dev nD → Valuation τ sig (Elt F)) (c : Dev nD) : Valuation τ sig (Elt F) :=
  StableHlo.after (testOps y.bufs) (trip y.bufs (y.entry W) 512 c)

/-- The buffers the layer writes. -/
def writes : List (Ref sig .tc) := headWrites y.heads y.bufs ++ (stepWrites y.bufs ++ [y.bufs.lim.ref, y.bufs.p.ref])

theorem counter (W : Dev nD → Valuation τ sig (Elt F)) (c : Dev nD) : rd y.bufs.i (y.entry W c) = constantI S 32 0#32 :=
  (head_leaves y.wf y.apart (W c)).2.2.2.1

/-- The layer keeps every buffer it does not write. -/
theorem keeps {r : Ref sig .tc} (hr : r ∉ y.writes) (W : Dev nD → Valuation τ sig (Elt F)) (c : Dev nD) :
    y.exit W c (Proc.devRef .tc r) = W c (Proc.devRef .tc r) := by
  have h1 : r ∉ headWrites y.heads y.bufs := fun hm => hr (List.mem_append_left _ hm)
  have h2 : r ∉ stepWrites y.bufs := fun hm => hr (List.mem_append_right _ (List.mem_append_left _ hm))
  have h3 : r ∉ [y.bufs.lim.ref, y.bufs.p.ref] := fun hm => hr (List.mem_append_right _ (List.mem_append_right _ hm))
  have ht : ∀ k, trip y.bufs (y.entry W) k c (Proc.devRef .tc r) = W c (Proc.devRef .tc r) := by
    intro k
    induction k with
    | zero => exact Scan.keeps _ (head_writes y.wf y.heads y.bufs) h1 (W c)
    | succ k ih => rw [trip_succ, Scan.keeps _ (step_writes y.bufs) h2, Scan.keeps _ (test_writes y.bufs) h3, ih]
  exact (Scan.keeps _ (test_writes y.bufs) h3 _).trans (ht 512)

end Layer

/-- Every operation of a list reads and writes the main core's buffers and makes none. -/
theorem head_plain {k h g : ℕ} [Fits h g] (wf) (η : Heads k h g) (φ : Bufs h g) : StableHlo.Plain [headOps (F := F) wf η φ] :=
  StableHlo.Plain.cons ⟨StableHlo.binary_bufs_sub .., StableHlo.unary_bufs_sub .., StableHlo.unary_bufs_sub .., StableHlo.binary_bufs_sub ..,
    StableHlo.nullary_bufs_sub .., StableHlo.unary_bufs_sub .., StableHlo.nullary_bufs_sub .., StableHlo.unary_bufs_sub .., StableHlo.unary_bufs_sub ..,
    StableHlo.unary_bufs_sub .., StableHlo.unary_bufs_sub .., StableHlo.unary_bufs_sub .., StableHlo.unary_bufs_sub ..⟩ StableHlo.Plain.nil

section Plain

variable {T₀ T₁ T₂ T : BufTy}

/-- An operation of the main core that makes no buffer. -/
def Good (op : HloOp τ sig (Elt F)) : Prop := op.bufs ⊆ StableHlo.tcRefs τ sig ∧ op.fresh = ∅

omit [FloatOps F] in
theorem Good.n (y : TRef sig T) (v : T.Contents (Elt F)) : Good (TRef.nullary y v) := ⟨StableHlo.nullary_bufs_sub .., rfl⟩
omit [FloatOps F] in
theorem Good.u (x : TRef sig T₀) (y : TRef sig T) (f : T₀.Contents (Elt F) → T.Contents (Elt F)) : Good (TRef.unary x y f) := ⟨StableHlo.unary_bufs_sub .., rfl⟩
omit [FloatOps F] in
theorem Good.b (x : TRef sig T₀) (z : TRef sig T₁) (y : TRef sig T) (f : T₀.Contents (Elt F) → T₁.Contents (Elt F) → T.Contents (Elt F)) :
    Good (TRef.binary x z y f) := ⟨StableHlo.binary_bufs_sub .., rfl⟩
omit [FloatOps F] in
theorem Good.r (x : TRef sig T₀) (y : TRef sig T) (he : T₀.elt = T.elt) (hn : T₀.shape.ShapeCasts T.shape) : Good (F := F) (TRef.reshape x y he hn) :=
  ⟨StableHlo.reshape_bufs_sub .., rfl⟩
omit [FloatOps F] in
theorem Good.c {q : ℕ} (x : TRef sig T₀) (ix : Fin q → TRef sig T₁) (y : TRef sig T) (f : T₀.Contents (Elt F) → (Fin q → T₁.Contents (Elt F)) → T.Contents (Elt F)) :
    Good (TRef.unaryIndexed x ix y f) := ⟨StableHlo.unaryIndexed_bufs_sub .., rfl⟩
omit [FloatOps F] in
theorem Good.p {q : ℕ} (x : TRef sig T₀) (z : TRef sig T₂) (ix : Fin q → TRef sig T₁) (y : TRef sig T)
    (f : T₀.Contents (Elt F) → T₂.Contents (Elt F) → (Fin q → T₁.Contents (Elt F)) → T.Contents (Elt F)) :
    Good (TRef.binaryIndexed x z ix y f) := ⟨StableHlo.binaryIndexed_bufs_sub .., rfl⟩

end Plain

theorem step_plain {h g : ℕ} [Fits h g] (φ : Bufs h g) : StableHlo.Plain [stepOps (F := F) φ] := by
  have hall : (stepOps (F := F) φ).Forall Good := by
    exact ⟨
      Good.n .., Good.n .., Good.c .., Good.r .., Good.u .., Good.b .., Good.u .., Good.u .., Good.b .., Good.u .., Good.u .., Good.u .., Good.u .., Good.u .., Good.u .., Good.b .., Good.u .., Good.u .., Good.n .., Good.u .., Good.b .., Good.n .., Good.u .., Good.b ..,
      Good.b .., Good.u .., Good.u .., Good.n .., Good.u .., Good.b .., Good.n .., Good.u .., Good.b .., Good.b .., Good.b .., Good.u .., Good.n .., Good.u .., Good.b .., Good.b .., Good.b .., Good.b .., Good.u .., Good.n .., Good.n .., Good.p .., Good.n .., Good.b ..,
      Good.u .., Good.u .., Good.u ..⟩
  intro ops ho
  rw [List.mem_singleton.mp ho]
  have hm := List.forall_iff_forall_mem.mp hall
  exact ⟨fun op h => (hm op h).1, fun op h => (hm op h).2⟩

theorem zero_plain : StableHlo.Plain [zeroOps (F := F)] :=
  StableHlo.Plain.cons ⟨StableHlo.nullary_bufs_sub .., StableHlo.unary_bufs_sub .., StableHlo.nullary_bufs_sub .., StableHlo.unary_bufs_sub ..⟩ StableHlo.Plain.nil

theorem join_plain : StableHlo.Plain [joinOps (F := F)] :=
  StableHlo.Plain.cons (StableHlo.binary_bufs_sub ..) StableHlo.Plain.nil

section Segments

local notation "𝕄" => MT nD τ sig Unit (Elt F) ℕ (Option PUnit) ℕ

/-- A piece of the reference's program, run. -/
abbrev Piece (F : FTy → Type) [FloatOps F] := CSeg (Ix := Unit) (Name := ℕ) (U := Option PUnit) (Lvl := ℕ) (pcfgs (F := F)) adm defs₀ Variants.none L lv loops tk

/-- A layer's pieces: its stretch and its scan. -/
def Layer.pieces (y : Layer F) (W : Dev nD → Valuation τ sig (Elt F)) : List (Piece F) :=
  StableHlo.segsOf _ _ _ _ _ _ _ _ Rw [y.head] (head_plain y.wf y.heads y.bufs) W
    ++ [StableHlo.loopSeg _ _ _ _ _ _ _ _ y.l y.cond y.body y.loop (testOps y.bufs) [stepOps y.bufs] (step_plain y.bufs) y.steps 512 (y.entry W) Rw
      (test_does y.distinct (y.entry W) (y.counter W) y.tests)]

/-- The buffers beside what goes along. -/
abbrev at' (W : Dev nD → Valuation τ sig (Elt F)) (c : Dev nD) : sProp 𝕄 := iprop(StableHlo.held (c : Thread nD τ) (Pipeline.ucRefs τ sig) (W c) ∗ Rw c)

theorem Layer.chains (y : Layer F) (W : Dev nD → Valuation τ sig (Elt F)) : CSeg.Chains (at' W) (y.pieces W) (at' (y.exit W)) :=
  CSeg.Chains.append (StableHlo.segsOf_chains _ _ _ _ _ _ _ _ Rw [y.head] (head_plain y.wf y.heads y.bufs) W) ⟨fun _ => .rfl, fun _ => .rfl⟩

theorem Layer.pieces_prog (y : Layer F) (W : Dev nD → Valuation τ sig (Elt F)) :
    (y.pieces W).map CSeg.prog = [StableHlo.seq y.head, HostLoop.enter y.l] := rfl

/-- The buffers after some layers. -/
def exits : List (Layer F) → (Dev nD → Valuation τ sig (Elt F)) → Dev nD → Valuation τ sig (Elt F)
  | [], W => W
  | y :: ys, W => exits ys (y.exit W)

/-- Some layers' pieces. -/
def pieces : List (Layer F) → (Dev nD → Valuation τ sig (Elt F)) → List (Piece F)
  | [], _ => []
  | y :: ys, W => y.pieces W ++ pieces ys (y.exit W)

theorem pieces_chain : ∀ (ys : List (Layer F)) (W : Dev nD → Valuation τ sig (Elt F)), CSeg.Chains (at' W) (pieces ys W) (at' (exits ys W))
  | [], _ => fun _ => .rfl
  | y :: ys, W => CSeg.Chains.append (y.chains W) (pieces_chain ys (y.exit W))

theorem pieces_prog : ∀ (ys : List (Layer F)) (W : Dev nD → Valuation τ sig (Elt F)),
    (pieces ys W).map CSeg.prog = ys.flatMap fun y => [StableHlo.seq y.head, HostLoop.enter y.l]
  | [], _ => rfl
  | y :: ys, W => by
    rw [pieces, List.map_append, pieces_prog ys, y.pieces_prog W]
    rfl

theorem exits_keep {r : Ref sig .tc} : ∀ (ys : List (Layer F)), (∀ y ∈ ys, r ∉ y.writes) → ∀ (W : Dev nD → Valuation τ sig (Elt F)) (c : Dev nD),
    exits ys W c (Proc.devRef .tc r) = W c (Proc.devRef .tc r)
  | [], _, _, _ => rfl
  | y :: ys, h, W, c => (exits_keep ys (fun z hz => h z (List.mem_cons_of_mem _ hz)) (y.exit W) c).trans (y.keeps (h y List.mem_cons_self) W c)

end Segments

def layer0 : Layer F := ⟨300, 16, 48, inferInstance, bufs0, heads0, Gen.facts.dot_S512x256x300_S48x300_S512x256x48_2_1_01_0_n_n_wf, 0, _, _, rfl, cond0, body0, by unfold Distinct; decide +kernel, by decide +kernel⟩
def layer1 : Layer F := ⟨16, 16, 48, inferInstance, bufs1, heads1, Gen.facts.dot_S512x256x16_S48x16_S512x256x48_2_1_01_0_n_n_wf, 1, _, _, rfl, cond1, body1, by unfold Distinct; decide +kernel, by decide +kernel⟩
def layer2 : Layer F := ⟨16, 16, 48, inferInstance, bufs2, heads2, Gen.facts.dot_S512x256x16_S48x16_S512x256x48_2_1_01_0_n_n_wf, 2, _, _, rfl, cond2, body2, by unfold Distinct; decide +kernel, by decide +kernel⟩
def layer3 : Layer F := ⟨16, 16, 48, inferInstance, bufs3, heads3, Gen.facts.dot_S512x256x16_S48x16_S512x256x48_2_1_01_0_n_n_wf, 3, _, _, rfl, cond3, body3, by unfold Distinct; decide +kernel, by decide +kernel⟩
def layer4 : Layer F := ⟨16, 64, 192, inferInstance, bufs4, heads4, Gen.facts.dot_S512x256x16_S192x16_S512x256x192_2_1_01_0_n_n_wf, 4, _, _, rfl, cond4, body4, by unfold Distinct; decide +kernel, by decide +kernel⟩
def layer5 : Layer F := ⟨64, 64, 192, inferInstance, bufs5, heads5, Gen.facts.dot_S512x256x64_S192x64_S512x256x192_2_1_01_0_n_n_wf, 5, _, _, rfl, cond5, body5, by unfold Distinct; decide +kernel, by decide +kernel⟩
def layer6 : Layer F := ⟨64, 64, 192, inferInstance, bufs6, heads6, Gen.facts.dot_S512x256x64_S192x64_S512x256x192_2_1_01_0_n_n_wf, 6, _, _, rfl, cond6, body6, by unfold Distinct; decide +kernel, by decide +kernel⟩

/-- The seven layers. -/
def layers : List (Layer F) := [layer0, layer1, layer2, layer3, layer4, layer5, layer6]

/-- The buffers before the first layer. -/
def start (m : (ℓ : Loc nD τ sig) → Buf (Elt F) ℓ) (c : Dev nD) : Valuation τ sig (Elt F) := StableHlo.after zeroOps (StableHlo.launchContents m c)

/-- The buffers at the end. -/
def finish (m : (ℓ : Loc nD τ sig) → Buf (Elt F) ℓ) (c : Dev nD) : Valuation τ sig (Elt F) := StableHlo.after joinOps (exits layers (start m) c)

section Run

local notation "𝕄" => MT nD τ sig Unit (Elt F) ℕ (Option PUnit) ℕ

/-- The whole program's pieces. -/
def all (m : (ℓ : Loc nD τ sig) → Buf (Elt F) ℓ) : List (Piece F) :=
  StableHlo.segsOf _ _ _ _ _ _ _ _ Rw [zeroOps] zero_plain (StableHlo.launchContents m)
    ++ (pieces layers (start m) ++ StableHlo.segsOf _ _ _ _ _ _ _ _ Rw [joinOps] join_plain (exits layers (start m)))

theorem all_chains (m : (ℓ : Loc nD τ sig) → Buf (Elt F) ℓ) : CSeg.Chains (at' (StableHlo.launchContents m)) (all m) (at' (finish m)) :=
  CSeg.Chains.append (StableHlo.segsOf_chains _ _ _ _ _ _ _ _ Rw [zeroOps] zero_plain (StableHlo.launchContents m))
    (CSeg.Chains.append (pieces_chain layers (start m)) (StableHlo.segsOf_chains _ _ _ _ _ _ _ _ Rw [joinOps] join_plain (exits layers (start m))))

theorem all_prog (m : (ℓ : Loc nD τ sig) → Buf (Elt F) ℓ) (c : Dev nD) : (main c : RProg F PUnit) = Pipeline.chain ((all m).map CSeg.prog) := by
  rw [main_items, all, List.map_append, List.map_append, pieces_prog, StableHlo.segsOf_prog, StableHlo.segsOf_prog]
  rfl

theorem no_unscoped : ∀ sm : SemLoc sig, sm.isScoped .tc = true := by decide

set_option backward.isDefEq.respectTransparency.types false in
/-- From every start the reference ends with its buffers as computed and its counters at zero. -/
theorem run [∀ e, Nonempty (Elt F e)] (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, ∀ b ∈ Pipeline.ucRefs τ sig, r.2.mem (((c : Thread nD τ)).1, b) = finish m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none L lv loops tk m ρ main (all m)
    (fun c Q => by
      rw [all_prog m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := at' (StableHlo.launchContents m))
    (Tₙ := fun c => iprop(StableHlo.held (c : Thread nD τ) (Pipeline.ucRefs τ sig) (finish m c)))
    (hch := all_chains m)
    (hinit := by
      refine Pipeline.initEach L lv fun c => ?_
      rw [show unscopedBufs c (fun b => m ((c : Thread nD τ).loc b)) = StableHlo.held (c : Thread nD τ) (Pipeline.ucRefs τ sig) (StableHlo.launchContents m c) from Pipeline.unscopedBufs_held c (StableHlo.launchContents m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = finish m c b)
    (hfin := fun c s' => by
      unfold StableHlo.held
      iintro ⟨Hh, HSI⟩
      ihave Hr := (pointsTo_read_all (Pipeline.ucRefs τ sig) (fun b => ((c : Dev nD), b)) (fun b => finish m c b) s') $$ [Hh HSI]
      · isplitl [Hh] <;> iassumption
      icases Hr with ⟨%h, HSI⟩
      imodintro
      isplitr; · ipureintro; exact h
      iexact HSI)
    (hQ := fun _ h hz => ⟨h, funext fun g => hz g (.inr (no_unscoped g.2))⟩)

end Run

end Cert.ReferenceIdeal.Scan

end
-- ==== Proof.RefFrame.lean ====
/- From every start the reference ends with its arguments unchanged. -/
module

public import proofs.«01_k».proof.Defs
public import proofs.«01_k».proof.Proof.RefRun
public import Idealize.ShloMosaic.Lib.StableHlo.RunHlo

@[expose] public section

set_option maxRecDepth 16384

noncomputable section

namespace Cert.ReferenceIdeal.Scan

open Idealize.ShloMosaic Idealize.ShloMosaic.TcCoe Idealize.SL.Sem

variable {F : FTy → Type} [FloatOps F]

/-- The buffers one layer writes, from its tables. -/
def layerWrites {k h g : ℕ} (η : Heads k h g) (φ : Bufs h g) : List (Ref sig .tc) := headWrites η φ ++ (stepWrites φ ++ [φ.lim.ref, φ.p.ref])

/-- The arguments. -/
def args : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28]

/-- No layer writes an argument, nor do the first operations and the last. -/
theorem args_apart : ∀ r ∈ args, r ∉ layerWrites heads0 bufs0 ∧ r ∉ layerWrites heads1 bufs1 ∧ r ∉ layerWrites heads2 bufs2 ∧ r ∉ layerWrites heads3 bufs3
    ∧ r ∉ layerWrites heads4 bufs4 ∧ r ∉ layerWrites heads5 bufs5 ∧ r ∉ layerWrites heads6 bufs6
    ∧ r ∉ [main_cst, main_v0, main_cst_0, main_v1] ∧ r ∉ [main_v44] := by decide +kernel

/-- The first operations keep an argument. -/
theorem start_arg (m : (ℓ : Loc nD τ sig) → Buf (Elt F) ℓ) {r : Ref sig .tc} (hr : r ∈ args) (c : Dev nD) :
    start m c (Proc.devRef .tc r) = m ((c.tc : Thread nD τ).loc r) :=
  keeps [main_cst, main_v0, main_cst_0, main_v1] rfl (args_apart r hr).2.2.2.2.2.2.2.1 (StableHlo.launchContents m c)

/-- The run keeps an argument. -/
theorem finish_arg (m : (ℓ : Loc nD τ sig) → Buf (Elt F) ℓ) {r : Ref sig .tc} (hr : r ∈ args) (c : Dev nD) :
    finish m c (Proc.devRef .tc r) = m ((c.tc : Thread nD τ).loc r) := by
  have h := args_apart r hr
  refine (keeps [main_v44] rfl h.2.2.2.2.2.2.2.2 _).trans (Eq.trans ?_ (start_arg m hr c))
  refine exits_keep layers ?_ (start m) c
  intro y hy
  simp only [layers, List.mem_cons, List.not_mem_nil, or_false] at hy
  rcases hy with rfl | rfl | rfl | rfl | rfl | rfl | rfl
  · exact h.1
  · exact h.2.1
  · exact h.2.2.1
  · exact h.2.2.2.1
  · exact h.2.2.2.2.1
  · exact h.2.2.2.2.2.1
  · exact h.2.2.2.2.2.2.1

/-- A buffer of the main program that is no scratch is among those the run speaks of. -/
theorem uc (b : Ref sig .tc) (h : (Proc.devRef (τ := τ) .tc b : DevRef τ sig).isScoped = false) :
    (Proc.devRef (τ := τ) .tc b : DevRef τ sig) ∈ Pipeline.ucRefs τ sig :=
  Finset.mem_filter.mpr ⟨StableHlo.devRef_mem_tcRefs b, by rw [h]; exact Bool.false_ne_true⟩

/-- The twenty-nine arguments end as they began. -/
theorem kept (m : (ℓ : Loc nD τ sig) → Buf (Elt F) ℓ) {s : (ℓ : Loc nD τ sig) → Buf (Elt F) ℓ}
    (h : ∀ c : Dev nD, ∀ b ∈ Pipeline.ucRefs τ sig, s (((c : Thread nD τ)).1, b) = finish m c b) (c : Dev nD) :
    s ((c.tc : Thread nD τ).loc main_arg0) = m ((c.tc : Thread nD τ).loc main_arg0)
      ∧ s ((c.tc : Thread nD τ).loc main_arg1) = m ((c.tc : Thread nD τ).loc main_arg1)
      ∧ s ((c.tc : Thread nD τ).loc main_arg2) = m ((c.tc : Thread nD τ).loc main_arg2)
      ∧ s ((c.tc : Thread nD τ).loc main_arg3) = m ((c.tc : Thread nD τ).loc main_arg3)
      ∧ s ((c.tc : Thread nD τ).loc main_arg4) = m ((c.tc : Thread nD τ).loc main_arg4)
      ∧ s ((c.tc : Thread nD τ).loc main_arg5) = m ((c.tc : Thread nD τ).loc main_arg5)
      ∧ s ((c.tc : Thread nD τ).loc main_arg6) = m ((c.tc : Thread nD τ).loc main_arg6)
      ∧ s ((c.tc : Thread nD τ).loc main_arg7) = m ((c.tc : Thread nD τ).loc main_arg7)
      ∧ s ((c.tc : Thread nD τ).loc main_arg8) = m ((c.tc : Thread nD τ).loc main_arg8)
      ∧ s ((c.tc : Thread nD τ).loc main_arg9) = m ((c.tc : Thread nD τ).loc main_arg9)
      ∧ s ((c.tc : Thread nD τ).loc main_arg10) = m ((c.tc : Thread nD τ).loc main_arg10)
      ∧ s ((c.tc : Thread nD τ).loc main_arg11) = m ((c.tc : Thread nD τ).loc main_arg11)
      ∧ s ((c.tc : Thread nD τ).loc main_arg12) = m ((c.tc : Thread nD τ).loc main_arg12)
      ∧ s ((c.tc : Thread nD τ).loc main_arg13) = m ((c.tc : Thread nD τ).loc main_arg13)
      ∧ s ((c.tc : Thread nD τ).loc main_arg14) = m ((c.tc : Thread nD τ).loc main_arg14)
      ∧ s ((c.tc : Thread nD τ).loc main_arg15) = m ((c.tc : Thread nD τ).loc main_arg15)
      ∧ s ((c.tc : Thread nD τ).loc main_arg16) = m ((c.tc : Thread nD τ).loc main_arg16)
      ∧ s ((c.tc : Thread nD τ).loc main_arg17) = m ((c.tc : Thread nD τ).loc main_arg17)
      ∧ s ((c.tc : Thread nD τ).loc main_arg18) = m ((c.tc : Thread nD τ).loc main_arg18)
      ∧ s ((c.tc : Thread nD τ).loc main_arg19) = m ((c.tc : Thread nD τ).loc main_arg19)
      ∧ s ((c.tc : Thread nD τ).loc main_arg20) = m ((c.tc : Thread nD τ).loc main_arg20)
      ∧ s ((c.tc : Thread nD τ).loc main_arg21) = m ((c.tc : Thread nD τ).loc main_arg21)
      ∧ s ((c.tc : Thread nD τ).loc main_arg22) = m ((c.tc : Thread nD τ).loc main_arg22)
      ∧ s ((c.tc : Thread nD τ).loc main_arg23) = m ((c.tc : Thread nD τ).loc main_arg23)
      ∧ s ((c.tc : Thread nD τ).loc main_arg24) = m ((c.tc : Thread nD τ).loc main_arg24)
      ∧ s ((c.tc : Thread nD τ).loc main_arg25) = m ((c.tc : Thread nD τ).loc main_arg25)
      ∧ s ((c.tc : Thread nD τ).loc main_arg26) = m ((c.tc : Thread nD τ).loc main_arg26)
      ∧ s ((c.tc : Thread nD τ).loc main_arg27) = m ((c.tc : Thread nD τ).loc main_arg27)
      ∧ s ((c.tc : Thread nD τ).loc main_arg28) = m ((c.tc : Thread nD τ).loc main_arg28) :=
  have a : ∀ r ∈ args, (Proc.devRef (τ := τ) .tc r : DevRef τ sig).isScoped = false → s ((c.tc : Thread nD τ).loc r) = m ((c.tc : Thread nD τ).loc r) :=
    fun r hr hs => (h c _ (uc r hs)).trans (finish_arg m hr c)
  ⟨a main_arg0 (by unfold args; simp only [List.mem_cons, true_or, or_true]) rfl,
    a main_arg1 (by unfold args; simp only [List.mem_cons, true_or, or_true]) rfl,
    a main_arg2 (by unfold args; simp only [List.mem_cons, true_or, or_true]) rfl,
    a main_arg3 (by unfold args; simp only [List.mem_cons, true_or, or_true]) rfl,
    a main_arg4 (by unfold args; simp only [List.mem_cons, true_or, or_true]) rfl,
    a main_arg5 (by unfold args; simp only [List.mem_cons, true_or, or_true]) rfl,
    a main_arg6 (by unfold args; simp only [List.mem_cons, true_or, or_true]) rfl,
    a main_arg7 (by unfold args; simp only [List.mem_cons, true_or, or_true]) rfl,
    a main_arg8 (by unfold args; simp only [List.mem_cons, true_or, or_true]) rfl,
    a main_arg9 (by unfold args; simp only [List.mem_cons, true_or, or_true]) rfl,
    a main_arg10 (by unfold args; simp only [List.mem_cons, true_or, or_true]) rfl,
    a main_arg11 (by unfold args; simp only [List.mem_cons, true_or, or_true]) rfl,
    a main_arg12 (by unfold args; simp only [List.mem_cons, true_or, or_true]) rfl,
    a main_arg13 (by unfold args; simp only [List.mem_cons, true_or, or_true]) rfl,
    a main_arg14 (by unfold args; simp only [List.mem_cons, true_or, or_true]) rfl,
    a main_arg15 (by unfold args; simp only [List.mem_cons, true_or, or_true]) rfl,
    a main_arg16 (by unfold args; simp only [List.mem_cons, true_or, or_true]) rfl,
    a main_arg17 (by unfold args; simp only [List.mem_cons, true_or, or_true]) rfl,
    a main_arg18 (by unfold args; simp only [List.mem_cons, true_or, or_true]) rfl,
    a main_arg19 (by unfold args; simp only [List.mem_cons, true_or, or_true]) rfl,
    a main_arg20 (by unfold args; simp only [List.mem_cons, true_or, or_true]) rfl,
    a main_arg21 (by unfold args; simp only [List.mem_cons, true_or, or_true]) rfl,
    a main_arg22 (by unfold args; simp only [List.mem_cons, true_or, or_true]) rfl,
    a main_arg23 (by unfold args; simp only [List.mem_cons, true_or, or_true]) rfl,
    a main_arg24 (by unfold args; simp only [List.mem_cons, true_or, or_true]) rfl,
    a main_arg25 (by unfold args; simp only [List.mem_cons, true_or, or_true]) rfl,
    a main_arg26 (by unfold args; simp only [List.mem_cons, true_or, or_true]) rfl,
    a main_arg27 (by unfold args; simp only [List.mem_cons, true_or, or_true]) rfl,
    a main_arg28 (by unfold args; simp only [List.mem_cons, true_or, or_true]) rfl⟩

/-- The reference's frame. -/
theorem frame_reference : quiescent_ReferenceIdeal (hReferenceIdeal := Gen.facts) := fun m ρ _ =>
  θ_run_mono (run (F := Ideal) m ρ) fun r hr => ⟨fun c => kept m hr.1 c, hr.2⟩

end Cert.ReferenceIdeal.Scan

end
-- ==== Proof.GruMath.lean ====
/- A GRU layer over the extended reals: a step, the states, and the same step in the form that adds the biases up first. -/
module

public import Idealize.ShloMosaic.Lib.ValueIdx
public import Idealize.ShloMosaic.Lib.IdealHost

@[expose] public section

noncomputable section

namespace Cert.Gru

open Idealize.ShloMosaic

/-- A layer's weights on its input and on its state, and the biases added to each product; by gate (reset, update, new), then by unit. -/
structure Layer (I H : ℕ) where
  w : Fin 3 → Fin H → Fin I → EReal
  u : Fin 3 → Fin H → Fin H → EReal
  p : Fin 3 → Fin H → EReal
  q : Fin 3 → Fin H → EReal

variable {I H : ℕ}

/-- The input's product of a gate's unit. -/
def Layer.xd (L : Layer I H) (x : Fin I → EReal) (a : Fin 3) (j : Fin H) : EReal := ∑ k, x k * L.w a j k

/-- The state's product of a gate's unit. -/
def Layer.hd (L : Layer I H) (h : Fin H → EReal) (a : Fin 3) (j : Fin H) : EReal := ∑ k, h k * L.u a j k

/-- A layer's step. -/
def Layer.cell (L : Layer I H) (x : Fin I → EReal) (h : Fin H → EReal) : Fin H → EReal := fun j =>
  let r := Ideal.logistic ((L.xd x 0 j + L.p 0 j) + (L.hd h 0 j + L.q 0 j))
  let z := Ideal.logistic ((L.xd x 1 j + L.p 1 j) + (L.hd h 1 j + L.q 1 j))
  let n := Ideal.tanh ((L.xd x 2 j + L.p 2 j) + r * (L.hd h 2 j + L.q 2 j))
  (1 - z) * n + z * h j

/-- A layer's states: before time 0, after time 0, after time 1, … -/
def Layer.states (L : Layer I H) (x : ℕ → Fin I → EReal) (h : Fin H → EReal) : ℕ → Fin H → EReal
  | 0 => h
  | t + 1 => L.cell (x t) (L.states x h t)

/-- The logistic function's values are reals. -/
theorem logistic_real (x : EReal) : ∃ r : ℝ, Ideal.logistic x = r := by
  induction x with
  | bot => exact ⟨0, by simp⟩
  | coe x => exact ⟨_, Ideal.logistic_coe ..⟩
  | top => exact ⟨1, by simp⟩

/-- The hyperbolic tangent's values are reals. -/
theorem tanh_real (x : EReal) : ∃ r : ℝ, Ideal.tanh x = r := by
  induction x with
  | bot => exact ⟨-1, by simp⟩
  | coe x => exact ⟨_, Ideal.tanh_coe ..⟩
  | top => exact ⟨1, by simp⟩

/-- Real numbers among the extended ones. -/
def Real' (x : EReal) : Prop := ∃ r : ℝ, x = r

/-- The two ways to weigh the old state against the new one agree on reals. -/
theorem weigh {z n h : EReal} (hz : Real' z) (hn : Real' n) (hh : Real' h) : n + z * (h - n) = (1 - z) * n + z * h := by
  obtain ⟨z, rfl⟩ := hz
  obtain ⟨n, rfl⟩ := hn
  obtain ⟨h, rfl⟩ := hh
  have h1 : (1 : EReal) = ((1 : ℝ) : EReal) := rfl
  rw [h1, ← EReal.coe_sub, ← EReal.coe_sub, ← EReal.coe_mul, ← EReal.coe_mul, ← EReal.coe_mul, ← EReal.coe_add, ← EReal.coe_add]
  congr 1
  ring

/-- A step from real states leads to real states. -/
theorem Layer.cell_real (L : Layer I H) (x : Fin I → EReal) {h : Fin H → EReal} (hh : ∀ j, Real' (h j)) (j : Fin H) : Real' (L.cell x h j) := by
  obtain ⟨z, hz⟩ := logistic_real ((L.xd x 1 j + L.p 1 j) + (L.hd h 1 j + L.q 1 j))
  obtain ⟨n, hn⟩ := tanh_real ((L.xd x 2 j + L.p 2 j) + Ideal.logistic ((L.xd x 0 j + L.p 0 j) + (L.hd h 0 j + L.q 0 j)) * (L.hd h 2 j + L.q 2 j))
  obtain ⟨a, ha⟩ := hh j
  refine ⟨(1 - z) * n + z * a, ?_⟩
  unfold Layer.cell
  simp only
  rw [hz, hn, ha]
  norm_cast

/-- States from a real start are real. -/
theorem Layer.states_real (L : Layer I H) (x : ℕ → Fin I → EReal) {h : Fin H → EReal} (hh : ∀ j, Real' (h j)) : ∀ t j, Real' (L.states x h t j)
  | 0, j => hh j
  | t + 1, j => L.cell_real (x t) (L.states_real x hh t) j

/-- The step with the biases of the reset and update gates added up first, and the old state weighed against the new one by their difference. -/
theorem Layer.cell_packed (L : Layer I H) (x : Fin I → EReal) (h : Fin H → EReal) (j : Fin H) (hj : Real' (h j)) :
    (let r := Ideal.logistic (L.xd x 0 j + (L.hd h 0 j + (L.p 0 j + L.q 0 j)))
     let z := Ideal.logistic (L.xd x 1 j + (L.hd h 1 j + (L.p 1 j + L.q 1 j)))
     let n := Ideal.tanh ((L.xd x 2 j + L.p 2 j) + r * (L.hd h 2 j + L.q 2 j))
     n + z * (h j - n)) = L.cell x h j := by
  have e : ∀ a b c d : EReal, a + (b + (c + d)) = (a + c) + (b + d) := fun a b c d => by
    rw [← add_assoc, add_add_add_comm]
  simp only [e]
  exact weigh (logistic_real _) (tanh_real _) hj

/-- The states of a layer that starts to move `k` steps late, and stops when it has taken `N` steps. -/
theorem Layer.late (L : Layer I H) (x : ℕ → Fin I → EReal) (h : Fin H → EReal) (k N : ℕ) (X : ℕ → Fin I → EReal) (T : ℕ → Fin H → EReal)
    (h0 : T 0 = h) (hs : ∀ n, T (n + 1) = if k ≤ n ∧ n < k + N then L.cell (X n) (T n) else T n) (hX : ∀ t, t < N → X (k + t) = x t) :
    ∀ n, T n = L.states x h (min (n - k) N)
  | 0 => by rw [h0, Nat.zero_sub, Nat.zero_min]; rfl
  | n + 1 => by
    rw [hs, L.late x h k N X T h0 hs hX n]
    by_cases hn : k ≤ n ∧ n < k + N
    · rw [if_pos hn, show min (n - k) N = n - k by omega, show min (n + 1 - k) N = (n - k) + 1 by omega, show n = k + (n - k) by omega, hX _ (by omega),
        show k + (n - k) - k = n - k by omega]
      rfl
    · rw [if_neg hn]
      congr 1
      omega

/-- The layer whose weights and biases are rows of arrays, gate after gate. -/
def Layer.ofRows {g : ℕ} (row : Fin 3 → Fin H → Fin g) (w : (⟨2, ![g, I]⟩ : Shape).Idx → EReal) (u : (⟨2, ![g, H]⟩ : Shape).Idx → EReal)
    (p q : (⟨1, ![g]⟩ : Shape).Idx → EReal) : Layer I H where
  w a j k := w (ValueIdx.ix2 (row a j) k)
  u a j k := u (ValueIdx.ix2 (row a j) k)
  p a j := p (ValueIdx.ix1 (row a j))
  q a j := q (ValueIdx.ix1 (row a j))

/-- The rows of three gates of `H` units. -/
def rows {g : ℕ} (hg : 3 * H ≤ g) (a : Fin 3) (j : Fin H) : Fin g :=
  ⟨a.val * H + j.val, by
    have ha := a.isLt
    have hj := j.isLt
    have : a.val * H ≤ 2 * H := Nat.mul_le_mul_right H (by omega)
    omega⟩

/-- The states up to a time depend on the inputs before it only. -/
theorem Layer.states_congr (L : Layer I H) {x y : ℕ → Fin I → EReal} {h k : Fin H → EReal} (hk : h = k) : ∀ n, (∀ t, t < n → x t = y t) → L.states x h n = L.states y k n
  | 0, _ => hk
  | n + 1, e => by
    show L.cell (x n) _ = L.cell (y n) _
    rw [e n (Nat.lt_succ_self n), L.states_congr hk n (fun t ht => e t (Nat.lt_succ_of_lt ht))]

/-- Seven layers, one on the other's outputs, and the inputs of the first: the third and the fourth start from the last states of the first two, the
others from zero. -/
structure Stack where
  l1 : Layer 300 16
  l2 : Layer 16 16
  l3 : Layer 16 16
  l4 : Layer 16 16
  l5 : Layer 16 64
  l6 : Layer 64 64
  l7 : Layer 64 64
  x : ℕ → Fin 300 → EReal

namespace Stack

variable (G : Stack)

/-- The layers' states over time. -/
def s1 : ℕ → Fin 16 → EReal := G.l1.states G.x fun _ => 0
def s2 : ℕ → Fin 16 → EReal := G.l2.states (fun t => G.s1 (t + 1)) fun _ => 0
def s3 : ℕ → Fin 16 → EReal := G.l3.states (fun t => G.s2 (t + 1)) (G.s1 512)
def s4 : ℕ → Fin 16 → EReal := G.l4.states (fun t => G.s3 (t + 1)) (G.s2 512)
def s5 : ℕ → Fin 64 → EReal := G.l5.states (fun t => G.s4 (t + 1)) fun _ => 0
def s6 : ℕ → Fin 64 → EReal := G.l6.states (fun t => G.s5 (t + 1)) fun _ => 0
def s7 : ℕ → Fin 64 → EReal := G.l7.states (fun t => G.s6 (t + 1)) fun _ => 0

theorem zero_real {H : ℕ} (j : Fin H) : Real' ((fun _ => 0 : Fin H → EReal) j) := ⟨0, rfl⟩

theorem s1_real (t : ℕ) (j : Fin 16) : Real' (G.s1 t j) := G.l1.states_real _ zero_real t j
theorem s2_real (t : ℕ) (j : Fin 16) : Real' (G.s2 t j) := G.l2.states_real _ zero_real t j
theorem s3_real (t : ℕ) (j : Fin 16) : Real' (G.s3 t j) := G.l3.states_real _ (G.s1_real 512) t j
theorem s4_real (t : ℕ) (j : Fin 16) : Real' (G.s4 t j) := G.l4.states_real _ (G.s2_real 512) t j
theorem s5_real (t : ℕ) (j : Fin 64) : Real' (G.s5 t j) := G.l5.states_real _ zero_real t j
theorem s6_real (t : ℕ) (j : Fin 64) : Real' (G.s6 t j) := G.l6.states_real _ zero_real t j
theorem s7_real (t : ℕ) (j : Fin 64) : Real' (G.s7 t j) := G.l7.states_real _ zero_real t j

/-- The result: the last layer's last states, then the last but one's. -/
def out (r : Fin 128) : EReal := if h : r.val < 64 then G.s7 512 ⟨r.val, h⟩ else G.s6 512 ⟨r.val - 64, by omega⟩

end Stack

end Cert.Gru

end
-- ==== Proof.KernCell.lean ====
/- The kernel's step at an entry: a column of a layer's new state is the layer's step on that column. -/
module

public import proofs.«01_k».proof.Proof.GruMath
public import proofs.«01_k».proof.Proof.DecodeBlock
public import Idealize.ShloMosaic.Lib.MatmulPlain
public import Idealize.ShloMosaic.Lib.Pipeline.Value

@[expose] public section

set_option maxRecDepth 16384

noncomputable section

namespace Cert.KernelIdeal.Gru

open Idealize.ShloMosaic hiding ix1 ix2 ix3
open Idealize.ShloMosaic.ValueIdx Idealize.ShloMosaic.Pipeline
open Idealize.ShloMosaic.TcCoe
open Cert.Gru

variable [Facts]
open Facts₀ Facts

/-- A zero constant at an entry. -/
theorem zero_at {s : Shape} (i : s.Idx) : (constant s .f32 0x00000000#32 : FVec Ideal s .f32) i = (0 : EReal) := Ideal.ofBits_zero_f32

/-- A product at an entry. -/
theorem proj16V_at (w : FVec Ideal S48x16 .bf16) (h : FVec Ideal S16x256 .f32) (r : Fin 48) (m : Fin 256) :
    proj16V w (truncf .bf16 h bitsLt_bf16_f32) (ix2 r m) = ∑ k, (h (ix2 k m) : EReal) * w (ix2 r k) := by
  unfold proj16V
  rw [shapeCast_self]
  refine (Ideal.matmul_plain_apply (M := 48) (K := 16) (N := 256) none _ _ _ r m).trans ?_
  rw [zero_at, zero_add]
  exact Finset.sum_congr rfl fun k _ => mul_comm _ _

/-- A product at an entry. -/
theorem proj64of16V_at (w : FVec Ideal S192x16 .bf16) (h : FVec Ideal S16x256 .f32) (r : Fin 192) (m : Fin 256) :
    proj64of16V w (truncf .bf16 h bitsLt_bf16_f32) (ix2 r m) = ∑ k, (h (ix2 k m) : EReal) * w (ix2 r k) := by
  unfold proj64of16V
  rw [shapeCast_self]
  refine (Ideal.matmul_plain_apply (M := 192) (K := 16) (N := 256) none _ _ _ r m).trans ?_
  rw [zero_at, zero_add]
  exact Finset.sum_congr rfl fun k _ => mul_comm _ _

/-- A product at an entry. -/
theorem proj64of64V_at (w : FVec Ideal S192x64 .bf16) (h : FVec Ideal S64x256 .f32) (r : Fin 192) (m : Fin 256) :
    proj64of64V w (truncf .bf16 h bitsLt_bf16_f32) (ix2 r m) = ∑ k, (h (ix2 k m) : EReal) * w (ix2 r k) := by
  unfold proj64of64V
  rw [shapeCast_self]
  refine (Ideal.matmul_plain_apply (M := 192) (K := 64) (N := 256) none _ _ _ r m).trans ?_
  rw [zero_at, zero_add]
  exact Finset.sum_congr rfl fun k _ => mul_comm _ _

/-- The first layer's product at an entry. -/
theorem projXV_at (w : FVec Ideal S48x300 .bf16) (x : FVec Ideal S1x256x300 .f32) (r : Fin 48) (m : Fin 256) :
    projXV w x (ix2 r m) = ∑ k, (x (ix3 (0 : Fin 1) m k) : EReal) * w (ix2 r k) := by
  unfold projXV
  rw [shapeCast_self]
  refine (Ideal.matmul_transposedRhs_apply (M := 48) (K := 300) (N := 256) none _ _ _ r m).trans ?_
  rw [zero_at, zero_add]
  refine Finset.sum_congr rfl fun k _ => ?_
  have e : shapeCast S256x300 x shapeCasts_S1x256x300_S256x300 (ix2 m k) = x (ix3 (0 : Fin 1) m k) :=
    shapeCast_apply x _ (ix2 m k) (ix3 (0 : Fin 1) m k) (by
      rw [Shape.rowMajor_val_two, Shape.rowMajor_val_three]
      show (0 * 256 + m.val) * 300 + k.val = m.val * 300 + k.val
      omega)
  rw [truncf_apply, e]
  exact mul_comm _ _

/-- The third layer's product at an entry. -/
theorem projYV_at (w : FVec Ideal S48x16 .bf16) (y : FVec Ideal S1x16x256 .bf16) (r : Fin 48) (m : Fin 256) :
    projYV w y (ix2 r m) = ∑ k, (y (ix3 (0 : Fin 1) k m) : EReal) * w (ix2 r k) := by
  unfold projYV
  rw [shapeCast_self]
  refine (Ideal.matmul_plain_apply (M := 48) (K := 16) (N := 256) none _ _ _ r m).trans ?_
  rw [zero_at, zero_add]
  refine Finset.sum_congr rfl fun k _ => ?_
  have e : shapeCast S16x256 y shapeCasts_S1x16x256_S16x256 (ix2 k m) = y (ix3 (0 : Fin 1) k m) :=
    shapeCast_apply y _ (ix2 k m) (ix3 (0 : Fin 1) k m) (by
      rw [Shape.rowMajor_val_two, Shape.rowMajor_val_three]
      show (0 * 16 + k.val) * 256 + m.val = k.val * 256 + m.val
      omega)
  rw [e]
  exact mul_comm _ _

/-- The place in four gates' rows. -/
def at16 (a : Fin 4) (j : Fin 16) : Fin 64 := ⟨a.val * 16 + j.val, by omega⟩

/-- Biases packed for the kernel: those of the reset and update gates added up, then the new gate's two. -/
structure Packed16 {k : ℕ} (b : FVec Ideal S64x256 .f32) (L : Layer k 16) : Prop where
  reset : ∀ j m, b (ix2 (at16 0 j) m) = L.p 0 j + L.q 0 j
  update : ∀ j m, b (ix2 (at16 1 j) m) = L.p 1 j + L.q 1 j
  input : ∀ j m, b (ix2 (at16 2 j) m) = L.p 2 j
  state : ∀ j m, b (ix2 (at16 3 j) m) = L.q 2 j

theorem fits16 : 3 * 16 ≤ 48 := by decide

/-- A new state at an entry. -/
theorem cell16V_at {k : ℕ} (L : Layer k 16) (x : Fin k → EReal) (xd hd : FVec Ideal S48x256 .f32) (b : FVec Ideal S64x256 .f32) (h : FVec Ideal S16x256 .f32) (m : Fin 256)
    (hx : ∀ a j, xd (ix2 (rows fits16 a j) m) = L.xd x a j) (hh : ∀ a j, hd (ix2 (rows fits16 a j) m) = L.hd (fun e => h (ix2 e m)) a j)
    (hb : Packed16 b L) (hr : ∀ j, Real' (h (ix2 j m))) (j : Fin 16) :
    cell16V xd hd (shapeCast S64x256 b shapeCasts_S64x256_S64x256) h (ix2 j m) = L.cell x (fun e => h (ix2 e m)) j := by
  rw [shapeCast_self, ← L.cell_packed x _ j (hr j)]
  have sx : ∀ (v : FVec Ideal S48x256 .f32) (o : ℕ) (a : Fin 3) (ho : o = a.val * 16) (hs), extractStridedSlice S16x256 ![o, 0] v hs (ix2 j m) = v (ix2 (rows fits16 a j) m) := by
    rintro v o a rfl hs
    exact extractStridedSlice_apply _ _ _ _ _ (fun q => by
      fin_cases q
      · rfl
      · exact (Nat.zero_add _).symm)
  have sb : ∀ (o : ℕ) (a : Fin 4) (ho : o = a.val * 16) (hs), extractStridedSlice S16x256 ![o, 0] b hs (ix2 j m) = b (ix2 (at16 a j) m) := by
    rintro o a rfl hs
    exact extractStridedSlice_apply _ _ _ _ _ (fun q => by
      fin_cases q
      · rfl
      · exact (Nat.zero_add _).symm)
  unfold cell16V
  have l : ∀ (v : FVec Ideal S16x256 .f32) i, logistic v i = Ideal.logistic (v i) := fun _ _ => rfl
  have t : ∀ (v : FVec Ideal S16x256 .f32) i, tanh v i = Ideal.tanh (v i) := fun _ _ => rfl
  simp only [addf_apply, mulf_apply, subf_apply, l, t]
  rw [sx xd 0 0 rfl, sx hd 0 0 rfl, sb 0 0 rfl, sx xd 16 1 rfl, sx hd 16 1 rfl, sb 16 1 rfl, sx xd 32 2 rfl, sx hd 32 2 rfl, sb 32 2 rfl, sb 48 3 rfl,
    hx, hx, hx, hh, hh, hh, hb.reset, hb.update, hb.input, hb.state]

/-- The place in four gates' rows. -/
def at64 (a : Fin 4) (j : Fin 64) : Fin 256 := ⟨a.val * 64 + j.val, by omega⟩

/-- Biases packed for the kernel: those of the reset and update gates added up, then the new gate's two. -/
structure Packed64 {k : ℕ} (b : FVec Ideal S256x256 .f32) (L : Layer k 64) : Prop where
  reset : ∀ j m, b (ix2 (at64 0 j) m) = L.p 0 j + L.q 0 j
  update : ∀ j m, b (ix2 (at64 1 j) m) = L.p 1 j + L.q 1 j
  input : ∀ j m, b (ix2 (at64 2 j) m) = L.p 2 j
  state : ∀ j m, b (ix2 (at64 3 j) m) = L.q 2 j

theorem fits64 : 3 * 64 ≤ 192 := by decide

/-- A new state at an entry. -/
theorem cell64V_at {k : ℕ} (L : Layer k 64) (x : Fin k → EReal) (xd hd : FVec Ideal S192x256 .f32) (b : FVec Ideal S256x256 .f32) (h : FVec Ideal S64x256 .f32) (m : Fin 256)
    (hx : ∀ a j, xd (ix2 (rows fits64 a j) m) = L.xd x a j) (hh : ∀ a j, hd (ix2 (rows fits64 a j) m) = L.hd (fun e => h (ix2 e m)) a j)
    (hb : Packed64 b L) (hr : ∀ j, Real' (h (ix2 j m))) (j : Fin 64) :
    cell64V xd hd (shapeCast S256x256 b shapeCasts_S256x256_S256x256) h (ix2 j m) = L.cell x (fun e => h (ix2 e m)) j := by
  rw [shapeCast_self, ← L.cell_packed x _ j (hr j)]
  have sx : ∀ (v : FVec Ideal S192x256 .f32) (o : ℕ) (a : Fin 3) (ho : o = a.val * 64) (hs), extractStridedSlice S64x256 ![o, 0] v hs (ix2 j m) = v (ix2 (rows fits64 a j) m) := by
    rintro v o a rfl hs
    exact extractStridedSlice_apply _ _ _ _ _ (fun q => by
      fin_cases q
      · rfl
      · exact (Nat.zero_add _).symm)
  have sb : ∀ (o : ℕ) (a : Fin 4) (ho : o = a.val * 64) (hs), extractStridedSlice S64x256 ![o, 0] b hs (ix2 j m) = b (ix2 (at64 a j) m) := by
    rintro o a rfl hs
    exact extractStridedSlice_apply _ _ _ _ _ (fun q => by
      fin_cases q
      · rfl
      · exact (Nat.zero_add _).symm)
  unfold cell64V
  have l : ∀ (v : FVec Ideal S64x256 .f32) i, logistic v i = Ideal.logistic (v i) := fun _ _ => rfl
  have t : ∀ (v : FVec Ideal S64x256 .f32) i, tanh v i = Ideal.tanh (v i) := fun _ _ => rfl
  simp only [addf_apply, mulf_apply, subf_apply, l, t]
  rw [sx xd 0 0 rfl, sx hd 0 0 rfl, sb 0 0 rfl, sx xd 64 1 rfl, sx hd 64 1 rfl, sb 64 1 rfl, sx xd 128 2 rfl, sx hd 128 2 rfl, sb 128 2 rfl, sb 192 3 rfl,
    hx, hx, hx, hh, hh, hh, hb.reset, hb.update, hb.input, hb.state]

end Cert.KernelIdeal.Gru

end
-- ==== Proof.KernHist.lean ====
/- The kernel's states at an entry: each layer's are the stack's, as many steps behind as layers are before it. -/
module

public import proofs.«01_k».proof.Proof.KernCell

@[expose] public section

set_option maxRecDepth 16384

noncomputable section

namespace Cert.KernelIdeal.Gru

open Idealize.ShloMosaic hiding ix1 ix2 ix3
open Idealize.ShloMosaic.ValueIdx Idealize.ShloMosaic.Pipeline
open Idealize.ShloMosaic.TcCoe
open Cert.Gru

variable [Facts]
open Facts₀ Facts

/-- A column of a layer's states. -/
abbrev col {H : ℕ} (h : FVec Ideal ⟨2, ![H, 256]⟩ .f32) (m : Fin 256) : Fin H → EReal := fun j => h (ix2 j m)

/-- A column after a step that may move the layer. -/
theorem col_within {H : ℕ} (lo hi n : ℕ) (new old : FVec Ideal ⟨2, ![H, 256]⟩ .f32) (m : Fin 256) :
    col (within lo hi n new old) m = if lo ≤ n ∧ n < hi then col new m else col old m := by
  unfold within
  split <;> rfl

/-- A column stays real in a step. -/
theorem within_real {H : ℕ} {lo hi n : ℕ} {new old : FVec Ideal ⟨2, ![H, 256]⟩ .f32} {m : Fin 256} (hn : ∀ j, Real' (col new m j)) (ho : ∀ j, Real' (col old m j)) (j : Fin H) :
    Real' (col (within lo hi n new old) m j) := by
  rw [col_within]
  split
  · exact hn j
  · exact ho j

theorem zero16_real (m : Fin 256) (j : Fin 16) : Real' (col (H := 16) zero16 m j) := ⟨0, Ideal.ofBits_zero_f32⟩
theorem zero64_real (m : Fin 256) (j : Fin 64) : Real' (col (H := 64) zero64 m j) := ⟨0, Ideal.ofBits_zero_f32⟩

/-- The first two layers' arrays are the stack's. -/
structure Good12 (W : W12 Ideal) (G : Stack) : Prop where
  w1 : ∀ a j k, W.w1 (ix2 (rows fits16 a j) k) = G.l1.w a j k
  u1 : ∀ a j k, W.u1 (ix2 (rows fits16 a j) k) = G.l1.u a j k
  b1 : Packed16 W.b1 G.l1
  w2 : ∀ a j k, W.w2 (ix2 (rows fits16 a j) k) = G.l2.w a j k
  u2 : ∀ a j k, W.u2 (ix2 (rows fits16 a j) k) = G.l2.u a j k
  b2 : Packed16 W.b2 G.l2

/-- The other layers' arrays are the stack's. -/
structure GoodD (W : WD Ideal) (G : Stack) : Prop where
  w3 : ∀ a j k, W.w3 (ix2 (rows fits16 a j) k) = G.l3.w a j k
  u3 : ∀ a j k, W.u3 (ix2 (rows fits16 a j) k) = G.l3.u a j k
  b3 : Packed16 W.b3 G.l3
  w4 : ∀ a j k, W.w4 (ix2 (rows fits16 a j) k) = G.l4.w a j k
  u4 : ∀ a j k, W.u4 (ix2 (rows fits16 a j) k) = G.l4.u a j k
  b4 : Packed16 W.b4 G.l4
  w5 : ∀ a j k, W.w5 (ix2 (rows fits64 a j) k) = G.l5.w a j k
  u5 : ∀ a j k, W.u5 (ix2 (rows fits64 a j) k) = G.l5.u a j k
  b5 : Packed64 W.b5 G.l5
  w6 : ∀ a j k, W.w6 (ix2 (rows fits64 a j) k) = G.l6.w a j k
  u6 : ∀ a j k, W.u6 (ix2 (rows fits64 a j) k) = G.l6.u a j k
  b6 : Packed64 W.b6 G.l6
  w7 : ∀ a j k, W.w7 (ix2 (rows fits64 a j) k) = G.l7.w a j k
  u7 : ∀ a j k, W.u7 (ix2 (rows fits64 a j) k) = G.l7.u a j k
  b7 : Packed64 W.b7 G.l7

/-- Layer 1's new state. -/
theorem new1_at {W : W12 Ideal} {G : Stack} (g : Good12 W G) (x : FVec Ideal S1x256x300 .f32) (h : FVec Ideal S16x256 .f32) (m : Fin 256) (hr : ∀ j, Real' (col (H := 16) h m j)) :
    col (H := 16) (new1 W x h) m = G.l1.cell (fun k => x (ix3 (0 : Fin 1) m k)) (col (H := 16) h m) :=
  funext fun j => cell16V_at G.l1 _ _ _ _ _ m
    (fun a j => (projXV_at _ _ _ m).trans (Finset.sum_congr rfl fun k _ => by rw [g.w1]))
    (fun a j => (proj16V_at _ _ _ m).trans (Finset.sum_congr rfl fun k _ => by rw [g.u1])) g.b1 hr j

/-- Layer 2's new state. -/
theorem new2_at {W : W12 Ideal} {G : Stack} (g : Good12 W G) (h1 h : FVec Ideal S16x256 .f32) (m : Fin 256) (hr : ∀ j, Real' (col (H := 16) h m j)) :
    col (H := 16) (new2 W h1 h) m = G.l2.cell (col (H := 16) h1 m) (col (H := 16) h m) :=
  funext fun j => cell16V_at G.l2 _ _ _ _ _ m
    (fun a j => (proj16V_at _ _ _ m).trans (Finset.sum_congr rfl fun k _ => by rw [g.w2]))
    (fun a j => (proj16V_at _ _ _ m).trans (Finset.sum_congr rfl fun k _ => by rw [g.u2])) g.b2 hr j

/-- Layer 3's new state. -/
theorem new3_at {W : WD Ideal} {G : Stack} (g : GoodD W G) (y : FVec Ideal S1x16x256 .bf16) (h : Hid Ideal) (m : Fin 256) (hr : ∀ j, Real' (col (H := 16) h.1 m j)) :
    col (H := 16) ((newD W y h).1) m = G.l3.cell (fun k => y (ix3 (0 : Fin 1) k m)) (col (H := 16) h.1 m) :=
  funext fun j => cell16V_at G.l3 _ _ _ _ _ m
    (fun a j => (projYV_at _ _ _ m).trans (Finset.sum_congr rfl fun k _ => by rw [g.w3]))
    (fun a j => (proj16V_at _ _ _ m).trans (Finset.sum_congr rfl fun k _ => by rw [g.u3])) g.b3 hr j

/-- Layer 4's new state. -/
theorem new4_at {W : WD Ideal} {G : Stack} (g : GoodD W G) (y : FVec Ideal S1x16x256 .bf16) (h : Hid Ideal) (m : Fin 256) (hr : ∀ j, Real' (col (H := 16) h.2.1 m j)) :
    col (H := 16) ((newD W y h).2.1) m = G.l4.cell (col (H := 16) h.1 m) (col (H := 16) h.2.1 m) :=
  funext fun j => cell16V_at G.l4 _ _ _ _ _ m
    (fun a j => (proj16V_at _ _ _ m).trans (Finset.sum_congr rfl fun k _ => by rw [g.w4]))
    (fun a j => (proj16V_at _ _ _ m).trans (Finset.sum_congr rfl fun k _ => by rw [g.u4])) g.b4 hr j

/-- Layer 5's new state. -/
theorem new5_at {W : WD Ideal} {G : Stack} (g : GoodD W G) (y : FVec Ideal S1x16x256 .bf16) (h : Hid Ideal) (m : Fin 256) (hr : ∀ j, Real' (col (H := 64) h.2.2.1 m j)) :
    col (H := 64) ((newD W y h).2.2.1) m = G.l5.cell (col (H := 16) h.2.1 m) (col (H := 64) h.2.2.1 m) :=
  funext fun j => cell64V_at G.l5 _ _ _ _ _ m
    (fun a j => (proj64of16V_at _ _ _ m).trans (Finset.sum_congr rfl fun k _ => by rw [g.w5]))
    (fun a j => (proj64of64V_at _ _ _ m).trans (Finset.sum_congr rfl fun k _ => by rw [g.u5])) g.b5 hr j

/-- Layer 6's new state. -/
theorem new6_at {W : WD Ideal} {G : Stack} (g : GoodD W G) (y : FVec Ideal S1x16x256 .bf16) (h : Hid Ideal) (m : Fin 256) (hr : ∀ j, Real' (col (H := 64) h.2.2.2.1 m j)) :
    col (H := 64) ((newD W y h).2.2.2.1) m = G.l6.cell (col (H := 64) h.2.2.1 m) (col (H := 64) h.2.2.2.1 m) :=
  funext fun j => cell64V_at G.l6 _ _ _ _ _ m
    (fun a j => (proj64of64V_at _ _ _ m).trans (Finset.sum_congr rfl fun k _ => by rw [g.w6]))
    (fun a j => (proj64of64V_at _ _ _ m).trans (Finset.sum_congr rfl fun k _ => by rw [g.u6])) g.b6 hr j

/-- Layer 7's new state. -/
theorem new7_at {W : WD Ideal} {G : Stack} (g : GoodD W G) (y : FVec Ideal S1x16x256 .bf16) (h : Hid Ideal) (m : Fin 256) (hr : ∀ j, Real' (col (H := 64) h.2.2.2.2 m j)) :
    col (H := 64) ((newD W y h).2.2.2.2) m = G.l7.cell (col (H := 64) h.2.2.2.1 m) (col (H := 64) h.2.2.2.2 m) :=
  funext fun j => cell64V_at G.l7 _ _ _ _ _ m
    (fun a j => (proj64of64V_at _ _ _ m).trans (Finset.sum_congr rfl fun k _ => by rw [g.w7]))
    (fun a j => (proj64of64V_at _ _ _ m).trans (Finset.sum_congr rfl fun k _ => by rw [g.u7])) g.b7 hr j

section Compress
variable {W : W12 Ideal} {G : Stack} (g : Good12 W G) (x : ℕ → FVec Ideal S1x256x300 .f32) (m : Fin 256)
include g

/-- The first two layers' states are real. -/
theorem hist_real : ∀ n, (∀ j, Real' (col (H := 16) (hist W x n).1 m j)) ∧ ∀ j, Real' (col (H := 16) (hist W x n).2 m j)
  | 0 => ⟨zero16_real m, zero16_real m⟩
  | n + 1 => by
    obtain ⟨r1, r2⟩ := hist_real n
    exact ⟨within_real (H := 16) (fun j => by rw [new1_at g _ _ m r1]; exact G.l1.cell_real _ r1 j) r1,
      within_real (H := 16) (fun j => by rw [new2_at g _ _ m r2]; exact G.l2.cell_real _ r2 j) r2⟩

/-- The first layer's states. -/
theorem hist1_at (hx : ∀ t, t < 512 → (fun k => x t (ix3 (0 : Fin 1) m k)) = G.x t) (n : ℕ) : col (H := 16) (hist W x n).1 m = G.s1 (min (n - 0) 512) :=
  G.l1.late G.x (fun _ => 0) 0 512 (fun n k => x n (ix3 (0 : Fin 1) m k)) (fun n => col (H := 16) (hist W x n).1 m) (funext fun _ => Ideal.ofBits_zero_f32)
    (fun n => (col_within (H := 16) 0 512 n _ _ m).trans (by rw [new1_at g _ _ m (hist_real g x m n).1]))
    (fun t ht => (congrArg (fun n => fun k => x n (ix3 (0 : Fin 1) m k)) (Nat.zero_add t)).trans (hx t ht)) n

/-- The second layer's states. -/
theorem hist2_at (hx : ∀ t, t < 512 → (fun k => x t (ix3 (0 : Fin 1) m k)) = G.x t) (n : ℕ) : col (H := 16) (hist W x n).2 m = G.s2 (min (n - 1) 512) :=
  G.l2.late (fun t => G.s1 (t + 1)) (fun _ => 0) 1 512 (fun n => col (H := 16) (hist W x n).1 m) (fun n => col (H := 16) (hist W x n).2 m) (funext fun _ => Ideal.ofBits_zero_f32)
    (fun n => (col_within (H := 16) 1 513 n _ _ m).trans (by rw [new2_at g _ _ m (hist_real g x m n).2]))
    (fun t ht => (hist1_at g x m hx (1 + t)).trans (congrArg G.s1 (by omega))) n

/-- The second layer's output at the times it moves. -/
theorem yAt_at (hx : ∀ t, t < 512 → (fun k => x t (ix3 (0 : Fin 1) m k)) = G.x t) (n : ℕ) (h1 : 1 ≤ n) (h2 : n ≤ 512) : col (H := 16) (yAt W x n) m = G.s2 n := by
  unfold yAt
  rw [new2_at g _ _ m (hist_real g x m n).2, hist1_at g x m hx n, hist2_at g x m hx n]
  obtain ⟨k, rfl⟩ : ∃ k, n = k + 1 := ⟨n - 1, by omega⟩
  rw [show min (k + 1 - 0) 512 = k + 1 by omega, show min (k + 1 - 1) 512 = k by omega]
  rfl

end Compress

section Decode
variable {W : WD Ideal} {G : Stack} (g : GoodD W G) (y : ℕ → FVec Ideal S1x16x256 .bf16) (h : Hid Ideal) (m : Fin 256)

/-- The states at the start: the first two layers' last states, then zeros. -/
structure Start (G : Stack) (h : Hid Ideal) (m : Fin 256) : Prop where
  h3 : col (H := 16) h.1 m = G.s1 512
  h4 : col (H := 16) h.2.1 m = G.s2 512
  h5 : col (H := 64) h.2.2.1 m = fun _ => 0
  h6 : col (H := 64) h.2.2.2.1 m = fun _ => 0
  h7 : col (H := 64) h.2.2.2.2 m = fun _ => 0

variable (s : Start G h m)
include g s

/-- The other layers' states are real. -/
theorem histD_real : ∀ n, (∀ j, Real' (col (H := 16) (histD W y h n).1 m j)) ∧ (∀ j, Real' (col (H := 16) (histD W y h n).2.1 m j)) ∧ (∀ j, Real' (col (H := 64) (histD W y h n).2.2.1 m j)) ∧ (∀ j, Real' (col (H := 64) (histD W y h n).2.2.2.1 m j)) ∧ (∀ j, Real' (col (H := 64) (histD W y h n).2.2.2.2 m j))
  | 0 => ⟨fun j => by rw [show histD W y h 0 = h from rfl, s.h3]; exact G.s1_real 512 j, fun j => by rw [show histD W y h 0 = h from rfl, s.h4]; exact G.s2_real 512 j,
      fun j => by rw [show histD W y h 0 = h from rfl, s.h5]; exact Stack.zero_real j, fun j => by rw [show histD W y h 0 = h from rfl, s.h6]; exact Stack.zero_real j,
      fun j => by rw [show histD W y h 0 = h from rfl, s.h7]; exact Stack.zero_real j⟩
  | n + 1 => by
    obtain ⟨r3, r4, r5, r6, r7⟩ := histD_real n
    exact ⟨within_real (H := 16) (fun j => by rw [new3_at g _ _ m r3]; exact G.l3.cell_real _ r3 j) r3,
      within_real (H := 16) (fun j => by rw [new4_at g _ _ m r4]; exact G.l4.cell_real _ r4 j) r4,
      within_real (H := 64) (fun j => by rw [new5_at g _ _ m r5]; exact G.l5.cell_real _ r5 j) r5,
      within_real (H := 64) (fun j => by rw [new6_at g _ _ m r6]; exact G.l6.cell_real _ r6 j) r6,
      within_real (H := 64) (fun j => by rw [new7_at g _ _ m r7]; exact G.l7.cell_real _ r7 j) r7⟩

variable (hy : ∀ t, t < 512 → (fun k => y (1 + t) (ix3 (0 : Fin 1) k m)) = G.s2 (t + 1))
include hy

/-- Layer 3's states. -/
theorem histD3_at (n : ℕ) : col (H := 16) (histD W y h n).1 m = G.s3 (min (n - 1) 512) :=
  G.l3.late (fun t => G.s2 (t + 1)) (G.s1 512) 1 512 (fun n k => y n (ix3 (0 : Fin 1) k m)) (fun n => col (H := 16) (histD W y h n).1 m) s.h3
    (fun n => (col_within (H := 16) 1 513 n _ _ m).trans (by rw [new3_at g _ _ m (histD_real g y h m s n).1]))
    (hy) n

/-- Layer 4's states. -/
theorem histD4_at (n : ℕ) : col (H := 16) (histD W y h n).2.1 m = G.s4 (min (n - 2) 512) :=
  G.l4.late (fun t => G.s3 (t + 1)) (G.s2 512) 2 512 (fun n => col (H := 16) (histD W y h n).1 m) (fun n => col (H := 16) (histD W y h n).2.1 m) s.h4
    (fun n => (col_within (H := 16) 2 514 n _ _ m).trans (by rw [new4_at g _ _ m (histD_real g y h m s n).2.1]))
    (fun t ht => (histD3_at g y h m s hy (2 + t)).trans (congrArg G.s3 (by omega))) n

/-- Layer 5's states. -/
theorem histD5_at (n : ℕ) : col (H := 64) (histD W y h n).2.2.1 m = G.s5 (min (n - 3) 512) :=
  G.l5.late (fun t => G.s4 (t + 1)) (fun _ => 0) 3 512 (fun n => col (H := 16) (histD W y h n).2.1 m) (fun n => col (H := 64) (histD W y h n).2.2.1 m) s.h5
    (fun n => (col_within (H := 64) 3 515 n _ _ m).trans (by rw [new5_at g _ _ m (histD_real g y h m s n).2.2.1]))
    (fun t ht => (histD4_at g y h m s hy (3 + t)).trans (congrArg G.s4 (by omega))) n

/-- Layer 6's states. -/
theorem histD6_at (n : ℕ) : col (H := 64) (histD W y h n).2.2.2.1 m = G.s6 (min (n - 4) 512) :=
  G.l6.late (fun t => G.s5 (t + 1)) (fun _ => 0) 4 512 (fun n => col (H := 64) (histD W y h n).2.2.1 m) (fun n => col (H := 64) (histD W y h n).2.2.2.1 m) s.h6
    (fun n => (col_within (H := 64) 4 516 n _ _ m).trans (by rw [new6_at g _ _ m (histD_real g y h m s n).2.2.2.1]))
    (fun t ht => (histD5_at g y h m s hy (4 + t)).trans (congrArg G.s5 (by omega))) n

/-- Layer 7's states. -/
theorem histD7_at (n : ℕ) : col (H := 64) (histD W y h n).2.2.2.2 m = G.s7 (min (n - 5) 512) :=
  G.l7.late (fun t => G.s6 (t + 1)) (fun _ => 0) 5 512 (fun n => col (H := 64) (histD W y h n).2.2.2.1 m) (fun n => col (H := 64) (histD W y h n).2.2.2.2 m) s.h7
    (fun n => (col_within (H := 64) 5 517 n _ _ m).trans (by rw [new7_at g _ _ m (histD_real g y h m s n).2.2.2.2]))
    (fun t ht => (histD6_at g y h m s hy (5 + t)).trans (congrArg G.s6 (by omega))) n

end Decode

end Cert.KernelIdeal.Gru

end
-- ==== Proof.KernBlocks.lean ====
/- The kernels' blocks and arrays, at an entry. -/
module

public import proofs.«01_k».proof.Proof.KernHist
public import proofs.«01_k».proof.Proof.Run
public import Idealize.ShloMosaic.Lib.Pipeline.ValueKit.Geometry

@[expose] public section

set_option maxRecDepth 16384

noncomputable section

namespace Cert.KernelIdeal.Gru

open Idealize.ShloMosaic hiding ix1 ix2 ix3
open Idealize.ShloMosaic.ValueIdx Idealize.ShloMosaic.Pipeline
open Idealize.ShloMosaic.TcCoe
open Cert.Gru

variable (V : Vals Ideal) (c : Dev nD)

/-- Blocks that are their arrays. -/
theorem whole0_1 : (blk0 V c 1 first0 : FVec Ideal S48x300 .bf16) = V c (Proc.devRef .tc main_v0) := by
  funext y
  have e : win0_1.index first0 = ![0, 0] := by decide +kernel
  show (V c (Proc.devRef .tc main_v0)) ((win0_1.blk first0).view.emb y) = V c (Proc.devRef .tc main_v0) y
  congr 1
  blk_ext [e]
theorem whole0_2 : (blk0 V c 2 first0 : FVec Ideal S64x256 .f32) = V c (Proc.devRef .tc main_v8) := by
  funext y
  have e : win0_2.index first0 = ![0, 0] := by decide +kernel
  show (V c (Proc.devRef .tc main_v8)) ((win0_2.blk first0).view.emb y) = V c (Proc.devRef .tc main_v8) y
  congr 1
  blk_ext [e]
theorem whole0_3 : (blk0 V c 3 first0 : FVec Ideal S48x16 .bf16) = V c (Proc.devRef .tc main_v9) := by
  funext y
  have e : win0_3.index first0 = ![0, 0] := by decide +kernel
  show (V c (Proc.devRef .tc main_v9)) ((win0_3.blk first0).view.emb y) = V c (Proc.devRef .tc main_v9) y
  congr 1
  blk_ext [e]
theorem whole0_4 : (blk0 V c 4 first0 : FVec Ideal S48x16 .bf16) = V c (Proc.devRef .tc main_v10) := by
  funext y
  have e : win0_4.index first0 = ![0, 0] := by decide +kernel
  show (V c (Proc.devRef .tc main_v10)) ((win0_4.blk first0).view.emb y) = V c (Proc.devRef .tc main_v10) y
  congr 1
  blk_ext [e]
theorem whole0_5 : (blk0 V c 5 first0 : FVec Ideal S64x256 .f32) = V c (Proc.devRef .tc main_v18) := by
  funext y
  have e : win0_5.index first0 = ![0, 0] := by decide +kernel
  show (V c (Proc.devRef .tc main_v18)) ((win0_5.blk first0).view.emb y) = V c (Proc.devRef .tc main_v18) y
  congr 1
  blk_ext [e]
theorem whole0_6 : (blk0 V c 6 first0 : FVec Ideal S48x16 .bf16) = V c (Proc.devRef .tc main_v19) := by
  funext y
  have e : win0_6.index first0 = ![0, 0] := by decide +kernel
  show (V c (Proc.devRef .tc main_v19)) ((win0_6.blk first0).view.emb y) = V c (Proc.devRef .tc main_v19) y
  congr 1
  blk_ext [e]
theorem whole1_1 : (blk1 V c 1 first1 : FVec Ideal S16x256 .f32) = V c (Proc.devRef .tc main_v20_1) := by
  funext y
  have e : win1_1.index first1 = ![0, 0] := by decide +kernel
  show (V c (Proc.devRef .tc main_v20_1)) ((win1_1.blk first1).view.emb y) = V c (Proc.devRef .tc main_v20_1) y
  congr 1
  blk_ext [e]
theorem whole1_2 : (blk1 V c 2 first1 : FVec Ideal S16x256 .f32) = V c (Proc.devRef .tc main_v20_2) := by
  funext y
  have e : win1_2.index first1 = ![0, 0] := by decide +kernel
  show (V c (Proc.devRef .tc main_v20_2)) ((win1_2.blk first1).view.emb y) = V c (Proc.devRef .tc main_v20_2) y
  congr 1
  blk_ext [e]
theorem whole1_3 : (blk1 V c 3 first1 : FVec Ideal S48x16 .bf16) = V c (Proc.devRef .tc main_v21) := by
  funext y
  have e : win1_3.index first1 = ![0, 0] := by decide +kernel
  show (V c (Proc.devRef .tc main_v21)) ((win1_3.blk first1).view.emb y) = V c (Proc.devRef .tc main_v21) y
  congr 1
  blk_ext [e]
theorem whole1_4 : (blk1 V c 4 first1 : FVec Ideal S64x256 .f32) = V c (Proc.devRef .tc main_v29) := by
  funext y
  have e : win1_4.index first1 = ![0, 0] := by decide +kernel
  show (V c (Proc.devRef .tc main_v29)) ((win1_4.blk first1).view.emb y) = V c (Proc.devRef .tc main_v29) y
  congr 1
  blk_ext [e]
theorem whole1_5 : (blk1 V c 5 first1 : FVec Ideal S48x16 .bf16) = V c (Proc.devRef .tc main_v30) := by
  funext y
  have e : win1_5.index first1 = ![0, 0] := by decide +kernel
  show (V c (Proc.devRef .tc main_v30)) ((win1_5.blk first1).view.emb y) = V c (Proc.devRef .tc main_v30) y
  congr 1
  blk_ext [e]
theorem whole1_6 : (blk1 V c 6 first1 : FVec Ideal S48x16 .bf16) = V c (Proc.devRef .tc main_v31) := by
  funext y
  have e : win1_6.index first1 = ![0, 0] := by decide +kernel
  show (V c (Proc.devRef .tc main_v31)) ((win1_6.blk first1).view.emb y) = V c (Proc.devRef .tc main_v31) y
  congr 1
  blk_ext [e]
theorem whole1_7 : (blk1 V c 7 first1 : FVec Ideal S64x256 .f32) = V c (Proc.devRef .tc main_v39) := by
  funext y
  have e : win1_7.index first1 = ![0, 0] := by decide +kernel
  show (V c (Proc.devRef .tc main_v39)) ((win1_7.blk first1).view.emb y) = V c (Proc.devRef .tc main_v39) y
  congr 1
  blk_ext [e]
theorem whole1_8 : (blk1 V c 8 first1 : FVec Ideal S48x16 .bf16) = V c (Proc.devRef .tc main_v40) := by
  funext y
  have e : win1_8.index first1 = ![0, 0] := by decide +kernel
  show (V c (Proc.devRef .tc main_v40)) ((win1_8.blk first1).view.emb y) = V c (Proc.devRef .tc main_v40) y
  congr 1
  blk_ext [e]
theorem whole1_9 : (blk1 V c 9 first1 : FVec Ideal S192x16 .bf16) = V c (Proc.devRef .tc main_v41) := by
  funext y
  have e : win1_9.index first1 = ![0, 0] := by decide +kernel
  show (V c (Proc.devRef .tc main_v41)) ((win1_9.blk first1).view.emb y) = V c (Proc.devRef .tc main_v41) y
  congr 1
  blk_ext [e]
theorem whole1_10 : (blk1 V c 10 first1 : FVec Ideal S256x256 .f32) = V c (Proc.devRef .tc main_v49) := by
  funext y
  have e : win1_10.index first1 = ![0, 0] := by decide +kernel
  show (V c (Proc.devRef .tc main_v49)) ((win1_10.blk first1).view.emb y) = V c (Proc.devRef .tc main_v49) y
  congr 1
  blk_ext [e]
theorem whole1_11 : (blk1 V c 11 first1 : FVec Ideal S192x64 .bf16) = V c (Proc.devRef .tc main_v50) := by
  funext y
  have e : win1_11.index first1 = ![0, 0] := by decide +kernel
  show (V c (Proc.devRef .tc main_v50)) ((win1_11.blk first1).view.emb y) = V c (Proc.devRef .tc main_v50) y
  congr 1
  blk_ext [e]
theorem whole1_12 : (blk1 V c 12 first1 : FVec Ideal S192x64 .bf16) = V c (Proc.devRef .tc main_v51) := by
  funext y
  have e : win1_12.index first1 = ![0, 0] := by decide +kernel
  show (V c (Proc.devRef .tc main_v51)) ((win1_12.blk first1).view.emb y) = V c (Proc.devRef .tc main_v51) y
  congr 1
  blk_ext [e]
theorem whole1_13 : (blk1 V c 13 first1 : FVec Ideal S256x256 .f32) = V c (Proc.devRef .tc main_v59) := by
  funext y
  have e : win1_13.index first1 = ![0, 0] := by decide +kernel
  show (V c (Proc.devRef .tc main_v59)) ((win1_13.blk first1).view.emb y) = V c (Proc.devRef .tc main_v59) y
  congr 1
  blk_ext [e]
theorem whole1_14 : (blk1 V c 14 first1 : FVec Ideal S192x64 .bf16) = V c (Proc.devRef .tc main_v60) := by
  funext y
  have e : win1_14.index first1 = ![0, 0] := by decide +kernel
  show (V c (Proc.devRef .tc main_v60)) ((win1_14.blk first1).view.emb y) = V c (Proc.devRef .tc main_v60) y
  congr 1
  blk_ext [e]
theorem whole1_15 : (blk1 V c 15 first1 : FVec Ideal S192x64 .bf16) = V c (Proc.devRef .tc main_v61) := by
  funext y
  have e : win1_15.index first1 = ![0, 0] := by decide +kernel
  show (V c (Proc.devRef .tc main_v61)) ((win1_15.blk first1).view.emb y) = V c (Proc.devRef .tc main_v61) y
  congr 1
  blk_ext [e]
theorem whole1_16 : (blk1 V c 16 first1 : FVec Ideal S256x256 .f32) = V c (Proc.devRef .tc main_v69) := by
  funext y
  have e : win1_16.index first1 = ![0, 0] := by decide +kernel
  show (V c (Proc.devRef .tc main_v69)) ((win1_16.blk first1).view.emb y) = V c (Proc.devRef .tc main_v69) y
  congr 1
  blk_ext [e]
theorem whole1_17 : (blk1 V c 17 first1 : FVec Ideal S192x64 .bf16) = V c (Proc.devRef .tc main_v70) := by
  funext y
  have e : win1_17.index first1 = ![0, 0] := by decide +kernel
  show (V c (Proc.devRef .tc main_v70)) ((win1_17.blk first1).view.emb y) = V c (Proc.devRef .tc main_v70) y
  congr 1
  blk_ext [e]

/-- A place in a block of inputs. -/
theorem blkX (t : Fin cfg0.N) (ht : t.val < 16) (d : ℕ) (hd : d < 32) (m : Fin 256) (k : Fin 300) :
    (blk0 V c 0 t : FVec Ideal S32x256x300 .f32) (ix3 (⟨d, hd⟩ : Fin 32) m k)
      = (V c (Proc.devRef .tc main_arg0) : FVec Ideal S512x256x300 .f32) (ix3 (⟨32 * t.val + d, by omega⟩ : Fin 512) m k) := by
  have e : ∀ t : Fin cfg0.N, t.val < 16 → win0_0.index t = ![t.val, 0, 0] := (by decide +kernel : ∀ t : Fin grid0.N, t.val < 16 → win0_0.index t = ![t.val, 0, 0])
  show (V c (Proc.devRef .tc main_arg0)) ((win0_0.blk t).view.emb (ix3 (⟨d, hd⟩ : Fin 32) m k)) = _
  refine congrArg (V c (Proc.devRef .tc main_arg0) : FVec Ideal S512x256x300 .f32) ?_
  funext a
  apply Fin.ext
  blk_simp [e t ht]
  fin_cases a
  · show t.val * 32 + d = 32 * t.val + d
    omega
  · show 0 * 256 + m.val = m.val
    omega
  · show 0 * 300 + k.val = k.val
    omega

/-- A row of a block is a row of the array. -/
theorem x0_at (n : ℕ) (hn : n < 512) (m : Fin 256) (k : Fin 300) :
    x0 V c n (ix3 (0 : Fin 1) m k) = (V c (Proc.devRef .tc main_arg0) : FVec Ideal S512x256x300 .f32) (ix3 (⟨n, hn⟩ : Fin 512) m k) := by
  unfold x0 rowX VecWindow.window
  have h := blkX V c ⟨n / 32 % 17, by rw [N0]; omega⟩ (show n / 32 % 17 < 16 by omega) (n % 32) (by omega) m k
  refine Eq.trans (congrArg (blk0 V c 0 ⟨n / 32 % 17, by rw [N0]; omega⟩ : FVec Ideal S32x256x300 .f32) ?_) (h.trans (congrArg _ ?_))
  · funext a
    apply Fin.ext
    match a with
    | ⟨0, _⟩ => show n % 32 + 1 * 0 = n % 32; omega
    | ⟨1, _⟩ => show 0 + 1 * m.val = m.val; omega
    | ⟨2, _⟩ => show 0 + 1 * k.val = k.val; omega
  · have hq : (⟨32 * (n / 32 % 17) + n % 32, by omega⟩ : Fin 512) = ⟨n, hn⟩ := Fin.ext (by show 32 * (n / 32 % 17) + n % 32 = n; omega)
    exact congrArg (fun z : Fin 512 => ix3 z m k) hq

/-- A row of outputs at an entry. -/
theorem rowY_at (h : FVec Ideal S16x256 .f32) (j : Fin 16) (m : Fin 256) : rowY h (ix3 (0 : Fin 1) j m) = h (ix2 j m) := by
  unfold rowY
  exact shapeCast_apply _ _ (ix3 (0 : Fin 1) j m) (ix2 j m) (by
    rw [Shape.rowMajor_val_two, Shape.rowMajor_val_three]
    show j.val * 256 + m.val = (0 * 16 + j.val) * 256 + m.val
    omega)

/-- The outputs of the compress kernel. -/
def outsY : FVec Ideal S544x16x256 .bf16 := fun i => yAt (W0 V c) (x0 V c) (i 0).val (ix2 (i 1 : Fin 16) (i 2 : Fin 256))

theorem arr_y : (dat0 V c).arrAt 7 cfg0.N = outsY V c := by
  have e : ∀ t : Fin cfg0.N, win0_7.index t = ![t.val, 0, 0] := (by decide +kernel : ∀ t : Fin grid0.N, win0_7.index t = ![t.val, 0, 0])
  refine (dat0 V c).arrAt_eq_of_covers 7 _ (by decide +kernel) fun t hf y => ?_
  show rowY (yAt (W0 V c) (x0 V c) (32 * t.val + (y 0).val)) (rowIdx y) = outsY V c ((win0_7.blk t).view.emb y)
  have hr : rowIdx y = ix3 (0 : Fin 1) (y 1 : Fin 16) (y 2 : Fin 256) := by
    funext a
    match a with
    | ⟨0, _⟩ => rfl
    | ⟨1, _⟩ => rfl
    | ⟨2, _⟩ => rfl
  rw [hr]
  refine (rowY_at _ (y 1) (y 2)).trans ?_
  unfold outsY
  have h0 : ((win0_7.blk t).view.emb y 0).val = 32 * t.val + (y 0).val := by
    blk_simp [e]
    show t.val * 32 + (y 0).val = _
    omega
  have h1 : ((win0_7.blk t).view.emb y 1 : Fin 16) = y 1 := by
    apply Fin.ext
    blk_simp [e]
  have h2 : ((win0_7.blk t).view.emb y 2 : Fin 256) = y 2 := by
    apply Fin.ext
    blk_simp [e]
  rw [h0, h1, h2]

/-- An array written once, as a whole, holds what its window held then. -/
theorem fill_h1 (t : Fin cfg0.N) (h : (cfg0.win 8).WholeAt t) (G : FVec Ideal S16x256 .f32) (hG : (dat0 V c).after 8 t = G) :
    (dat0 V c).arrAt 8 cfg0.N = G :=
  (dat0 V c).arrAt_eq_of_after_last 8 t h G fun j => congrFun hG j

theorem after_h1 (t : Fin cfg0.N) : (dat0 V c).after 8 t = (hist0 V c (32 * (t.val + 1))).1 := rfl

theorem arr_h1 : (dat0 V c).arrAt 8 cfg0.N = (hist0 V c (32 * (16 + 1))).1 :=
  fill_h1 V c ⟨16, by rw [N0]; decide⟩ (by decide +kernel) _ (after_h1 V c ⟨16, by rw [N0]; decide⟩)

theorem fill_h2 (t : Fin cfg0.N) (h : (cfg0.win 9).WholeAt t) (G : FVec Ideal S16x256 .f32) (hG : (dat0 V c).after 9 t = G) :
    (dat0 V c).arrAt 9 cfg0.N = G :=
  (dat0 V c).arrAt_eq_of_after_last 9 t h G fun j => congrFun hG j

theorem after_h2 (t : Fin cfg0.N) : (dat0 V c).after 9 t = (hist0 V c (32 * (t.val + 1))).2 := rfl

theorem arr_h2 : (dat0 V c).arrAt 9 cfg0.N = (hist0 V c (32 * (16 + 1))).2 :=
  fill_h2 V c ⟨16, by rw [N0]; decide⟩ (by decide +kernel) _ (after_h2 V c ⟨16, by rw [N0]; decide⟩)

theorem fill_out (t : Fin cfg1.N) (h : (cfg1.win 18).WholeAt t) (G : FVec Ideal S128x256 .f32) (hG : (dat1 V c).after 18 t = G) :
    (dat1 V c).arrAt 18 cfg1.N = G :=
  (dat1 V c).arrAt_eq_of_after_last 18 t h G fun j => congrFun hG j

theorem after_out (t : Fin cfg1.N) : (dat1 V c).after 18 t = outD (hist1 V c (16 * (t.val + 1))) := rfl

theorem arr_out : (dat1 V c).arrAt 18 cfg1.N = outD (hist1 V c (16 * (32 + 1))) :=
  fill_out V c ⟨32, by rw [N1]; decide⟩ (by decide +kernel) _ (after_out V c ⟨32, by rw [N1]; decide⟩)

/-- A place in a block of the decode kernel's inputs. -/
theorem blkY (t : Fin cfg1.N) (d : ℕ) (hd : d < 16) (j : Fin 16) (m : Fin 256) :
    (blk1 V c 0 t : FVec Ideal S16x16x256 .bf16) (ix3 (⟨d, hd⟩ : Fin 16) j m)
      = (V c (Proc.devRef .tc main_v20_0) : FVec Ideal S544x16x256 .bf16) (ix3 (⟨16 * t.val + d, by have : t.val < 33 := N1 ▸ t.isLt; omega⟩ : Fin 544) j m) := by
  have e : ∀ t : Fin cfg1.N, win1_0.index t = ![t.val, 0, 0] := (by decide +kernel : ∀ t : Fin grid1.N, win1_0.index t = ![t.val, 0, 0])
  show (V c (Proc.devRef .tc main_v20_0)) ((win1_0.blk t).view.emb (ix3 (⟨d, hd⟩ : Fin 16) j m)) = _
  refine congrArg (V c (Proc.devRef .tc main_v20_0) : FVec Ideal S544x16x256 .bf16) ?_
  funext a
  apply Fin.ext
  blk_simp [e t]
  fin_cases a
  · show t.val * 16 + d = 16 * t.val + d
    omega
  · show 0 * 16 + j.val = j.val
    omega
  · show 0 * 256 + m.val = m.val
    omega

/-- The decode kernel's input at a time. -/
theorem y1_at (n : ℕ) (hn : n < 528) (j : Fin 16) (m : Fin 256) :
    y1 V c n (ix3 (0 : Fin 1) j m) = (V c (Proc.devRef .tc main_v20_0) : FVec Ideal S544x16x256 .bf16) (ix3 (⟨n, by omega⟩ : Fin 544) j m) := by
  unfold y1 rowD VecWindow.window
  have h := blkY V c ⟨n / 16 % 33, by rw [N1]; omega⟩ (n % 16) (by omega) j m
  refine Eq.trans (congrArg (blk1 V c 0 ⟨n / 16 % 33, by rw [N1]; omega⟩ : FVec Ideal S16x16x256 .bf16) ?_) (h.trans (congrArg _ ?_))
  · funext a
    apply Fin.ext
    match a with
    | ⟨0, _⟩ => show n % 16 + 1 * 0 = n % 16; omega
    | ⟨1, _⟩ => show 0 + 1 * j.val = j.val; omega
    | ⟨2, _⟩ => show 0 + 1 * m.val = m.val; omega
  · have hq : (⟨16 * (n / 16 % 33) + n % 16, by omega⟩ : Fin 544) = ⟨n, by omega⟩ := Fin.ext (by show 16 * (n / 16 % 33) + n % 16 = n; omega)
    exact congrArg (fun z : Fin 544 => ix3 z j m) hq

end Cert.KernelIdeal.Gru

end
-- ==== Proof.KernPack.lean ====
/- The biases packed for the kernel, at an entry. -/
module

public import proofs.«01_k».proof.Proof.KernCell

@[expose] public section

set_option maxRecDepth 16384

noncomputable section

namespace Cert.KernelIdeal.Gru

open Idealize.ShloMosaic hiding ix1 ix2 ix3
open Idealize.ShloMosaic.ValueIdx Idealize.ShloMosaic.Pipeline
open Idealize.ShloMosaic.TcCoe
open Cert.Gru

variable [Facts]
open Facts₀ Facts

/-- The three pieces of the packed biases. -/
def pieces16 (p q : FVec Ideal S48 .f32) : FVec Ideal S64 .f32 :=
  concatenate S64 0 [⟨S32, addf (extractStridedSlice S32 ![0] p slices_S48_S32_0) (extractStridedSlice S32 ![0] q slices_S48_S32_0)⟩,
    ⟨S16, extractStridedSlice S16 ![32] p slices_S48_S16_32⟩, ⟨S16, extractStridedSlice S16 ![32] q slices_S48_S16_32⟩] concatenates_S32_S16_S16_S64_d0

/-- The packed biases. -/
def pack16 (p q : FVec Ideal S48 .f32) : FVec Ideal S64x256 .f32 :=
  broadcastInDim S64x256 ![0, 1] bcast_S64x1_S64x256_0_1 (shapeCast S64x1 (pieces16 p q) shapeCasts_S64_S64x1)

theorem pack16_at (p q : FVec Ideal S48 .f32) (r : Fin 64) (m : Fin 256) : pack16 p q (ix2 r m) = pieces16 p q (ix1 r) := by
  unfold pack16
  rw [broadcastInDim_apply _ _ _ (ix2 r m) (ix2 r (0 : Fin 1)) (fun a => by
    fin_cases a
    · rfl
    · rfl)]
  exact shapeCast_apply _ _ (ix2 r (0 : Fin 1)) (ix1 r) (by
    rw [Shape.rowMajor_val_one, Shape.rowMajor_val_two]
    show r.val = r.val * 1 + 0
    omega)

/-- The first piece: sums. -/
theorem pieces16_sum (p q : FVec Ideal S48 .f32) (r : Fin 64) (k : Fin 48) (hr : r.val < 32) (hk : k.val = r.val) :
    pieces16 p q (ix1 r) = (p (ix1 k) + q (ix1 k) : EReal) := by
  unfold pieces16
  refine Eq.trans (concatenate_apply_piece 0 _ _ (ix1 r) 0 (by show 0 < 3; decide) S32 _ rfl rfl 0 rfl (ix1 (⟨r.val, hr⟩ : Fin 32)) (fun b hb => absurd (Subsingleton.elim _ _) hb) (Nat.zero_add _)) ?_
  rw [addf_apply,
    extractStridedSlice_apply _ _ _ _ (ix1 k) (fun a => by fin_cases a; exact hk.trans (Nat.zero_add _).symm),
    extractStridedSlice_apply _ _ _ _ (ix1 k) (fun a => by fin_cases a; exact hk.trans (Nat.zero_add _).symm)]

/-- The second piece. -/
theorem pieces16_input (p q : FVec Ideal S48 .f32) (j : Fin 16) (r : Fin 64) (k : Fin 48) (hr : r.val = 32 + j.val) (hk : k.val = 32 + j.val) :
    pieces16 p q (ix1 r) = p (ix1 k) := by
  unfold pieces16
  refine Eq.trans (concatenate_apply_piece 0 _ _ (ix1 r) 1 (by show 1 < 3; decide) S16 _ rfl rfl 32 rfl (ix1 j) (fun b hb => absurd (Subsingleton.elim _ _) hb) hr.symm) ?_
  exact extractStridedSlice_apply _ _ _ _ (ix1 k) (fun a => by fin_cases a; exact hk)

/-- The third piece. -/
theorem pieces16_state (p q : FVec Ideal S48 .f32) (j : Fin 16) (r : Fin 64) (k : Fin 48) (hr : r.val = 48 + j.val) (hk : k.val = 32 + j.val) :
    pieces16 p q (ix1 r) = q (ix1 k) := by
  unfold pieces16
  refine Eq.trans (concatenate_apply_piece 0 _ _ (ix1 r) 2 (by show 2 < 3; decide) S16 _ rfl rfl 48 rfl (ix1 j) (fun b hb => absurd (Subsingleton.elim _ _) hb) hr.symm) ?_
  exact extractStridedSlice_apply _ _ _ _ (ix1 k) (fun a => by fin_cases a; exact hk)

/-- The packed biases are the layer's. -/
theorem packed16 {k : ℕ} (L : Layer k 16) (p q : FVec Ideal S48 .f32) (hp : ∀ a j, L.p a j = p (ix1 (rows fits16 a j))) (hq : ∀ a j, L.q a j = q (ix1 (rows fits16 a j))) :
    Packed16 (pack16 p q) L where
  reset j m := by
    rw [pack16_at, hp, hq]
    exact pieces16_sum p q _ _ (show 0 * 16 + j.val < 32 by omega) rfl
  update j m := by
    rw [pack16_at, hp, hq]
    exact pieces16_sum p q _ _ (show 1 * 16 + j.val < 32 by omega) rfl
  input j m := by
    rw [pack16_at, hp]
    exact pieces16_input p q j _ _ (show 2 * 16 + j.val = 32 + j.val by omega) (show 2 * 16 + j.val = 32 + j.val by omega)
  state j m := by
    rw [pack16_at, hq]
    exact pieces16_state p q j _ _ (show 3 * 16 + j.val = 48 + j.val by omega) (show 2 * 16 + j.val = 32 + j.val by omega)

/-- The three pieces of the packed biases. -/
def pieces64 (p q : FVec Ideal S192 .f32) : FVec Ideal S256 .f32 :=
  concatenate S256 0 [⟨S128, addf (extractStridedSlice S128 ![0] p slices_S192_S128_0) (extractStridedSlice S128 ![0] q slices_S192_S128_0)⟩,
    ⟨S64, extractStridedSlice S64 ![128] p slices_S192_S64_128⟩, ⟨S64, extractStridedSlice S64 ![128] q slices_S192_S64_128⟩] concatenates_S128_S64_S64_S256_d0

/-- The packed biases. -/
def pack64 (p q : FVec Ideal S192 .f32) : FVec Ideal S256x256 .f32 :=
  broadcastInDim S256x256 ![0, 1] bcast_S256x1_S256x256_0_1 (shapeCast S256x1 (pieces64 p q) shapeCasts_S256_S256x1)

theorem pack64_at (p q : FVec Ideal S192 .f32) (r : Fin 256) (m : Fin 256) : pack64 p q (ix2 r m) = pieces64 p q (ix1 r) := by
  unfold pack64
  rw [broadcastInDim_apply _ _ _ (ix2 r m) (ix2 r (0 : Fin 1)) (fun a => by
    fin_cases a
    · rfl
    · rfl)]
  exact shapeCast_apply _ _ (ix2 r (0 : Fin 1)) (ix1 r) (by
    rw [Shape.rowMajor_val_one, Shape.rowMajor_val_two]
    show r.val = r.val * 1 + 0
    omega)

/-- The first piece: sums. -/
theorem pieces64_sum (p q : FVec Ideal S192 .f32) (r : Fin 256) (k : Fin 192) (hr : r.val < 128) (hk : k.val = r.val) :
    pieces64 p q (ix1 r) = (p (ix1 k) + q (ix1 k) : EReal) := by
  unfold pieces64
  refine Eq.trans (concatenate_apply_piece 0 _ _ (ix1 r) 0 (by show 0 < 3; decide) S128 _ rfl rfl 0 rfl (ix1 (⟨r.val, hr⟩ : Fin 128)) (fun b hb => absurd (Subsingleton.elim _ _) hb) (Nat.zero_add _)) ?_
  rw [addf_apply,
    extractStridedSlice_apply _ _ _ _ (ix1 k) (fun a => by fin_cases a; exact hk.trans (Nat.zero_add _).symm),
    extractStridedSlice_apply _ _ _ _ (ix1 k) (fun a => by fin_cases a; exact hk.trans (Nat.zero_add _).symm)]

/-- The second piece. -/
theorem pieces64_input (p q : FVec Ideal S192 .f32) (j : Fin 64) (r : Fin 256) (k : Fin 192) (hr : r.val = 128 + j.val) (hk : k.val = 128 + j.val) :
    pieces64 p q (ix1 r) = p (ix1 k) := by
  unfold pieces64
  refine Eq.trans (concatenate_apply_piece 0 _ _ (ix1 r) 1 (by show 1 < 3; decide) S64 _ rfl rfl 128 rfl (ix1 j) (fun b hb => absurd (Subsingleton.elim _ _) hb) hr.symm) ?_
  exact extractStridedSlice_apply _ _ _ _ (ix1 k) (fun a => by fin_cases a; exact hk)

/-- The third piece. -/
theorem pieces64_state (p q : FVec Ideal S192 .f32) (j : Fin 64) (r : Fin 256) (k : Fin 192) (hr : r.val = 192 + j.val) (hk : k.val = 128 + j.val) :
    pieces64 p q (ix1 r) = q (ix1 k) := by
  unfold pieces64
  refine Eq.trans (concatenate_apply_piece 0 _ _ (ix1 r) 2 (by show 2 < 3; decide) S64 _ rfl rfl 192 rfl (ix1 j) (fun b hb => absurd (Subsingleton.elim _ _) hb) hr.symm) ?_
  exact extractStridedSlice_apply _ _ _ _ (ix1 k) (fun a => by fin_cases a; exact hk)

/-- The packed biases are the layer's. -/
theorem packed64 {k : ℕ} (L : Layer k 64) (p q : FVec Ideal S192 .f32) (hp : ∀ a j, L.p a j = p (ix1 (rows fits64 a j))) (hq : ∀ a j, L.q a j = q (ix1 (rows fits64 a j))) :
    Packed64 (pack64 p q) L where
  reset j m := by
    rw [pack64_at, hp, hq]
    exact pieces64_sum p q _ _ (show 0 * 64 + j.val < 128 by omega) rfl
  update j m := by
    rw [pack64_at, hp, hq]
    exact pieces64_sum p q _ _ (show 1 * 64 + j.val < 128 by omega) rfl
  input j m := by
    rw [pack64_at, hp]
    exact pieces64_input p q j _ _ (show 2 * 64 + j.val = 128 + j.val by omega) (show 2 * 64 + j.val = 128 + j.val by omega)
  state j m := by
    rw [pack64_at, hq]
    exact pieces64_state p q j _ _ (show 3 * 64 + j.val = 192 + j.val by omega) (show 2 * 64 + j.val = 128 + j.val by omega)

end Cert.KernelIdeal.Gru

end
-- ==== Proof.KernHost.lean ====
/- What the operations before each kernel leave: the weights, unchanged, and the packed biases. -/
module

public import proofs.«01_k».proof.Proof.KernPack
public import proofs.«01_k».proof.Proof.Run

@[expose] public section

set_option maxRecDepth 16384

noncomputable section

namespace Cert.KernelIdeal.Gru

open Idealize.ShloMosaic hiding ix1 ix2 ix3
open Idealize.ShloMosaic.ValueIdx Idealize.ShloMosaic.Pipeline
open Idealize.ShloMosaic.TcCoe
open Cert.KernelIdeal.Gen (hostOps0 hostOps1 hostOps2)

variable (V : Valuation τ sig (Elt Ideal))

/-- Layer 1's arrays. -/
theorem ops_w1 : (StableHlo.after hostOps0 V (Proc.devRef .tc main_v0) : FVec Ideal S48x300 .bf16) = (truncf .bf16 (V (Proc.devRef .tc main_arg1) : FVec Ideal S48x300 .f32) Facts₀.bitsLt_bf16_f32 : FVec Ideal S48x300 .bf16) := by
  unfold hostOps0
  after_results
theorem ops_u1 : (StableHlo.after hostOps0 V (Proc.devRef .tc main_v9) : FVec Ideal S48x16 .bf16) = (truncf .bf16 (V (Proc.devRef .tc main_arg2) : FVec Ideal S48x16 .f32) Facts₀.bitsLt_bf16_f32 : FVec Ideal S48x16 .bf16) := by
  unfold hostOps0
  after_results
theorem ops_b1 : (StableHlo.after hostOps0 V (Proc.devRef .tc main_v8) : FVec Ideal S64x256 .f32) = pack16 (V (Proc.devRef .tc main_arg3)) (V (Proc.devRef .tc main_arg4)) := by
  unfold hostOps0 pack16 pieces16
  after_results_simp
  simp only [Matrix.cons_val_zero, Matrix.cons_val_one, Matrix.cons_val, Fin.isValue]
  rfl
/-- Layer 2's arrays. -/
theorem ops_w2 : (StableHlo.after hostOps0 V (Proc.devRef .tc main_v10) : FVec Ideal S48x16 .bf16) = (truncf .bf16 (V (Proc.devRef .tc main_arg5) : FVec Ideal S48x16 .f32) Facts₀.bitsLt_bf16_f32 : FVec Ideal S48x16 .bf16) := by
  unfold hostOps0
  after_results
theorem ops_u2 : (StableHlo.after hostOps0 V (Proc.devRef .tc main_v19) : FVec Ideal S48x16 .bf16) = (truncf .bf16 (V (Proc.devRef .tc main_arg6) : FVec Ideal S48x16 .f32) Facts₀.bitsLt_bf16_f32 : FVec Ideal S48x16 .bf16) := by
  unfold hostOps0
  after_results
theorem ops_b2 : (StableHlo.after hostOps0 V (Proc.devRef .tc main_v18) : FVec Ideal S64x256 .f32) = pack16 (V (Proc.devRef .tc main_arg7)) (V (Proc.devRef .tc main_arg8)) := by
  unfold hostOps0 pack16 pieces16
  after_results_simp
  simp only [Matrix.cons_val_zero, Matrix.cons_val_one, Matrix.cons_val, Fin.isValue]
  rfl
/-- Layer 3's arrays. -/
theorem ops_w3 : (StableHlo.after hostOps1 V (Proc.devRef .tc main_v21) : FVec Ideal S48x16 .bf16) = (truncf .bf16 (V (Proc.devRef .tc main_arg9) : FVec Ideal S48x16 .f32) Facts₀.bitsLt_bf16_f32 : FVec Ideal S48x16 .bf16) := by
  unfold hostOps1
  after_results
theorem ops_u3 : (StableHlo.after hostOps1 V (Proc.devRef .tc main_v30) : FVec Ideal S48x16 .bf16) = (truncf .bf16 (V (Proc.devRef .tc main_arg10) : FVec Ideal S48x16 .f32) Facts₀.bitsLt_bf16_f32 : FVec Ideal S48x16 .bf16) := by
  unfold hostOps1
  after_results
theorem ops_b3 : (StableHlo.after hostOps1 V (Proc.devRef .tc main_v29) : FVec Ideal S64x256 .f32) = pack16 (V (Proc.devRef .tc main_arg11)) (V (Proc.devRef .tc main_arg12)) := by
  unfold hostOps1 pack16 pieces16
  after_results_simp
  simp only [Matrix.cons_val_zero, Matrix.cons_val_one, Matrix.cons_val, Fin.isValue]
  rfl
/-- Layer 4's arrays. -/
theorem ops_w4 : (StableHlo.after hostOps1 V (Proc.devRef .tc main_v31) : FVec Ideal S48x16 .bf16) = (truncf .bf16 (V (Proc.devRef .tc main_arg13) : FVec Ideal S48x16 .f32) Facts₀.bitsLt_bf16_f32 : FVec Ideal S48x16 .bf16) := by
  unfold hostOps1
  after_results
theorem ops_u4 : (StableHlo.after hostOps1 V (Proc.devRef .tc main_v40) : FVec Ideal S48x16 .bf16) = (truncf .bf16 (V (Proc.devRef .tc main_arg14) : FVec Ideal S48x16 .f32) Facts₀.bitsLt_bf16_f32 : FVec Ideal S48x16 .bf16) := by
  unfold hostOps1
  after_results
theorem ops_b4 : (StableHlo.after hostOps1 V (Proc.devRef .tc main_v39) : FVec Ideal S64x256 .f32) = pack16 (V (Proc.devRef .tc main_arg15)) (V (Proc.devRef .tc main_arg16)) := by
  unfold hostOps1 pack16 pieces16
  after_results_simp
  simp only [Matrix.cons_val_zero, Matrix.cons_val_one, Matrix.cons_val, Fin.isValue]
  rfl
/-- Layer 5's arrays. -/
theorem ops_w5 : (StableHlo.after hostOps1 V (Proc.devRef .tc main_v41) : FVec Ideal S192x16 .bf16) = (truncf .bf16 (V (Proc.devRef .tc main_arg17) : FVec Ideal S192x16 .f32) Facts₀.bitsLt_bf16_f32 : FVec Ideal S192x16 .bf16) := by
  unfold hostOps1
  after_results
theorem ops_u5 : (StableHlo.after hostOps1 V (Proc.devRef .tc main_v50) : FVec Ideal S192x64 .bf16) = (truncf .bf16 (V (Proc.devRef .tc main_arg18) : FVec Ideal S192x64 .f32) Facts₀.bitsLt_bf16_f32 : FVec Ideal S192x64 .bf16) := by
  unfold hostOps1
  after_results
theorem ops_b5 : (StableHlo.after hostOps1 V (Proc.devRef .tc main_v49) : FVec Ideal S256x256 .f32) = pack64 (V (Proc.devRef .tc main_arg19)) (V (Proc.devRef .tc main_arg20)) := by
  unfold hostOps1 pack64 pieces64
  after_results_simp
  simp only [Matrix.cons_val_zero, Matrix.cons_val_one, Matrix.cons_val, Fin.isValue]
  rfl
/-- Layer 6's arrays. -/
theorem ops_w6 : (StableHlo.after hostOps1 V (Proc.devRef .tc main_v51) : FVec Ideal S192x64 .bf16) = (truncf .bf16 (V (Proc.devRef .tc main_arg21) : FVec Ideal S192x64 .f32) Facts₀.bitsLt_bf16_f32 : FVec Ideal S192x64 .bf16) := by
  unfold hostOps1
  after_results
theorem ops_u6 : (StableHlo.after hostOps1 V (Proc.devRef .tc main_v60) : FVec Ideal S192x64 .bf16) = (truncf .bf16 (V (Proc.devRef .tc main_arg22) : FVec Ideal S192x64 .f32) Facts₀.bitsLt_bf16_f32 : FVec Ideal S192x64 .bf16) := by
  unfold hostOps1
  after_results
theorem ops_b6 : (StableHlo.after hostOps1 V (Proc.devRef .tc main_v59) : FVec Ideal S256x256 .f32) = pack64 (V (Proc.devRef .tc main_arg23)) (V (Proc.devRef .tc main_arg24)) := by
  unfold hostOps1 pack64 pieces64
  after_results_simp
  simp only [Matrix.cons_val_zero, Matrix.cons_val_one, Matrix.cons_val, Fin.isValue]
  rfl
/-- Layer 7's arrays. -/
theorem ops_w7 : (StableHlo.after hostOps1 V (Proc.devRef .tc main_v61) : FVec Ideal S192x64 .bf16) = (truncf .bf16 (V (Proc.devRef .tc main_arg25) : FVec Ideal S192x64 .f32) Facts₀.bitsLt_bf16_f32 : FVec Ideal S192x64 .bf16) := by
  unfold hostOps1
  after_results
theorem ops_u7 : (StableHlo.after hostOps1 V (Proc.devRef .tc main_v70) : FVec Ideal S192x64 .bf16) = (truncf .bf16 (V (Proc.devRef .tc main_arg26) : FVec Ideal S192x64 .f32) Facts₀.bitsLt_bf16_f32 : FVec Ideal S192x64 .bf16) := by
  unfold hostOps1
  after_results
theorem ops_b7 : (StableHlo.after hostOps1 V (Proc.devRef .tc main_v69) : FVec Ideal S256x256 .f32) = pack64 (V (Proc.devRef .tc main_arg27)) (V (Proc.devRef .tc main_arg28)) := by
  unfold hostOps1 pack64 pieces64
  after_results_simp
  simp only [Matrix.cons_val_zero, Matrix.cons_val_one, Matrix.cons_val, Fin.isValue]
  rfl
/-- The result is the second kernel's array, turned around. -/
theorem ops_out : (StableHlo.after hostOps2 V (Proc.devRef .tc main_v72) : FVec Ideal S256x128 .f32)
    = transpose S256x128 [1, 0] (V (Proc.devRef .tc main_v71) : FVec Ideal S128x256 .f32) Facts₀.transposes_S128x256_S256x128_1_0 := by
  unfold hostOps2
  after_results

end Cert.KernelIdeal.Gru

end
-- ==== Proof.KernValue.lean ====
/- The kernel's result: the stack's result on the arguments. -/
module

public import proofs.«01_k».proof.Proof.KernBlocks
public import proofs.«01_k».proof.Proof.KernHost

@[expose] public section

set_option maxRecDepth 16384

noncomputable section

namespace Cert.KernelIdeal.Gru

open Idealize.ShloMosaic hiding ix1 ix2 ix3
open Idealize.ShloMosaic.ValueIdx Idealize.ShloMosaic.Pipeline
open Idealize.ShloMosaic.TcCoe
open Cert.KernelIdeal.Gen (hostOps0 hostOps1 hostOps2 hostOps0_W hostOps1_W V0 V1 V2 V3 V4 V5)
open Cert.Gru

/-- The result's array at an entry: the last layer's states, then the last but one's. -/
theorem outD_at (h : Hid Ideal) (r : Fin 128) (m : Fin 256) :
    outD h (ix2 r m) = if hr : r.val < 64 then h.2.2.2.2 (ix2 (⟨r.val, hr⟩ : Fin 64) m) else h.2.2.2.1 (ix2 (⟨r.val - 64, by omega⟩ : Fin 64) m) := by
  unfold outD VecWindow.put
  by_cases hr : r.val < 64
  · rw [dif_neg (fun hh => by
      have h0 : 64 ≤ r.val := (hh 0).1
      omega), dif_pos hr, dif_pos (fun a => by
      match a with
      | ⟨0, _⟩ => exact ⟨Nat.zero_le _, by show r.val < 0 + 64; omega⟩
      | ⟨1, _⟩ => exact ⟨Nat.zero_le _, by show m.val < 0 + 256; omega⟩)]
    refine congrArg h.2.2.2.2 (funext fun a => Fin.ext ?_)
    match a with
    | ⟨0, _⟩ => exact Nat.sub_zero _
    | ⟨1, _⟩ => exact Nat.sub_zero _
  · rw [dif_neg hr, dif_pos (fun a => by
      match a with
      | ⟨0, _⟩ => exact ⟨by show 64 ≤ r.val; omega, by show r.val < 64 + 64; omega⟩
      | ⟨1, _⟩ => exact ⟨Nat.zero_le _, by show m.val < 0 + 256; omega⟩)]
    refine congrArg h.2.2.2.1 (funext fun a => Fin.ext ?_)
    match a with
    | ⟨0, _⟩ => rfl
    | ⟨1, _⟩ => exact Nat.sub_zero _

/-- An array that is a cast of another, at an entry. -/
theorem weight {s : Shape} {w : FVec Ideal s .bf16} {x y : FVec Ideal s .f32} {hb} (h : w = (truncf .bf16 x hb : FVec Ideal s .bf16)) (hx : x = y) (i : s.Idx) :
    (w i : EReal) = y i := by
  subst hx
  subst h
  rfl

/-- Packed biases, from the arrays they are made of. -/
theorem biases16 {k : ℕ} {L : Layer k 16} {b : FVec Ideal S64x256 .f32} {p q p' q' : FVec Ideal S48 .f32} (h : b = pack16 p q) (hp : p = p') (hq : q = q')
    (ep : ∀ a j, L.p a j = p' (ix1 (rows fits16 a j))) (eq : ∀ a j, L.q a j = q' (ix1 (rows fits16 a j))) : Packed16 b L := by
  subst hp
  subst hq
  subst h
  exact packed16 L _ _ ep eq

theorem biases64 {k : ℕ} {L : Layer k 64} {b : FVec Ideal S256x256 .f32} {p q p' q' : FVec Ideal S192 .f32} (h : b = pack64 p q) (hp : p = p') (hq : q = q')
    (ep : ∀ a j, L.p a j = p' (ix1 (rows fits64 a j))) (eq : ∀ a j, L.q a j = q' (ix1 (rows fits64 a j))) : Packed64 b L := by
  subst hp
  subst hq
  subst h
  exact packed64 L _ _ ep eq

variable (m : (ℓ : Loc nD τ sig) → Buf (Elt Ideal) ℓ) (c : Dev nD) (b : Fin 256)

/-- The stack of layers the arguments give a batch member. -/
def kstack : Gru.Stack where
  l1 := Layer.ofRows (g := 48) (rows fits16) (m ((c.tc : Thread nD τ).loc main_arg1)) (m ((c.tc : Thread nD τ).loc main_arg2)) (m ((c.tc : Thread nD τ).loc main_arg3)) (m ((c.tc : Thread nD τ).loc main_arg4))
  l2 := Layer.ofRows (g := 48) (rows fits16) (m ((c.tc : Thread nD τ).loc main_arg5)) (m ((c.tc : Thread nD τ).loc main_arg6)) (m ((c.tc : Thread nD τ).loc main_arg7)) (m ((c.tc : Thread nD τ).loc main_arg8))
  l3 := Layer.ofRows (g := 48) (rows fits16) (m ((c.tc : Thread nD τ).loc main_arg9)) (m ((c.tc : Thread nD τ).loc main_arg10)) (m ((c.tc : Thread nD τ).loc main_arg11)) (m ((c.tc : Thread nD τ).loc main_arg12))
  l4 := Layer.ofRows (g := 48) (rows fits16) (m ((c.tc : Thread nD τ).loc main_arg13)) (m ((c.tc : Thread nD τ).loc main_arg14)) (m ((c.tc : Thread nD τ).loc main_arg15)) (m ((c.tc : Thread nD τ).loc main_arg16))
  l5 := Layer.ofRows (g := 192) (rows fits64) (m ((c.tc : Thread nD τ).loc main_arg17)) (m ((c.tc : Thread nD τ).loc main_arg18)) (m ((c.tc : Thread nD τ).loc main_arg19)) (m ((c.tc : Thread nD τ).loc main_arg20))
  l6 := Layer.ofRows (g := 192) (rows fits64) (m ((c.tc : Thread nD τ).loc main_arg21)) (m ((c.tc : Thread nD τ).loc main_arg22)) (m ((c.tc : Thread nD τ).loc main_arg23)) (m ((c.tc : Thread nD τ).loc main_arg24))
  l7 := Layer.ofRows (g := 192) (rows fits64) (m ((c.tc : Thread nD τ).loc main_arg25)) (m ((c.tc : Thread nD τ).loc main_arg26)) (m ((c.tc : Thread nD τ).loc main_arg27)) (m ((c.tc : Thread nD τ).loc main_arg28))
  x t e := if h : t < 512 then (m ((c.tc : Thread nD τ).loc main_arg0) : FVec Ideal S512x256x300 .f32) (ix3 (⟨t, h⟩ : Fin 512) b e) else 0

/-- The buffers between the compress kernel and the operations after it. -/
def pre : Valuation τ sig (Elt Ideal) := V2 m (fun _ r c => leaves0 m r c) c

theorem mid_ops : mid m c = StableHlo.after hostOps1 (pre m c) := rfl
theorem mid_at (r : Ref sig .tc) : mid m c (Proc.devRef .tc r) = StableHlo.after hostOps1 (pre m c) (Proc.devRef .tc r) := congrFun (mid_ops m c) _

/-- The arguments are untouched then. -/
theorem pre_arg (r : Ref sig .tc) (h0 : r ∉ hostOps0_W) (h2 : r ∉ ([main_v20_0, main_v20_1, main_v20_2] : List (Ref sig .tc))) :
    pre m c (Proc.devRef .tc r) = m ((c.tc : Thread nD τ).loc r) :=
  (Gen.V2_of m (fun _ r c => leaves0 m r c) c r h2).trans (Gen.V1_of m c r h0)

theorem first_at (r : Ref sig .tc) : V1 m c (Proc.devRef .tc r) = StableHlo.after hostOps0 (V0 m c) (Proc.devRef .tc r) := rfl
theorem zero_arg (r : Ref sig .tc) : V0 m c (Proc.devRef .tc r) = m ((c.tc : Thread nD τ).loc r) := rfl

/-- Each array a kernel reads, from the arguments. -/
theorem good_w1 (i : S48x300.Idx) : ((W0 (V1 m) c).w1 i : EReal) = (m ((c.tc : Thread nD τ).loc main_arg1) : FVec Ideal S48x300 .f32) i :=
  weight ((whole0_1 (V1 m) c).trans ((first_at m c main_v0).trans (ops_w1 (V0 m c)))) (zero_arg m c main_arg1) i
theorem good_u1 (i : S48x16.Idx) : ((W0 (V1 m) c).u1 i : EReal) = (m ((c.tc : Thread nD τ).loc main_arg2) : FVec Ideal S48x16 .f32) i :=
  weight ((whole0_3 (V1 m) c).trans ((first_at m c main_v9).trans (ops_u1 (V0 m c)))) (zero_arg m c main_arg2) i
theorem good_b1 : Packed16 (W0 (V1 m) c).b1 (kstack m c b).l1 :=
  biases16 ((whole0_2 (V1 m) c).trans ((first_at m c main_v8).trans (ops_b1 (V0 m c)))) (zero_arg m c main_arg3) (zero_arg m c main_arg4) (fun _ _ => rfl) fun _ _ => rfl
theorem good_w2 (i : S48x16.Idx) : ((W0 (V1 m) c).w2 i : EReal) = (m ((c.tc : Thread nD τ).loc main_arg5) : FVec Ideal S48x16 .f32) i :=
  weight ((whole0_4 (V1 m) c).trans ((first_at m c main_v10).trans (ops_w2 (V0 m c)))) (zero_arg m c main_arg5) i
theorem good_u2 (i : S48x16.Idx) : ((W0 (V1 m) c).u2 i : EReal) = (m ((c.tc : Thread nD τ).loc main_arg6) : FVec Ideal S48x16 .f32) i :=
  weight ((whole0_6 (V1 m) c).trans ((first_at m c main_v19).trans (ops_u2 (V0 m c)))) (zero_arg m c main_arg6) i
theorem good_b2 : Packed16 (W0 (V1 m) c).b2 (kstack m c b).l2 :=
  biases16 ((whole0_5 (V1 m) c).trans ((first_at m c main_v18).trans (ops_b2 (V0 m c)))) (zero_arg m c main_arg7) (zero_arg m c main_arg8) (fun _ _ => rfl) fun _ _ => rfl
theorem good_w3 (i : S48x16.Idx) : ((W1 (mid m) c).w3 i : EReal) = (m ((c.tc : Thread nD τ).loc main_arg9) : FVec Ideal S48x16 .f32) i :=
  weight ((whole1_3 (mid m) c).trans ((mid_at m c main_v21).trans (ops_w3 (pre m c)))) (pre_arg m c main_arg9 (by decide) (by decide)) i
theorem good_u3 (i : S48x16.Idx) : ((W1 (mid m) c).u3 i : EReal) = (m ((c.tc : Thread nD τ).loc main_arg10) : FVec Ideal S48x16 .f32) i :=
  weight ((whole1_5 (mid m) c).trans ((mid_at m c main_v30).trans (ops_u3 (pre m c)))) (pre_arg m c main_arg10 (by decide) (by decide)) i
theorem good_b3 : Packed16 (W1 (mid m) c).b3 (kstack m c b).l3 :=
  biases16 ((whole1_4 (mid m) c).trans ((mid_at m c main_v29).trans (ops_b3 (pre m c)))) (pre_arg m c main_arg11 (by decide) (by decide)) (pre_arg m c main_arg12 (by decide) (by decide)) (fun _ _ => rfl) fun _ _ => rfl
theorem good_w4 (i : S48x16.Idx) : ((W1 (mid m) c).w4 i : EReal) = (m ((c.tc : Thread nD τ).loc main_arg13) : FVec Ideal S48x16 .f32) i :=
  weight ((whole1_6 (mid m) c).trans ((mid_at m c main_v31).trans (ops_w4 (pre m c)))) (pre_arg m c main_arg13 (by decide) (by decide)) i
theorem good_u4 (i : S48x16.Idx) : ((W1 (mid m) c).u4 i : EReal) = (m ((c.tc : Thread nD τ).loc main_arg14) : FVec Ideal S48x16 .f32) i :=
  weight ((whole1_8 (mid m) c).trans ((mid_at m c main_v40).trans (ops_u4 (pre m c)))) (pre_arg m c main_arg14 (by decide) (by decide)) i
theorem good_b4 : Packed16 (W1 (mid m) c).b4 (kstack m c b).l4 :=
  biases16 ((whole1_7 (mid m) c).trans ((mid_at m c main_v39).trans (ops_b4 (pre m c)))) (pre_arg m c main_arg15 (by decide) (by decide)) (pre_arg m c main_arg16 (by decide) (by decide)) (fun _ _ => rfl) fun _ _ => rfl
theorem good_w5 (i : S192x16.Idx) : ((W1 (mid m) c).w5 i : EReal) = (m ((c.tc : Thread nD τ).loc main_arg17) : FVec Ideal S192x16 .f32) i :=
  weight ((whole1_9 (mid m) c).trans ((mid_at m c main_v41).trans (ops_w5 (pre m c)))) (pre_arg m c main_arg17 (by decide) (by decide)) i
theorem good_u5 (i : S192x64.Idx) : ((W1 (mid m) c).u5 i : EReal) = (m ((c.tc : Thread nD τ).loc main_arg18) : FVec Ideal S192x64 .f32) i :=
  weight ((whole1_11 (mid m) c).trans ((mid_at m c main_v50).trans (ops_u5 (pre m c)))) (pre_arg m c main_arg18 (by decide) (by decide)) i
theorem good_b5 : Packed64 (W1 (mid m) c).b5 (kstack m c b).l5 :=
  biases64 ((whole1_10 (mid m) c).trans ((mid_at m c main_v49).trans (ops_b5 (pre m c)))) (pre_arg m c main_arg19 (by decide) (by decide)) (pre_arg m c main_arg20 (by decide) (by decide)) (fun _ _ => rfl) fun _ _ => rfl
theorem good_w6 (i : S192x64.Idx) : ((W1 (mid m) c).w6 i : EReal) = (m ((c.tc : Thread nD τ).loc main_arg21) : FVec Ideal S192x64 .f32) i :=
  weight ((whole1_12 (mid m) c).trans ((mid_at m c main_v51).trans (ops_w6 (pre m c)))) (pre_arg m c main_arg21 (by decide) (by decide)) i
theorem good_u6 (i : S192x64.Idx) : ((W1 (mid m) c).u6 i : EReal) = (m ((c.tc : Thread nD τ).loc main_arg22) : FVec Ideal S192x64 .f32) i :=
  weight ((whole1_14 (mid m) c).trans ((mid_at m c main_v60).trans (ops_u6 (pre m c)))) (pre_arg m c main_arg22 (by decide) (by decide)) i
theorem good_b6 : Packed64 (W1 (mid m) c).b6 (kstack m c b).l6 :=
  biases64 ((whole1_13 (mid m) c).trans ((mid_at m c main_v59).trans (ops_b6 (pre m c)))) (pre_arg m c main_arg23 (by decide) (by decide)) (pre_arg m c main_arg24 (by decide) (by decide)) (fun _ _ => rfl) fun _ _ => rfl
theorem good_w7 (i : S192x64.Idx) : ((W1 (mid m) c).w7 i : EReal) = (m ((c.tc : Thread nD τ).loc main_arg25) : FVec Ideal S192x64 .f32) i :=
  weight ((whole1_15 (mid m) c).trans ((mid_at m c main_v61).trans (ops_w7 (pre m c)))) (pre_arg m c main_arg25 (by decide) (by decide)) i
theorem good_u7 (i : S192x64.Idx) : ((W1 (mid m) c).u7 i : EReal) = (m ((c.tc : Thread nD τ).loc main_arg26) : FVec Ideal S192x64 .f32) i :=
  weight ((whole1_17 (mid m) c).trans ((mid_at m c main_v70).trans (ops_u7 (pre m c)))) (pre_arg m c main_arg26 (by decide) (by decide)) i
theorem good_b7 : Packed64 (W1 (mid m) c).b7 (kstack m c b).l7 :=
  biases64 ((whole1_16 (mid m) c).trans ((mid_at m c main_v69).trans (ops_b7 (pre m c)))) (pre_arg m c main_arg27 (by decide) (by decide)) (pre_arg m c main_arg28 (by decide) (by decide)) (fun _ _ => rfl) fun _ _ => rfl

/-- The compress kernel's arrays are the stack's. -/
theorem good12 : Good12 (W0 (V1 m) c) (kstack m c b) where
  w1 _ _ _ := good_w1 m c _
  u1 _ _ _ := good_u1 m c _
  b1 := good_b1 m c b
  w2 _ _ _ := good_w2 m c _
  u2 _ _ _ := good_u2 m c _
  b2 := good_b2 m c b

/-- The decode kernel's arrays are the stack's. -/
theorem goodD : GoodD (W1 (mid m) c) (kstack m c b) where
  w3 _ _ _ := good_w3 m c _
  u3 _ _ _ := good_u3 m c _
  b3 := good_b3 m c b
  w4 _ _ _ := good_w4 m c _
  u4 _ _ _ := good_u4 m c _
  b4 := good_b4 m c b
  w5 _ _ _ := good_w5 m c _
  u5 _ _ _ := good_u5 m c _
  b5 := good_b5 m c b
  w6 _ _ _ := good_w6 m c _
  u6 _ _ _ := good_u6 m c _
  b6 := good_b6 m c b
  w7 _ _ _ := good_w7 m c _
  u7 _ _ _ := good_u7 m c _
  b7 := good_b7 m c b

/-- The inputs over time. -/
theorem feed0 (t : ℕ) (ht : t < 512) : (fun k => x0 (V1 m) c t (ix3 (0 : Fin 1) b k)) = (kstack m c b).x t := by
  funext k
  refine (x0_at (V1 m) c t ht b k).trans ?_
  refine (congrFun (Gen.V1_of m c main_arg0 (by decide) : V1 m c (Proc.devRef .tc main_arg0) = m ((c.tc : Thread nD τ).loc main_arg0)) _).trans ?_
  show _ = (if h : t < 512 then ((m ((c.tc : Thread nD τ).loc main_arg0) : FVec Ideal S512x256x300 .f32) (ix3 (⟨t, h⟩ : Fin 512) b k) : EReal) else (0 : EReal))
  rw [dif_pos ht]

/-- The compress kernel's arrays after it. -/
theorem pre_y : (pre m c (Proc.devRef .tc main_v20_0) : FVec Ideal S544x16x256 .bf16) = outsY (V1 m) c := by
  have h2 : (Proc.devRef .tc main_v20_0 : DevRef τ sig) ≠ Proc.devRef .tc main_v20_2 := StableHlo.devRef_ne_of_ne (by decide)
  have h1 : (Proc.devRef .tc main_v20_0 : DevRef τ sig) ≠ Proc.devRef .tc main_v20_1 := StableHlo.devRef_ne_of_ne (by decide)
  have e : pre m c (Proc.devRef .tc main_v20_0) = leaves0 m main_v20_0 c :=
    (Function.update_of_ne (β := fun b : DevRef τ sig => b.ty.Contents (Elt Ideal)) h2 (leaves0 m main_v20_2 c) _).trans
      ((Function.update_of_ne (β := fun b : DevRef τ sig => b.ty.Contents (Elt Ideal)) h1 (leaves0 m main_v20_1 c) _).trans
        (Function.update_self (β := fun b : DevRef τ sig => b.ty.Contents (Elt Ideal)) (Proc.devRef .tc main_v20_0 : DevRef τ sig) (leaves0 m main_v20_0 c) _))
  exact e.trans ((Pipeline.afterRegion_arr (dat0 (V1 m) c) (V1 m c) arr0 7).trans (arr_y (V1 m) c))

theorem pre_h1 : (pre m c (Proc.devRef .tc main_v20_1) : FVec Ideal S16x256 .f32) = (hist0 (V1 m) c (32 * (16 + 1))).1 := by
  have h2 : (Proc.devRef .tc main_v20_1 : DevRef τ sig) ≠ Proc.devRef .tc main_v20_2 := StableHlo.devRef_ne_of_ne (by decide)
  have e : pre m c (Proc.devRef .tc main_v20_1) = leaves0 m main_v20_1 c :=
    (Function.update_of_ne (β := fun b : DevRef τ sig => b.ty.Contents (Elt Ideal)) h2 (leaves0 m main_v20_2 c) _).trans
      (Function.update_self (β := fun b : DevRef τ sig => b.ty.Contents (Elt Ideal)) (Proc.devRef .tc main_v20_1 : DevRef τ sig) (leaves0 m main_v20_1 c) _)
  exact e.trans ((Pipeline.afterRegion_arr (dat0 (V1 m) c) (V1 m c) arr0 8).trans (arr_h1 (V1 m) c))

theorem pre_h2 : (pre m c (Proc.devRef .tc main_v20_2) : FVec Ideal S16x256 .f32) = (hist0 (V1 m) c (32 * (16 + 1))).2 := by
  have e : pre m c (Proc.devRef .tc main_v20_2) = leaves0 m main_v20_2 c :=
    Function.update_self (β := fun b : DevRef τ sig => b.ty.Contents (Elt Ideal)) (Proc.devRef .tc main_v20_2 : DevRef τ sig) (leaves0 m main_v20_2 c) _
  exact e.trans ((Pipeline.afterRegion_arr (dat0 (V1 m) c) (V1 m c) arr0 9).trans (arr_h2 (V1 m) c))

/-- They are as the decode kernel finds them. -/
theorem mid_out (r : Ref sig .tc) (h : r ∉ hostOps1_W) : mid m c (Proc.devRef .tc r) = pre m c (Proc.devRef .tc r) := Gen.V3_of m _ c r h

/-- The decode kernel's start. -/
theorem start_good : Start (kstack m c b) (start1 (mid m) c) b where
  h3 := by
    have h : (start1 (mid m) c).1 = (hist0 (V1 m) c (32 * (16 + 1))).1 := (whole1_1 (mid m) c).trans ((mid_out m c main_v20_1 (by decide)).trans (pre_h1 m c))
    rw [h]
    exact (hist1_at (good12 m c b) _ b (feed0 m c b) (32 * (16 + 1))).trans (congrArg (kstack m c b).s1 (by decide))
  h4 := by
    have h : (start1 (mid m) c).2.1 = (hist0 (V1 m) c (32 * (16 + 1))).2 := (whole1_2 (mid m) c).trans ((mid_out m c main_v20_2 (by decide)).trans (pre_h2 m c))
    rw [h]
    exact (hist2_at (good12 m c b) _ b (feed0 m c b) (32 * (16 + 1))).trans (congrArg (kstack m c b).s2 (by decide))
  h5 := funext fun _ => Ideal.ofBits_zero_f32
  h6 := funext fun _ => Ideal.ofBits_zero_f32
  h7 := funext fun _ => Ideal.ofBits_zero_f32

/-- The third layer's inputs over time. -/
theorem feed1 (t : ℕ) (ht : t < 512) : (fun k => y1 (mid m) c (1 + t) (ix3 (0 : Fin 1) k b)) = (kstack m c b).s2 (t + 1) := by
  funext k
  refine (y1_at (mid m) c (1 + t) (by omega) k b).trans ?_
  refine (congrFun ((mid_out m c main_v20_0 (by decide)).trans (pre_y m c)) _).trans ?_
  show yAt (W0 (V1 m) c) (x0 (V1 m) c) (1 + t) (ix2 k b) = _
  rw [Nat.add_comm 1 t]
  exact congrFun (yAt_at (good12 m c b) _ b (feed0 m c b) (t + 1) (by omega) (by omega)) k

/-- The decode kernel's result. -/
theorem decode_out (r : Fin 128) : outD (hist1 (mid m) c (16 * (32 + 1))) (ix2 r b) = (kstack m c b).out r := by
  rw [outD_at]
  unfold Stack.out
  by_cases hr : r.val < 64
  · rw [dif_pos hr, dif_pos hr]
    exact congrFun ((histD7_at (goodD m c b) _ _ b (start_good m c b) (feed1 m c b) (16 * (32 + 1))).trans (congrArg (kstack m c b).s7 (by decide))) _
  · rw [dif_neg hr, dif_neg hr]
    exact congrFun ((histD6_at (goodD m c b) _ _ b (start_good m c b) (feed1 m c b) (16 * (32 + 1))).trans (congrArg (kstack m c b).s6 (by decide))) _

/-- The result's array after the decode kernel. -/
theorem last_out : (V4 m (outs m) c (Proc.devRef .tc main_v71) : FVec Ideal S128x256 .f32) = outD (hist1 (mid m) c (16 * (32 + 1))) := by
  have e : V4 m (outs m) c (Proc.devRef .tc main_v71) = leaves1 m main_v71 c :=
    Function.update_self (β := fun b : DevRef τ sig => b.ty.Contents (Elt Ideal)) (Proc.devRef .tc main_v71 : DevRef τ sig) (leaves1 m main_v71 c) _
  exact e.trans ((Pipeline.afterRegion_arr (dat1 (mid m) c) (mid m c) arr1 18).trans (arr_out (mid m) c))

/-- The kernel's result is the stack's. -/
theorem result (r : Fin 128) : (V5 m (outs m) c (Proc.devRef .tc main_v72) : FVec Ideal S256x128 .f32) (ix2 b r) = (kstack m c b).out r := by
  refine (congrFun (ops_out (V4 m (outs m) c) : (V5 m (outs m) c (Proc.devRef .tc main_v72) : FVec Ideal S256x128 .f32) = _) (ix2 b r)).trans ?_
  refine (transpose_apply [1, 0] _ Facts₀.transposes_S128x256_S256x128_1_0 (ix2 b r) (ix2 r b) (fun a => by fin_cases a <;> rfl)).trans ?_
  exact (congrFun (last_out m c) (ix2 r b)).trans (decode_out m c b r)

end Cert.KernelIdeal.Gru

end
-- ==== Proof.RefCell.lean ====
/- The reference's step and inputs at the extended reals, entry by entry: a step is the layer's step of each batch member. -/
module

public import proofs.«01_k».proof.Proof.RefSound
public import proofs.«01_k».proof.Proof.GruMath
public import Idealize.ShloMosaic.Lib.StackMember
public import Idealize.ShloMosaic.Lib.Pipeline.Value
public import Idealize.ShloMosaic.Lib.Pointwise.ShapeOpsCore

@[expose] public section

set_option maxRecDepth 16384

noncomputable section

namespace Cert.ReferenceIdeal.Scan

open Idealize.ShloMosaic hiding ix1 ix2 ix3
open Idealize.ShloMosaic.ValueIdx Idealize.ShloMosaic.Pipeline
open Cert.Gru

/-- An array of a shape over the extended reals. -/
abbrev Arr (s : Shape) := (⟨s, .f32⟩ : BufTy).Contents (Elt Ideal)

variable {h g : ℕ} [Fits h g]

/-- The state's product and bias at an entry. -/
theorem accV_at (u : Arr (Sh2 g h)) (b : Arr (Sh1 g)) (s : Arr (Sh2 256 h)) (m : Fin 256) (r : Fin g) :
    accV (F := Ideal) u b s (ix2 m r) = (∑ k, s (ix2 m k) * u (ix2 r k)) + b (ix1 r) := by
  unfold accV
  rw [addf_apply]
  congr 1
  · rw [show dotU h g = DotDims.plain 256 h g from rfl, StackMember.dotGeneral_plain_apply]
    refine Finset.sum_congr rfl fun k _ => ?_
    rw [transpose_apply [1, 0] u Fits.turn (ix2 k r) (ix2 r k) (fun b => by fin_cases b <;> rfl)]
  · rw [broadcastInDim_apply _ _ _ (ix2 m r) (ix2 0 r) (fun a => by
      fin_cases a
      · rfl
      · show r.val = if g = 1 then 0 else r.val
        have := r.isLt
        split <;> omega)]
    rw [broadcastInDim_apply _ _ _ (ix2 0 r) (ix1 r) (fun a => by
      fin_cases a
      show r.val = if g = 1 then 0 else r.val
      have := r.isLt
      split <;> omega)]

theorem dotX_at {k : ℕ} (wf) (x : FVec Ideal (Sh3 512 256 k) .f32) (w : FVec Ideal (Sh2 g k) .f32) (t : Fin 512) (m : Fin 256) (r : Fin g) :
    (Host.dotGeneral (dotX k g wf) none x w : FVec Ideal (Sh3 512 256 g) .f32) (ix3 t m r) = ∑ j, x (ix3 t m j) * w (ix2 r j) := by
  show FloatOps.dotGeneral _ none _ x w (ix3 t m r) = _
  rw [Ideal.dotGeneral_apply, ← Equiv.sum_comp (contrEquiv1 (dotX k g wf) k rfl rfl).symm]
  refine Finset.sum_congr rfl fun j _ => ?_
  have hj := contrEquiv1_symm_val (dotX k g wf) k rfl rfl j
  have el : (dotX k g wf).lhsIdx (ix3 t m r) ((contrEquiv1 (dotX k g wf) k rfl rfl).symm j) = ix3 t m j := by
    funext a; apply Fin.ext
    match a with
    | ⟨0, _⟩ => rfl
    | ⟨1, _⟩ => rfl
    | ⟨2, _⟩ => exact hj
  have er : (dotX k g wf).rhsIdx (ix3 t m r) ((contrEquiv1 (dotX k g wf) k rfl rfl).symm j) = ix2 r j := by
    funext a; apply Fin.ext
    match a with
    | ⟨0, _⟩ => rfl
    | ⟨1, _⟩ => exact hj
  rw [el, er]

/-- The input's product and bias at an entry. -/
theorem inV_at {k : ℕ} (wf) (x : Arr (Sh3 512 256 k)) (w : Arr (Sh2 g k)) (b : Arr (Sh1 g))
    (t : Fin 512) (m : Fin 256) (r : Fin g) :
    inV (F := Ideal) h wf x w b (ix3 t m r) = (∑ j, x (ix3 t m j) * w (ix2 r j)) + b (ix1 r) := by
  unfold inV
  rw [addf_apply]
  congr 1
  · exact dotX_at wf x w t m r
  · rw [broadcastInDim_apply _ _ _ (ix3 t m r) (ix3 0 0 r) (fun a => by
      fin_cases a
      · rfl
      · rfl
      · show r.val = if g = 1 then 0 else r.val
        have := r.isLt
        split <;> omega)]
    rw [broadcastInDim_apply _ _ _ (ix3 0 0 r) (ix1 r) (fun a => by
      fin_cases a
      show r.val = if g = 1 then 0 else r.val
      have := r.isLt
      split <;> omega)]

/-- The place a step's rows start at. -/
theorem at_step (t : Fin 512) : (BitVec.ofNat 32 t.val).toInt = t.val := by
  have := t.isLt
  rw [BitVec.toInt_eq_toNat_of_lt (by rw [BitVec.toNat_ofNat]; omega), BitVec.toNat_ofNat]
  omega

/-- The starts of a step's rows, none of which is moved to fit. -/
theorem starts {w : ℕ} {v : Shape} (t : Fin 512) (hr : v.rank = (Sh3 512 256 w).rank)
    (h0 : v.size (Fin.cast hr.symm 0) = 1) (h1 : v.size (Fin.cast hr.symm 1) = 256) (h2 : v.size (Fin.cast hr.symm 2) = w) (a : Fin 3) :
    Host.clampedStart (Sh3 512 256 w) v hr
      (fun k => ((![constantI S 32 (BitVec.ofNat 32 t.val), constantI S 32 0#32, constantI S 32 0#32] : Fin 3 → (⟨S, .i32⟩ : BufTy).Contents (Elt Ideal)) k (Shape.Idx.first one)).toInt) a
      = (![t.val, 0, 0] : Fin 3 → ℕ) a := by
  have hlt := t.isLt
  refine Host.clampedStart_of_le hr _ a _ ?_ ?_
  · fin_cases a
    · exact at_step t
    · rfl
    · rfl
  · fin_cases a
    · exact (congrArg (t.val + ·) h0).trans_le (by show t.val + 1 ≤ 512; omega)
    · exact (congrArg (0 + ·) h1).trans_le (by show 0 + 256 ≤ 256; omega)
    · exact (congrArg (0 + ·) h2).trans_le (by show 0 + w ≤ w; omega)

/-- A step's row at an entry. -/
theorem rowV_at (xp : Arr (Sh3 512 256 g)) (t : Fin 512) (m : Fin 256) (r : Fin g) :
    rowV (F := Ideal) h xp (constantI S 32 (BitVec.ofNat 32 t.val)) (ix2 m r) = xp (ix3 t m r) := by
  unfold rowV
  rw [shapeCast_apply _ _ (ix2 m r) (ix3 0 m r) (by
    rw [Shape.rowMajor_val_three, Shape.rowMajor_val_two]
    show ((0 : ℕ) * 256 + m.val) * g + r.val = m.val * g + r.val
    rw [Nat.zero_mul, Nat.zero_add])]
  rw [Host.dynamicSlice_apply]
  have hs := fun a => starts t (Fits.cut (g := g) h).1 rfl rfl rfl a
  refine congrArg xp (funext fun a => Fin.ext ?_)
  fin_cases a
  · exact congrArg (· + 0) (hs 0)
  · exact (congrArg (· + m.val) (hs 1)).trans (Nat.zero_add _)
  · exact (congrArg (· + r.val) (hs 2)).trans (Nat.zero_add _)

/-- A coordinate of an axis, whether or not the axis has one place only. -/
theorem lone {n : ℕ} (j : Fin n) {v : ℕ} (hv : v = j.val) {inst : Decidable (n = 1)} : j.val = @ite ℕ (n = 1) inst 0 v := by
  have := j.isLt
  split <;> omega

/-- The outputs after a step, at an entry. -/
theorem putV_at (ys : Arr (Sh3 512 256 h)) (s : Arr (Sh2 256 h)) (t t' : Fin 512) (m : Fin 256) (j : Fin h) :
    putV (F := Ideal) g ys s (constantI S 32 (BitVec.ofNat 32 t.val)) (ix3 t' m j) = if t' = t then s (ix2 m j) else ys (ix3 t' m j) := by
  unfold putV
  rw [Host.dynamicUpdateSlice_apply]
  have hs := fun a => starts t (Fits.put (h := h) g).1 rfl rfl rfl a
  by_cases ht : t' = t
  · subst ht
    rw [if_pos rfl, dif_pos]
    · rw [broadcastInDim_apply _ _ _ _ (ix2 m j) (fun a => ?_)]
      fin_cases a
      · exact lone m (congrArg (m.val - ·) (hs 1))
      · exact lone j (congrArg (j.val - ·) (hs 2))
    · intro a
      rw [hs a]
      fin_cases a
      · exact ⟨Nat.le_refl _, Nat.lt_succ_self _⟩
      · exact ⟨Nat.zero_le _, (show m.val < 0 + 256 by have := m.isLt; omega)⟩
      · exact ⟨Nat.zero_le _, (show j.val < 0 + h by have := j.isLt; omega)⟩
  · rw [if_neg ht, dif_neg]
    intro hin
    have h0 := hin 0
    rw [hs 0] at h0
    have h1 : t.val ≤ t'.val ∧ t'.val < t.val + 1 := h0
    exact ht (Fin.ext (by omega))

/-- Three gates' rows fit. -/
theorem three (h g : ℕ) [Fits h g] : 3 * h ≤ g := by
  have h1 := (Fits.gate2 (h := h) (g := g)).2 1
  have h2 : 2 * h + h ≤ g := h1
  omega

/-- A gate of the rows at an entry. -/
theorem gate_at (a : Fin 3) (o : ℕ) (ho : o = a.val * h) (x : Arr (Sh2 256 g)) (hs : (Sh2 256 g).Slices ![0, o] (Sh2 256 h)) (m : Fin 256) (j : Fin h) :
    extractStridedSlice (Sh2 256 h) ![0, o] x hs (ix2 m j) = x (ix2 m (rows (three h g) a j)) := by
  subst ho
  refine extractStridedSlice_apply _ _ _ _ _ fun b => ?_
  fin_cases b
  · exact (Nat.zero_add _).symm
  · rfl

theorem ones_at (m : Fin 256) (j : Fin h) :
    (broadcastInDim (Sh2 256 h) ![] (Fits.fill g) (constant S .f32 0x3F800000#32) : FVec Ideal (Sh2 256 h) .f32) (ix2 m j) = 1 :=
  (broadcastInDim_scalar_apply (Fits.fill g) _ _).trans Ideal.ofBits_one_f32

/-- The logistic of a gate at an entry. -/
theorem gateV_at (a b : Arr (Sh2 256 h)) (m : Fin 256) (j : Fin h) :
    gateV (F := Ideal) a b (Fits.fill g) (ix2 m j) = Ideal.logistic (a (ix2 m j) + b (ix2 m j)) := by
  unfold gateV
  have h1 := ones_at (h := h) (g := g) m j
  show Ideal.div _ (_ + Ideal.exp (-(a (ix2 m j) + b (ix2 m j)))) = _
  unfold Ideal.logistic
  rw [h1]

theorem tanh_at {s : Shape} (x : FVec Ideal s .f32) (i : s.Idx) : Host.tanh x i = Ideal.tanh (x i) := rfl

/-- The new state at an entry. -/
theorem mixV_at (x hp : Arr (Sh2 256 g)) (s : Arr (Sh2 256 h)) (m : Fin 256) (j : Fin h) :
    mixV (F := Ideal) x hp s (ix2 m j)
      = (let r := Ideal.logistic (x (ix2 m (rows (three h g) 0 j)) + hp (ix2 m (rows (three h g) 0 j)))
         let z := Ideal.logistic (x (ix2 m (rows (three h g) 1 j)) + hp (ix2 m (rows (three h g) 1 j)))
         let n := Ideal.tanh (x (ix2 m (rows (three h g) 2 j)) + r * hp (ix2 m (rows (three h g) 2 j)))
         (1 - z) * n + z * s (ix2 m j)) := by
  unfold mixV
  rw [addf_apply, mulf_apply, mulf_apply, subf_apply, tanh_at, addf_apply, mulf_apply, gateV_at (g := g), gateV_at (g := g), ones_at (g := g), gate_at (g := g) 0 0 (by simp), gate_at (g := g) 0 0 (by simp),
    gate_at (g := g) 1 h (by simp), gate_at (g := g) 1 h (by simp), gate_at (g := g) 2 (2 * h) (by simp), gate_at (g := g) 2 (2 * h) (by simp)]

/-- The reference's layer over arrays. -/
abbrev layerOf {k : ℕ} (h : ℕ) {g : ℕ} [Fits h g] (w : Arr (Sh2 g k)) (u : Arr (Sh2 g h)) (p q : Arr (Sh1 g)) : Gru.Layer k h := Gru.Layer.ofRows (rows (three h g)) w u p q

/-- A step at an entry is the layer's step. -/
theorem stepV_at {k : ℕ} (wf) (x : Arr (Sh3 512 256 k)) (w : Arr (Sh2 g k)) (u : Arr (Sh2 g h)) (p q : Arr (Sh1 g)) (t : Fin 512) (s : Arr (Sh2 256 h))
    (m : Fin 256) (j : Fin h) :
    stepV (F := Ideal) (inV (F := Ideal) h wf x w p) u q (constantI S 32 (BitVec.ofNat 32 t.val)) s (ix2 m j)
      = (layerOf h w u p q).cell (fun e => x (ix3 t m e)) (fun e => s (ix2 m e)) j := by
  unfold stepV
  rw [mixV_at]
  simp only [rowV_at, inV_at, accV_at]
  rfl

end Cert.ReferenceIdeal.Scan

end
-- ==== Proof.RefStates.lean ====
/- What the reference's run leaves at the extended reals: each layer's outputs are the layer's states, and the result is the last two layers' last states. -/
module

public import proofs.«01_k».proof.Proof.RefRun
public import proofs.«01_k».proof.Proof.RefFrame
public import proofs.«01_k».proof.Proof.RefCell

@[expose] public section

set_option maxRecDepth 16384

noncomputable section

namespace Cert.ReferenceIdeal.Scan

open Idealize.ShloMosaic hiding ix1 ix2 ix3
open Idealize.ShloMosaic.ValueIdx Idealize.ShloMosaic.Pipeline
open Idealize.ShloMosaic.TcCoe
open Idealize.ShloMosaic.StableHlo (TRef)
open Cert.Gru

section Scan

variable {h g : ℕ} [Fits h g]

theorem step_writes_eq (φ : Bufs h g) : stepWrites φ = (refs φ).drop 6 ++ [φ.i.ref, φ.s.ref, φ.ys.ref] := rfl

/-- A step leaves what a scan carries unchanged alone. -/
theorem step_keeps {φ : Bufs h g} (hN : Distinct φ) (a : ℕ) (ha : a < 3) {T : BufTy} {r : TRef sig T} (hr : (refs φ)[a]? = some r.ref)
    (V : Valuation τ sig (Elt Ideal)) : rd r (StableHlo.after (stepOps φ) V) = rd r V := by
  unfold rd
  refine congrArg r.ofBuf (keeps (stepWrites φ) (step_writes φ) ?_ V)
  have hd := List.Nodup.of_append_left hN
  have h1 := not_later hd hr ha
  rw [step_writes_eq]
  intro hm
  apply h1
  rcases List.mem_append.mp hm with hm | hm
  · exact List.mem_of_mem_drop (i := 3) (by rw [List.drop_drop]; exact hm)
  · exact List.mem_append_left _ hm

/-- A scan leaves what it carries unchanged alone. -/
theorem trip_keeps {φ : Bufs h g} (hN : Distinct φ) (a : ℕ) (ha : a < 3) {T : BufTy} {r : TRef sig T} (hr : (refs φ)[a]? = some r.ref)
    (W : Dev nD → Valuation τ sig (Elt Ideal)) (c : Dev nD) : ∀ k, rd r (trip φ W k c) = rd r (W c)
  | 0 => rfl
  | k + 1 => by
    rw [trip_succ, step_keeps hN a ha hr, test_keeps hN (List.mem_of_getElem? hr), trip_keeps hN a ha hr W c k]

end Scan

/-- A batch member's inputs over time. -/
def feed {k : ℕ} (x : Arr (Sh3 512 256 k)) (m : Fin 256) (t : ℕ) (e : Fin k) : EReal := if h : t < 512 then x (ix3 ⟨t, h⟩ m e) else 0

namespace Layer

variable (y : Layer Ideal) (W : Dev nD → Valuation τ sig (Elt Ideal)) (c : Dev nD)

/-- The layer over the arrays it finds. -/
def spec : Gru.Layer y.k y.h := layerOf y.h (rd y.heads.w (W c)) (rd y.heads.u (W c)) (rd y.heads.bw (W c)) (rd y.heads.bu (W c))

/-- A batch member's states. -/
def sts (m : Fin 256) : ℕ → Fin y.h → EReal :=
  (y.spec W c).states (feed (rd y.heads.src (W c)) m) (fun e => rd y.heads.s0 (W c) (ix2 m e))

/-- The states and the outputs before the `n`-th step. -/
theorem at_trip : ∀ n ≤ 512, (∀ m j, rd y.bufs.s (trip y.bufs (y.entry W) n c) (ix2 m j) = y.sts W c m n j)
    ∧ ∀ (t : Fin 512) m j, t.val < n → rd y.bufs.ys (trip y.bufs (y.entry W) n c) (ix3 t m j) = y.sts W c m (t.val + 1) j := by
  intro n
  have hl := head_leaves y.wf y.apart (W c)
  induction n with
  | zero =>
    intro _
    exact ⟨fun m j => congrFun hl.2.2.2.2 (ix2 m j), fun t m j ht => absurd ht (Nat.not_lt_zero _)⟩
  | succ n ih =>
    intro hn
    obtain ⟨hs, hy⟩ := ih (by omega)
    have hN := y.distinct
    have mr := mem_refs y.bufs
    have e0 : rd y.bufs.xp (trip y.bufs (y.entry W) n c) = _ := (trip_keeps hN 0 (by decide) rfl (y.entry W) c n).trans hl.1
    have e1 : rd y.bufs.u (trip y.bufs (y.entry W) n c) = _ := (trip_keeps hN 1 (by decide) rfl (y.entry W) c n).trans hl.2.1
    have e2 : rd y.bufs.b (trip y.bufs (y.entry W) n c) = _ := (trip_keeps hN 2 (by decide) rfl (y.entry W) c n).trans hl.2.2.1
    have e3 := count hN (y.entry W) (y.counter W) n c
    have new : ∀ m j, stepV (F := Ideal) (rd y.bufs.xp (trip y.bufs (y.entry W) n c)) (rd y.bufs.u (trip y.bufs (y.entry W) n c)) (rd y.bufs.b (trip y.bufs (y.entry W) n c))
        (rd y.bufs.i (trip y.bufs (y.entry W) n c)) (rd y.bufs.s (trip y.bufs (y.entry W) n c)) (ix2 m j) = y.sts W c m (n + 1) j := by
      intro m j
      rw [e0, e1, e2, e3]
      refine (stepV_at y.wf _ _ _ _ _ ⟨n, by omega⟩ _ m j).trans ?_
      show _ = (y.spec W c).cell (feed (rd y.heads.src (W c)) m n) (y.sts W c m n) j
      have h1 : feed (rd y.heads.src (W c)) m n = fun e => rd y.heads.src (W c) (ix3 ⟨n, by omega⟩ m e) := by
        funext e
        unfold feed
        rw [dif_pos (by omega)]
      have h2 : y.sts W c m n = fun e => rd y.bufs.s (trip y.bufs (y.entry W) n c) (ix2 m e) := funext fun e => (hs m e).symm
      rw [h1, h2]
      rfl
    constructor
    · intro m j
      rw [trip_succ, hN.steps.s, test_keeps hN mr.1, test_keeps hN mr.2.1, test_keeps hN mr.2.2.1, test_keeps hN mr.2.2.2.1, test_keeps hN mr.2.2.2.2.1]
      exact new m j
    · intro t m j ht
      rw [trip_succ, hN.steps.ys, test_keeps hN mr.1, test_keeps hN mr.2.1, test_keeps hN mr.2.2.1, test_keeps hN mr.2.2.2.1, test_keeps hN mr.2.2.2.2.1,
        test_keeps hN mr.2.2.2.2.2]
      have e3' : rd y.bufs.i (trip y.bufs (y.entry W) n c) = constantI S 32 (BitVec.ofNat 32 (⟨n, by omega⟩ : Fin 512).val) := e3
      have hp := putV_at (g := y.g) (rd y.bufs.ys (trip y.bufs (y.entry W) n c)) (stepV (F := Ideal) (rd y.bufs.xp (trip y.bufs (y.entry W) n c)) (rd y.bufs.u (trip y.bufs (y.entry W) n c)) (rd y.bufs.b (trip y.bufs (y.entry W) n c))
        (rd y.bufs.i (trip y.bufs (y.entry W) n c)) (rd y.bufs.s (trip y.bufs (y.entry W) n c))) ⟨n, by omega⟩ t m j
      rw [← e3'] at hp
      refine hp.trans ?_
      by_cases htn : t = ⟨n, by omega⟩
      · rw [if_pos htn, new m j, htn]
      · rw [if_neg htn]
        refine hy t m j ?_
        have : t.val ≠ n := fun e => htn (Fin.ext e)
        omega

/-- The states a layer leaves. -/
theorem leaves_s (m : Fin 256) (j : Fin y.h) : rd y.bufs.s (y.exit W c) (ix2 m j) = y.sts W c m 512 j := by
  unfold exit
  rw [test_keeps y.distinct (mem_refs y.bufs).2.2.2.2.1]
  exact (y.at_trip W c 512 (Nat.le_refl _)).1 m j

/-- The outputs a layer leaves. -/
theorem leaves_ys (t : Fin 512) (m : Fin 256) (j : Fin y.h) : rd y.bufs.ys (y.exit W c) (ix3 t m j) = y.sts W c m (t.val + 1) j := by
  unfold exit
  rw [test_keeps y.distinct (mem_refs y.bufs).2.2.2.2.2]
  exact (y.at_trip W c 512 (Nat.le_refl _)).2 t m j t.isLt

/-- A batch member's outputs over time. -/
theorem feed_ys (m : Fin 256) (t : ℕ) (ht : t < 512) : feed (rd y.bufs.ys (y.exit W c)) m t = y.sts W c m (t + 1) := by
  funext j
  unfold feed
  rw [dif_pos ht]
  exact y.leaves_ys W c ⟨t, ht⟩ m j

end Layer

end Cert.ReferenceIdeal.Scan

end
-- ==== Proof.RefStack.lean ====
/- The reference's result: the stack's result on the arguments. -/
module

public import proofs.«01_k».proof.Proof.RefStates

@[expose] public section

set_option maxRecDepth 16384

noncomputable section

namespace Cert.ReferenceIdeal.Scan

open Idealize.ShloMosaic hiding ix1 ix2 ix3
open Idealize.ShloMosaic.ValueIdx Idealize.ShloMosaic.Pipeline
open Idealize.ShloMosaic.TcCoe
open Idealize.ShloMosaic.StableHlo (TRef)
open Cert.Gru

variable (a : (ℓ : Loc nD τ sig) → Buf (Elt Ideal) ℓ) (c : Dev nD)

/-- The stack of layers the arguments give a batch member. -/
def stack (m : Fin 256) : Gru.Stack where
  l1 := layerOf (k := 300) (g := 48) 16 (a ((c.tc : Thread nD τ).loc main_arg1)) (a ((c.tc : Thread nD τ).loc main_arg2)) (a ((c.tc : Thread nD τ).loc main_arg3)) (a ((c.tc : Thread nD τ).loc main_arg4))
  l2 := layerOf (k := 16) (g := 48) 16 (a ((c.tc : Thread nD τ).loc main_arg5)) (a ((c.tc : Thread nD τ).loc main_arg6)) (a ((c.tc : Thread nD τ).loc main_arg7)) (a ((c.tc : Thread nD τ).loc main_arg8))
  l3 := layerOf (k := 16) (g := 48) 16 (a ((c.tc : Thread nD τ).loc main_arg9)) (a ((c.tc : Thread nD τ).loc main_arg10)) (a ((c.tc : Thread nD τ).loc main_arg11)) (a ((c.tc : Thread nD τ).loc main_arg12))
  l4 := layerOf (k := 16) (g := 48) 16 (a ((c.tc : Thread nD τ).loc main_arg13)) (a ((c.tc : Thread nD τ).loc main_arg14)) (a ((c.tc : Thread nD τ).loc main_arg15)) (a ((c.tc : Thread nD τ).loc main_arg16))
  l5 := layerOf (k := 16) (g := 192) 64 (a ((c.tc : Thread nD τ).loc main_arg17)) (a ((c.tc : Thread nD τ).loc main_arg18)) (a ((c.tc : Thread nD τ).loc main_arg19)) (a ((c.tc : Thread nD τ).loc main_arg20))
  l6 := layerOf (k := 64) (g := 192) 64 (a ((c.tc : Thread nD τ).loc main_arg21)) (a ((c.tc : Thread nD τ).loc main_arg22)) (a ((c.tc : Thread nD τ).loc main_arg23)) (a ((c.tc : Thread nD τ).loc main_arg24))
  l7 := layerOf (k := 64) (g := 192) 64 (a ((c.tc : Thread nD τ).loc main_arg25)) (a ((c.tc : Thread nD τ).loc main_arg26)) (a ((c.tc : Thread nD τ).loc main_arg27)) (a ((c.tc : Thread nD τ).loc main_arg28))
  x := feed (k := 300) (a ((c.tc : Thread nD τ).loc main_arg0)) m

/-- The buffers where a layer begins. -/
def w0 : Dev nD → Valuation τ sig (Elt Ideal) := start a
def w1 : Dev nD → Valuation τ sig (Elt Ideal) := layer0.exit (w0 a)
def w2 : Dev nD → Valuation τ sig (Elt Ideal) := layer1.exit (w1 a)
def w3 : Dev nD → Valuation τ sig (Elt Ideal) := layer2.exit (w2 a)
def w4 : Dev nD → Valuation τ sig (Elt Ideal) := layer3.exit (w3 a)
def w5 : Dev nD → Valuation τ sig (Elt Ideal) := layer4.exit (w4 a)
def w6 : Dev nD → Valuation τ sig (Elt Ideal) := layer5.exit (w5 a)
def w7 : Dev nD → Valuation τ sig (Elt Ideal) := layer6.exit (w6 a)

theorem finish_eq : finish a c = StableHlo.after joinOps (w7 a c) := rfl

/-- Where a layer begins, the arguments are as at the start. -/
theorem arg0 {r : Ref sig .tc} (hr : r ∈ args) : w0 a c (Proc.devRef .tc r) = a ((c.tc : Thread nD τ).loc r) := start_arg a hr c
theorem arg1 {r : Ref sig .tc} (hr : r ∈ args) : w1 a c (Proc.devRef .tc r) = a ((c.tc : Thread nD τ).loc r) :=
  (layer0.keeps (args_apart r hr).1 (w0 a) c).trans (arg0 a c hr)
theorem arg2 {r : Ref sig .tc} (hr : r ∈ args) : w2 a c (Proc.devRef .tc r) = a ((c.tc : Thread nD τ).loc r) :=
  (layer1.keeps (args_apart r hr).2.1 (w1 a) c).trans (arg1 a c hr)
theorem arg3 {r : Ref sig .tc} (hr : r ∈ args) : w3 a c (Proc.devRef .tc r) = a ((c.tc : Thread nD τ).loc r) :=
  (layer2.keeps (args_apart r hr).2.2.1 (w2 a) c).trans (arg2 a c hr)
theorem arg4 {r : Ref sig .tc} (hr : r ∈ args) : w4 a c (Proc.devRef .tc r) = a ((c.tc : Thread nD τ).loc r) :=
  (layer3.keeps (args_apart r hr).2.2.2.1 (w3 a) c).trans (arg3 a c hr)
theorem arg5 {r : Ref sig .tc} (hr : r ∈ args) : w5 a c (Proc.devRef .tc r) = a ((c.tc : Thread nD τ).loc r) :=
  (layer4.keeps (args_apart r hr).2.2.2.2.1 (w4 a) c).trans (arg4 a c hr)
theorem arg6 {r : Ref sig .tc} (hr : r ∈ args) : w6 a c (Proc.devRef .tc r) = a ((c.tc : Thread nD τ).loc r) :=
  (layer5.keeps (args_apart r hr).2.2.2.2.2.1 (w5 a) c).trans (arg5 a c hr)
theorem arg7 {r : Ref sig .tc} (hr : r ∈ args) : w7 a c (Proc.devRef .tc r) = a ((c.tc : Thread nD τ).loc r) :=
  (layer6.keeps (args_apart r hr).2.2.2.2.2.2.1 (w6 a) c).trans (arg6 a c hr)

/-- The zero states at the start. -/
theorem zero16 (m : Fin 256) (e : Fin 16) : (rd (TRef.of main_v0) (w0 a c) : FVec Ideal S256x16 .f32) (ix2 m e) = (0 : EReal) := by
  have h : (w0 a c (Proc.devRef .tc main_v0) : FVec Ideal S256x16 .f32) = (broadcastInDim S256x16 ![] Facts₀.bcast_S_S256x16 (constant S_ .f32 0x00000000#32) : FVec Ideal S256x16 .f32) := by
    show StableHlo.after zeroOps _ _ = _
    unfold zeroOps
    after_results
  refine (congrFun h (ix2 m e)).trans ?_
  exact (broadcastInDim_scalar_apply Facts₀.bcast_S_S256x16 _ _).trans Ideal.ofBits_zero_f32

/-- The zero states at the start. -/
theorem zero64 (m : Fin 256) (e : Fin 64) : (rd (TRef.of main_v1) (w0 a c) : FVec Ideal S256x64 .f32) (ix2 m e) = (0 : EReal) := by
  have h : (w0 a c (Proc.devRef .tc main_v1) : FVec Ideal S256x64 .f32) = (broadcastInDim S256x64 ![] Facts₀.bcast_S_S256x64 (constant S_ .f32 0x00000000#32) : FVec Ideal S256x64 .f32) := by
    show StableHlo.after zeroOps _ _ = _
    unfold zeroOps
    after_results
  refine (congrFun h (ix2 m e)).trans ?_
  exact (broadcastInDim_scalar_apply Facts₀.bcast_S_S256x64 _ _).trans Ideal.ofBits_zero_f32

/-- Layers over equal arrays. -/
theorem layerOf_congr {k h g : ℕ} [Fits h g] {w w' : Arr (Sh2 g k)} {u u' : Arr (Sh2 g h)} {p p' q q' : Arr (Sh1 g)} (hw : w = w') (hu : u = u') (hp : p = p')
    (hq : q = q') : layerOf h w u p q = layerOf h w' u' p' q' := by rw [hw, hu, hp, hq]

/-- The layers over what they find in buffers that hold the arguments. -/
theorem read0 (W : Dev nD → Valuation τ sig (Elt Ideal)) (f : ∀ r ∈ args, W c (Proc.devRef .tc r) = a ((c.tc : Thread nD τ).loc r)) (m : Fin 256) :
    layer0.spec W c = (stack a c m).l1 :=
  layerOf_congr (h := 16) (g := 48) (f main_arg1 (by decide)) (f main_arg2 (by decide)) (f main_arg3 (by decide)) (f main_arg4 (by decide))
theorem read1 (W : Dev nD → Valuation τ sig (Elt Ideal)) (f : ∀ r ∈ args, W c (Proc.devRef .tc r) = a ((c.tc : Thread nD τ).loc r)) (m : Fin 256) :
    layer1.spec W c = (stack a c m).l2 :=
  layerOf_congr (h := 16) (g := 48) (f main_arg5 (by decide)) (f main_arg6 (by decide)) (f main_arg7 (by decide)) (f main_arg8 (by decide))
theorem read2 (W : Dev nD → Valuation τ sig (Elt Ideal)) (f : ∀ r ∈ args, W c (Proc.devRef .tc r) = a ((c.tc : Thread nD τ).loc r)) (m : Fin 256) :
    layer2.spec W c = (stack a c m).l3 :=
  layerOf_congr (h := 16) (g := 48) (f main_arg9 (by decide)) (f main_arg10 (by decide)) (f main_arg11 (by decide)) (f main_arg12 (by decide))
theorem read3 (W : Dev nD → Valuation τ sig (Elt Ideal)) (f : ∀ r ∈ args, W c (Proc.devRef .tc r) = a ((c.tc : Thread nD τ).loc r)) (m : Fin 256) :
    layer3.spec W c = (stack a c m).l4 :=
  layerOf_congr (h := 16) (g := 48) (f main_arg13 (by decide)) (f main_arg14 (by decide)) (f main_arg15 (by decide)) (f main_arg16 (by decide))
theorem read4 (W : Dev nD → Valuation τ sig (Elt Ideal)) (f : ∀ r ∈ args, W c (Proc.devRef .tc r) = a ((c.tc : Thread nD τ).loc r)) (m : Fin 256) :
    layer4.spec W c = (stack a c m).l5 :=
  layerOf_congr (h := 64) (g := 192) (f main_arg17 (by decide)) (f main_arg18 (by decide)) (f main_arg19 (by decide)) (f main_arg20 (by decide))
theorem read5 (W : Dev nD → Valuation τ sig (Elt Ideal)) (f : ∀ r ∈ args, W c (Proc.devRef .tc r) = a ((c.tc : Thread nD τ).loc r)) (m : Fin 256) :
    layer5.spec W c = (stack a c m).l6 :=
  layerOf_congr (h := 64) (g := 192) (f main_arg21 (by decide)) (f main_arg22 (by decide)) (f main_arg23 (by decide)) (f main_arg24 (by decide))
theorem read6 (W : Dev nD → Valuation τ sig (Elt Ideal)) (f : ∀ r ∈ args, W c (Proc.devRef .tc r) = a ((c.tc : Thread nD τ).loc r)) (m : Fin 256) :
    layer6.spec W c = (stack a c m).l7 :=
  layerOf_congr (h := 64) (g := 192) (f main_arg25 (by decide)) (f main_arg26 (by decide)) (f main_arg27 (by decide)) (f main_arg28 (by decide))

/-- A layer over the arrays it finds is the stack's. -/
theorem spec0 (m : Fin 256) : layer0.spec (w0 a) c = (stack a c m).l1 := read0 a c (w0 a) (fun _ hr => arg0 a c hr) m
theorem spec1 (m : Fin 256) : layer1.spec (w1 a) c = (stack a c m).l2 := read1 a c (w1 a) (fun _ hr => arg1 a c hr) m
theorem spec2 (m : Fin 256) : layer2.spec (w2 a) c = (stack a c m).l3 := read2 a c (w2 a) (fun _ hr => arg2 a c hr) m
theorem spec3 (m : Fin 256) : layer3.spec (w3 a) c = (stack a c m).l4 := read3 a c (w3 a) (fun _ hr => arg3 a c hr) m
theorem spec4 (m : Fin 256) : layer4.spec (w4 a) c = (stack a c m).l5 := read4 a c (w4 a) (fun _ hr => arg4 a c hr) m
theorem spec5 (m : Fin 256) : layer5.spec (w5 a) c = (stack a c m).l6 := read5 a c (w5 a) (fun _ hr => arg5 a c hr) m
theorem spec6 (m : Fin 256) : layer6.spec (w6 a) c = (stack a c m).l7 := read6 a c (w6 a) (fun _ hr => arg6 a c hr) m

/-- States kept by the layers between. -/
theorem keep_main_v0_1 : w1 a c (Proc.devRef .tc main_v0) = w0 a c (Proc.devRef .tc main_v0) :=
  (layer0.keeps (show main_v0 ∉ layerWrites heads0 bufs0 by decide +kernel) (w0 a) c)
theorem keep_main_v7_4_2 : w2 a c (Proc.devRef .tc main_v7_4) = w1 a c (Proc.devRef .tc main_v7_4) :=
  (layer1.keeps (show main_v7_4 ∉ layerWrites heads1 bufs1 by decide +kernel) (w1 a) c)
theorem keep_main_v13_4_3 : w3 a c (Proc.devRef .tc main_v13_4) = w2 a c (Proc.devRef .tc main_v13_4) :=
  (layer2.keeps (show main_v13_4 ∉ layerWrites heads2 bufs2 by decide +kernel) (w2 a) c)
theorem keep_main_v1_4 : w4 a c (Proc.devRef .tc main_v1) = w0 a c (Proc.devRef .tc main_v1) :=
  ((layer3.keeps (show main_v1 ∉ layerWrites heads3 bufs3 by decide +kernel) (w3 a) c).trans
    ((layer2.keeps (show main_v1 ∉ layerWrites heads2 bufs2 by decide +kernel) (w2 a) c).trans
    ((layer1.keeps (show main_v1 ∉ layerWrites heads1 bufs1 by decide +kernel) (w1 a) c).trans
    (layer0.keeps (show main_v1 ∉ layerWrites heads0 bufs0 by decide +kernel) (w0 a) c))))
theorem keep_main_v1_5 : w5 a c (Proc.devRef .tc main_v1) = w0 a c (Proc.devRef .tc main_v1) :=
  ((layer4.keeps (show main_v1 ∉ layerWrites heads4 bufs4 by decide +kernel) (w4 a) c).trans
    ((layer3.keeps (show main_v1 ∉ layerWrites heads3 bufs3 by decide +kernel) (w3 a) c).trans
    ((layer2.keeps (show main_v1 ∉ layerWrites heads2 bufs2 by decide +kernel) (w2 a) c).trans
    ((layer1.keeps (show main_v1 ∉ layerWrites heads1 bufs1 by decide +kernel) (w1 a) c).trans
    (layer0.keeps (show main_v1 ∉ layerWrites heads0 bufs0 by decide +kernel) (w0 a) c)))))
theorem keep_main_v1_6 : w6 a c (Proc.devRef .tc main_v1) = w0 a c (Proc.devRef .tc main_v1) :=
  ((layer5.keeps (show main_v1 ∉ layerWrites heads5 bufs5 by decide +kernel) (w5 a) c).trans
    ((layer4.keeps (show main_v1 ∉ layerWrites heads4 bufs4 by decide +kernel) (w4 a) c).trans
    ((layer3.keeps (show main_v1 ∉ layerWrites heads3 bufs3 by decide +kernel) (w3 a) c).trans
    ((layer2.keeps (show main_v1 ∉ layerWrites heads2 bufs2 by decide +kernel) (w2 a) c).trans
    ((layer1.keeps (show main_v1 ∉ layerWrites heads1 bufs1 by decide +kernel) (w1 a) c).trans
    (layer0.keeps (show main_v1 ∉ layerWrites heads0 bufs0 by decide +kernel) (w0 a) c))))))
theorem keep_main_v37_4_7 : w7 a c (Proc.devRef .tc main_v37_4) = w6 a c (Proc.devRef .tc main_v37_4) :=
  (layer6.keeps (show main_v37_4 ∉ layerWrites heads6 bufs6 by decide +kernel) (w6 a) c)

end Cert.ReferenceIdeal.Scan

end
-- ==== Proof.RefValue.lean ====
/- The reference's result: the stack's result on the arguments. -/
module

public import proofs.«01_k».proof.Proof.RefStack

@[expose] public section

set_option maxRecDepth 16384

noncomputable section

namespace Cert.ReferenceIdeal.Scan

open Idealize.ShloMosaic hiding ix1 ix2 ix3
open Idealize.ShloMosaic.ValueIdx Idealize.ShloMosaic.Pipeline
open Idealize.ShloMosaic.TcCoe
open Idealize.ShloMosaic.StableHlo (TRef)
open Cert.Gru

variable (a : (ℓ : Loc nD τ sig) → Buf (Elt Ideal) ℓ) (c : Dev nD)

/-- A layer's states, from what it finds. -/
theorem sts_of (y : Layer Ideal) (W : Dev nD → Valuation τ sig (Elt Ideal)) (m : Fin 256) {L : Gru.Layer y.k y.h} (hL : y.spec W c = L)
    {s : Fin y.h → EReal} (hs : (fun e => rd y.heads.s0 (W c) (ix2 m e)) = s) {x : ℕ → Fin y.k → EReal} (n : ℕ)
    (hx : ∀ t, t < n → feed (rd y.heads.src (W c)) m t = x t) : y.sts W c m n = L.states x s n := by
  unfold Layer.sts
  rw [hL]
  exact Gru.Layer.states_congr L hs n hx

/-- A layer leaves its outputs to the next. -/
theorem feed_next (y : Layer Ideal) {W W' : Dev nD → Valuation τ sig (Elt Ideal)} (h : W' = y.exit W) (m : Fin 256) (t : ℕ) (ht : t < 512) :
    feed (rd y.bufs.ys (W' c)) m t = y.sts W c m (t + 1) := by subst h; exact y.feed_ys W c m t ht

/-- A layer leaves its last state. -/
theorem last_next (y : Layer Ideal) {W W' : Dev nD → Valuation τ sig (Elt Ideal)} (h : W' = y.exit W) (m : Fin 256) (j : Fin y.h) :
    rd y.bufs.s (W' c) (ix2 m j) = y.sts W c m 512 j := by subst h; exact y.leaves_s W c m j

/-- Each layer takes over what the one before leaves. -/
theorem w1_eq : w1 a = layer0.exit (w0 a) := rfl
theorem w2_eq : w2 a = layer1.exit (w1 a) := rfl
theorem w3_eq : w3 a = layer2.exit (w2 a) := rfl
theorem w4_eq : w4 a = layer3.exit (w3 a) := rfl
theorem w5_eq : w5 a = layer4.exit (w4 a) := rfl
theorem w6_eq : w6 a = layer5.exit (w5 a) := rfl
theorem w7_eq : w7 a = layer6.exit (w6 a) := rfl

section Any
variable (W W' : Dev nD → Valuation τ sig (Elt Ideal))

/-- A layer's states, with the buffers it reads named. -/
theorem runs0 (m : Fin 256) {L : Gru.Layer 300 16} (hL : layer0.spec W c = L) {s : Fin 16 → EReal}
    (hs : ∀ e, (W c (Proc.devRef .tc main_v0) : FVec Ideal S256x16 .f32) (ix2 m e) = s e) {x : ℕ → Fin 300 → EReal} (n : ℕ)
    (hx : ∀ t, t < n → feed (k := 300) (W c (Proc.devRef .tc main_arg0)) m t = x t) : layer0.sts W c m n = L.states x s n :=
  sts_of c layer0 W m hL (funext hs) n hx
theorem runs1 (m : Fin 256) {L : Gru.Layer 16 16} (hL : layer1.spec W c = L) {s : Fin 16 → EReal}
    (hs : ∀ e, (W c (Proc.devRef .tc main_v0) : FVec Ideal S256x16 .f32) (ix2 m e) = s e) {x : ℕ → Fin 16 → EReal} (n : ℕ)
    (hx : ∀ t, t < n → feed (k := 16) (W c (Proc.devRef .tc main_v7_5)) m t = x t) : layer1.sts W c m n = L.states x s n :=
  sts_of c layer1 W m hL (funext hs) n hx
theorem runs2 (m : Fin 256) {L : Gru.Layer 16 16} (hL : layer2.spec W c = L) {s : Fin 16 → EReal}
    (hs : ∀ e, (W c (Proc.devRef .tc main_v7_4) : FVec Ideal S256x16 .f32) (ix2 m e) = s e) {x : ℕ → Fin 16 → EReal} (n : ℕ)
    (hx : ∀ t, t < n → feed (k := 16) (W c (Proc.devRef .tc main_v13_5)) m t = x t) : layer2.sts W c m n = L.states x s n :=
  sts_of c layer2 W m hL (funext hs) n hx
theorem runs3 (m : Fin 256) {L : Gru.Layer 16 16} (hL : layer3.spec W c = L) {s : Fin 16 → EReal}
    (hs : ∀ e, (W c (Proc.devRef .tc main_v13_4) : FVec Ideal S256x16 .f32) (ix2 m e) = s e) {x : ℕ → Fin 16 → EReal} (n : ℕ)
    (hx : ∀ t, t < n → feed (k := 16) (W c (Proc.devRef .tc main_v19_5)) m t = x t) : layer3.sts W c m n = L.states x s n :=
  sts_of c layer3 W m hL (funext hs) n hx
theorem runs4 (m : Fin 256) {L : Gru.Layer 16 64} (hL : layer4.spec W c = L) {s : Fin 64 → EReal}
    (hs : ∀ e, (W c (Proc.devRef .tc main_v1) : FVec Ideal S256x64 .f32) (ix2 m e) = s e) {x : ℕ → Fin 16 → EReal} (n : ℕ)
    (hx : ∀ t, t < n → feed (k := 16) (W c (Proc.devRef .tc main_v25_5)) m t = x t) : layer4.sts W c m n = L.states x s n :=
  sts_of c layer4 W m hL (funext hs) n hx
theorem runs5 (m : Fin 256) {L : Gru.Layer 64 64} (hL : layer5.spec W c = L) {s : Fin 64 → EReal}
    (hs : ∀ e, (W c (Proc.devRef .tc main_v1) : FVec Ideal S256x64 .f32) (ix2 m e) = s e) {x : ℕ → Fin 64 → EReal} (n : ℕ)
    (hx : ∀ t, t < n → feed (k := 64) (W c (Proc.devRef .tc main_v31_5)) m t = x t) : layer5.sts W c m n = L.states x s n :=
  sts_of c layer5 W m hL (funext hs) n hx
theorem runs6 (m : Fin 256) {L : Gru.Layer 64 64} (hL : layer6.spec W c = L) {s : Fin 64 → EReal}
    (hs : ∀ e, (W c (Proc.devRef .tc main_v1) : FVec Ideal S256x64 .f32) (ix2 m e) = s e) {x : ℕ → Fin 64 → EReal} (n : ℕ)
    (hx : ∀ t, t < n → feed (k := 64) (W c (Proc.devRef .tc main_v37_5)) m t = x t) : layer6.sts W c m n = L.states x s n :=
  sts_of c layer6 W m hL (funext hs) n hx

/-- A layer's outputs, with their buffer named. -/
theorem gives0 (h : W' = layer0.exit W) (m : Fin 256) (t : ℕ) (ht : t < 512) :
    feed (k := 16) (W' c (Proc.devRef .tc main_v7_5)) m t = layer0.sts W c m (t + 1) := feed_next c layer0 h m t ht
theorem gives1 (h : W' = layer1.exit W) (m : Fin 256) (t : ℕ) (ht : t < 512) :
    feed (k := 16) (W' c (Proc.devRef .tc main_v13_5)) m t = layer1.sts W c m (t + 1) := feed_next c layer1 h m t ht
theorem gives2 (h : W' = layer2.exit W) (m : Fin 256) (t : ℕ) (ht : t < 512) :
    feed (k := 16) (W' c (Proc.devRef .tc main_v19_5)) m t = layer2.sts W c m (t + 1) := feed_next c layer2 h m t ht
theorem gives3 (h : W' = layer3.exit W) (m : Fin 256) (t : ℕ) (ht : t < 512) :
    feed (k := 16) (W' c (Proc.devRef .tc main_v25_5)) m t = layer3.sts W c m (t + 1) := feed_next c layer3 h m t ht
theorem gives4 (h : W' = layer4.exit W) (m : Fin 256) (t : ℕ) (ht : t < 512) :
    feed (k := 64) (W' c (Proc.devRef .tc main_v31_5)) m t = layer4.sts W c m (t + 1) := feed_next c layer4 h m t ht
theorem gives5 (h : W' = layer5.exit W) (m : Fin 256) (t : ℕ) (ht : t < 512) :
    feed (k := 64) (W' c (Proc.devRef .tc main_v37_5)) m t = layer5.sts W c m (t + 1) := feed_next c layer5 h m t ht

/-- A layer's last state, with its buffer named. -/
theorem last0 (h : W' = layer0.exit W) (m : Fin 256) (j : Fin 16) :
    (W' c (Proc.devRef .tc main_v7_4) : FVec Ideal S256x16 .f32) (ix2 m j) = layer0.sts W c m 512 j := last_next c layer0 h m j
theorem last1 (h : W' = layer1.exit W) (m : Fin 256) (j : Fin 16) :
    (W' c (Proc.devRef .tc main_v13_4) : FVec Ideal S256x16 .f32) (ix2 m j) = layer1.sts W c m 512 j := last_next c layer1 h m j
theorem last5 (h : W' = layer5.exit W) (m : Fin 256) (j : Fin 64) :
    (W' c (Proc.devRef .tc main_v37_4) : FVec Ideal S256x64 .f32) (ix2 m j) = layer5.sts W c m 512 j := last_next c layer5 h m j
theorem last6 (h : W' = layer6.exit W) (m : Fin 256) (j : Fin 64) :
    (W' c (Proc.devRef .tc main_v43_4) : FVec Ideal S256x64 .f32) (ix2 m j) = layer6.sts W c m 512 j := last_next c layer6 h m j

end Any

/-- A layer's states are the stack's. -/
theorem st0 (m : Fin 256) (n : ℕ) (hn : n ≤ 512) : layer0.sts (w0 a) c m n = (stack a c m).s1 n :=
  runs0 c (w0 a) m (spec0 a c m) (zero16 a c m) n
    (fun t _ => congrArg (fun z => feed (k := 300) z m t) (arg0 a c (r := main_arg0) (by decide)))
theorem st1 (m : Fin 256) (n : ℕ) (hn : n ≤ 512) : layer1.sts (w1 a) c m n = (stack a c m).s2 n :=
  runs1 c (w1 a) m (spec1 a c m) (fun e => (congrFun (keep_main_v0_1 a c) _).trans (zero16 a c m e)) n
    (fun t ht => (gives0 c _ _ (w1_eq a) m t (by omega)).trans (st0 a c m (t + 1) (by omega)))
theorem st2 (m : Fin 256) (n : ℕ) (hn : n ≤ 512) : layer2.sts (w2 a) c m n = (stack a c m).s3 n :=
  runs2 c (w2 a) m (spec2 a c m) (fun e => (congrFun (keep_main_v7_4_2 a c) _).trans ((last0 c _ _ (w1_eq a) m e).trans (congrFun (st0 a c m 512 (Nat.le_refl _)) e))) n
    (fun t ht => (gives1 c _ _ (w2_eq a) m t (by omega)).trans (st1 a c m (t + 1) (by omega)))
theorem st3 (m : Fin 256) (n : ℕ) (hn : n ≤ 512) : layer3.sts (w3 a) c m n = (stack a c m).s4 n :=
  runs3 c (w3 a) m (spec3 a c m) (fun e => (congrFun (keep_main_v13_4_3 a c) _).trans ((last1 c _ _ (w2_eq a) m e).trans (congrFun (st1 a c m 512 (Nat.le_refl _)) e))) n
    (fun t ht => (gives2 c _ _ (w3_eq a) m t (by omega)).trans (st2 a c m (t + 1) (by omega)))
theorem st4 (m : Fin 256) (n : ℕ) (hn : n ≤ 512) : layer4.sts (w4 a) c m n = (stack a c m).s5 n :=
  runs4 c (w4 a) m (spec4 a c m) (fun e => (congrFun (keep_main_v1_4 a c) _).trans (zero64 a c m e)) n
    (fun t ht => (gives3 c _ _ (w4_eq a) m t (by omega)).trans (st3 a c m (t + 1) (by omega)))
theorem st5 (m : Fin 256) (n : ℕ) (hn : n ≤ 512) : layer5.sts (w5 a) c m n = (stack a c m).s6 n :=
  runs5 c (w5 a) m (spec5 a c m) (fun e => (congrFun (keep_main_v1_5 a c) _).trans (zero64 a c m e)) n
    (fun t ht => (gives4 c _ _ (w5_eq a) m t (by omega)).trans (st4 a c m (t + 1) (by omega)))
theorem st6 (m : Fin 256) (n : ℕ) (hn : n ≤ 512) : layer6.sts (w6 a) c m n = (stack a c m).s7 n :=
  runs6 c (w6 a) m (spec6 a c m) (fun e => (congrFun (keep_main_v1_6 a c) _).trans (zero64 a c m e)) n
    (fun t ht => (gives5 c _ _ (w6_eq a) m t (by omega)).trans (st5 a c m (t + 1) (by omega)))

/-- The two last layers' last states, side by side. -/
theorem joined (V : Valuation τ sig (Elt Ideal)) : (StableHlo.after joinOps V (Proc.devRef .tc main_v44) : FVec Ideal S256x128 .f32)
    = concatenate S256x128 1 [⟨S256x64, V (Proc.devRef .tc main_v43_4)⟩, ⟨S256x64, V (Proc.devRef .tc main_v37_4)⟩] Facts₀.concatenates_S256x64_S256x64_S256x128_d1 := by
  unfold joinOps
  after_results

/-- Two arrays side by side, at an entry. -/
theorem beside (x y : FVec Ideal S256x64 .f32) (m : Fin 256) (r : Fin 128) :
    concatenate S256x128 1 [⟨S256x64, x⟩, ⟨S256x64, y⟩] Facts₀.concatenates_S256x64_S256x64_S256x128_d1 (ix2 m r)
      = if h : r.val < 64 then x (ix2 m (⟨r.val, h⟩ : Fin 64)) else y (ix2 m (⟨r.val - 64, by omega⟩ : Fin 64)) := by
  by_cases hr : r.val < 64
  · rw [dif_pos hr]
    exact concatenate_pair_apply_left (s₁ := S256x64) (s₂ := S256x64) 1 _ _ _ (ix2 m r) rfl (ix2 m (⟨r.val, hr⟩ : Fin 64)) (fun b => by fin_cases b <;> rfl)
  · rw [dif_neg hr]
    exact concatenate_pair_apply_right (s₁ := S256x64) (s₂ := S256x64) 1 _ _ _ (ix2 m r) rfl rfl (ix2 m (⟨r.val - 64, by omega⟩ : Fin 64)) (fun b hb => by
      fin_cases b
      · rfl
      · exact absurd rfl hb) (show r.val - 64 + 64 = r.val by omega)

/-- The result at an entry. -/
theorem result (m : Fin 256) (r : Fin 128) : (finish a c (Proc.devRef .tc main_v44) : FVec Ideal S256x128 .f32) (ix2 m r) = (stack a c m).out r := by
  rw [finish_eq, joined (w7 a c), beside]
  unfold Gru.Stack.out
  by_cases hr : r.val < 64
  · rw [dif_pos hr, dif_pos hr]
    exact (last6 c _ _ (w7_eq a) m ⟨r.val, hr⟩).trans (congrFun (st6 a c m 512 (Nat.le_refl _)) _)
  · rw [dif_neg hr, dif_neg hr]
    exact (congrFun (keep_main_v37_4_7 a c) _).trans ((last5 c _ _ (w6_eq a) m ⟨r.val - 64, by omega⟩).trans (congrFun (st5 a c m 512 (Nat.le_refl _)) _))

end Cert.ReferenceIdeal.Scan

end
-- ==== Proof.Algebraic.lean ====
/- The idealized kernel and the reference compute the same array. -/
module

public import proofs.«01_k».proof.Proof.KernValue
public import proofs.«01_k».proof.Proof.Frames
public import proofs.«01_k».proof.Proof.RefValue
public import proofs.«01_k».proof.Proof.RefFrame

@[expose] public section

set_option maxRecDepth 16384

noncomputable section

namespace Cert.Same

open Idealize.ShloMosaic hiding ix1 ix2 ix3
open Idealize.ShloMosaic.ValueIdx
open Idealize.ShloMosaic.TcCoe
open Cert.Gru

/-- Stacks of equal layers and inputs are equal. -/
theorem stack_ext : ∀ {G K : Stack}, G.l1 = K.l1 → G.l2 = K.l2 → G.l3 = K.l3 → G.l4 = K.l4 → G.l5 = K.l5 → G.l6 = K.l6 → G.l7 = K.l7 → G.x = K.x → G = K
  | ⟨_, _, _, _, _, _, _, _⟩, ⟨_, _, _, _, _, _, _, _⟩, rfl, rfl, rfl, rfl, rfl, rfl, rfl, rfl => rfl

/-- Layers over equal arrays are equal. -/
theorem ofRows_congr {I H g : ℕ} (row : Fin 3 → Fin H → Fin g) {w w' : (⟨2, ![g, I]⟩ : Shape).Idx → EReal} {u u' : (⟨2, ![g, H]⟩ : Shape).Idx → EReal}
    {p p' q q' : (⟨1, ![g]⟩ : Shape).Idx → EReal} (hw : w = w') (hu : u = u') (hp : p = p') (hq : q = q') :
    Layer.ofRows row w u p q = Layer.ofRows row w' u' p' q' := by rw [hw, hu, hp, hq]

/-- An array's places in time of a batch member, for equal arrays. -/
theorem feed_congr {x y : FVec Ideal ⟨3, ![512, 256, 300]⟩ .f32} (h : x = y) (b : Fin 256) :
    Cert.ReferenceIdeal.Scan.feed (k := 300) x b = Cert.ReferenceIdeal.Scan.feed (k := 300) y b := by rw [h]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Equal arguments give equal stacks. -/
theorem same_stack (b : Fin 256)
    (H : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) :
    Cert.ReferenceIdeal.Scan.stack m' c b = Cert.KernelIdeal.Gru.kstack m c b := by
  obtain ⟨h0, h1, h2, h3, h4, h5, h6, h7, h8, h9, h10, h11, h12, h13, h14, h15, h16, h17, h18, h19, h20, h21, h22, h23, h24, h25, h26, h27, h28⟩ := H
  exact stack_ext
    (ofRows_congr (I := 300) (g := 48) (rows Cert.KernelIdeal.Gru.fits16) h1 h2 h3 h4)
    (ofRows_congr (I := 16) (g := 48) (rows Cert.KernelIdeal.Gru.fits16) h5 h6 h7 h8)
    (ofRows_congr (I := 16) (g := 48) (rows Cert.KernelIdeal.Gru.fits16) h9 h10 h11 h12)
    (ofRows_congr (I := 16) (g := 48) (rows Cert.KernelIdeal.Gru.fits16) h13 h14 h15 h16)
    (ofRows_congr (I := 16) (g := 192) (rows Cert.KernelIdeal.Gru.fits64) h17 h18 h19 h20)
    (ofRows_congr (I := 64) (g := 192) (rows Cert.KernelIdeal.Gru.fits64) h21 h22 h23 h24)
    (ofRows_congr (I := 64) (g := 192) (rows Cert.KernelIdeal.Gru.fits64) h25 h26 h27 h28)
    (feed_congr h0 b)

/-- Equal arguments give equal results. -/
theorem results (h : ∀ b : Fin 256, Cert.ReferenceIdeal.Scan.stack m' c b = Cert.KernelIdeal.Gru.kstack m c b) :
    (Cert.ReferenceIdeal.Scan.finish m' c (Proc.devRef .tc Cert.ReferenceIdeal.main_v44) : FVec Ideal ⟨2, ![256, 128]⟩ .f32)
      = (Cert.KernelIdeal.Gen.V5 m (Cert.KernelIdeal.Gru.outs m) c (Proc.devRef .tc Cert.KernelIdeal.main_v72) : FVec Ideal ⟨2, ![256, 128]⟩ .f32) := by
  funext i
  have hi : i = ix2 (i 0 : Fin 256) (i 1 : Fin 128) := by
    funext a
    match a with
    | ⟨0, _⟩ => rfl
    | ⟨1, _⟩ => rfl
  rw [hi]
  exact (Cert.ReferenceIdeal.Scan.result m' c (i 0) (i 1)).trans ((congrArg (fun G : Stack => G.out (i 1)) (h (i 0))).trans (Cert.KernelIdeal.Gru.result m c (i 0) (i 1)).symm)

/-- From equal arguments the two programs end with equal results, their arguments unchanged. -/
theorem algebraic : Cert.algebraic_KernelIdeal_ReferenceIdeal (hKernelIdeal := Cert.KernelIdeal.Gen.facts) (hReferenceIdeal := Cert.ReferenceIdeal.Gen.facts) := by
  intro m g m' g' _ H
  refine ⟨fun c => Cert.KernelIdeal.Gen.V5 m (Cert.KernelIdeal.Gru.outs m) c (Proc.devRef .tc Cert.KernelIdeal.main_v72), ?_, ?_⟩
  · exact θ_run_mono (Cert.KernelIdeal.Gru.run m (fun i => Cert.KernelIdeal.Gru.compress_eq i) (fun i => Cert.KernelIdeal.Gru.decode_eq i) g) fun r h c =>
      ⟨h.1 c _ (Cert.KernelIdeal.Gru.uc Cert.KernelIdeal.main_v72 rfl), Cert.KernelIdeal.Gru.kept m h.1 c⟩
  · exact θ_run_mono (Cert.ReferenceIdeal.Scan.run (F := Ideal) m' g') fun r h c =>
      ⟨(h.1 c _ (Cert.ReferenceIdeal.Scan.uc Cert.ReferenceIdeal.main_v44 rfl)).trans (results m m' c fun b => same_stack m m' c b (H c)), Cert.ReferenceIdeal.Scan.kept m' h.1 c⟩

end Cert.Same

end
-- ==== Proof.lean ====
/- The certificate: each program's run ends, with its arguments as they were and its counters at zero, the idealized kernel is the kernel's own text, and the
   idealized kernel and the reference end with equal results. The frames are proved in Proof/FrameBits.lean, Proof/Frames.lean and Proof/RefFrame.lean, the
   equality of the results in Proof/Algebraic.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import Idealize.ShloMosaic.Adequacy
public import proofs.«01_k».proof.Proof.FrameBits
public import proofs.«01_k».proof.Proof.RefFrame
public import proofs.«01_k».proof.Proof.Algebraic
public import Idealize.ShloMosaic.Init

@[expose] public section

noncomputable section

namespace Cert.Proof

open Idealize.ShloMosaic Idealize.SL.Sem Cert.Kernel

/-- Every claim of this certificate. -/
theorem claim : Cert.Claim := ⟨Cert.Kernel.Gen.facts, Cert.KernelIdeal.Gen.facts, Cert.ReferenceIdeal.Gen.facts, by
  exact ⟨Cert.Same.frame_kernel, Cert.KernelIdeal.Gru.frame_ideal, Cert.ReferenceIdeal.Scan.frame_reference, trivial, Cert.Same.algebraic⟩⟩

end Cert.Proof

end
